-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "score_fac" .f32 0x3E0293EE#32 (((Real.sqrt 128)⁻¹ * (Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S12x2048x5120 : Shape := ⟨3, ![12, 2048, 5120]⟩
abbrev S12x2048x1024 : Shape := ⟨3, ![12, 2048, 1024]⟩
abbrev S40 : Shape := ⟨1, ![40]⟩
abbrev S12x2048x8 : Shape := ⟨3, ![12, 2048, 8]⟩
abbrev S12x8x2048 : Shape := ⟨3, ![12, 8, 2048]⟩
abbrev S12x8x1x2048 : Shape := ⟨4, ![12, 8, 1, 2048]⟩
abbrev S1x2048x640 : Shape := ⟨3, ![1, 2048, 640]⟩
abbrev S1x2048x128 : Shape := ⟨3, ![1, 2048, 128]⟩
abbrev S1x1x1x2048 : Shape := ⟨4, ![1, 1, 1, 2048]⟩
abbrev S128x2048 : Shape := ⟨2, ![128, 2048]⟩
abbrev S2048x128 : Shape := ⟨2, ![2048, 128]⟩
abbrev S1x128x128 : Shape := ⟨3, ![1, 128, 128]⟩
abbrev S128x128 : Shape := ⟨2, ![128, 128]⟩
abbrev S1x1x1x128 : Shape := ⟨4, ![1, 1, 1, 128]⟩
abbrev S1x128 : Shape := ⟨2, ![1, 128]⟩
abbrev S1x2048 : Shape := ⟨2, ![1, 2048]⟩
abbrev S1x1x2048 : Shape := ⟨3, ![1, 1, 2048]⟩
abbrev S1 : Shape := ⟨1, ![1]⟩
abbrev S1x1x1 : Shape := ⟨3, ![1, 1, 1]⟩
abbrev S1x256 : Shape := ⟨2, ![1, 256]⟩
abbrev S1x256x128 : Shape := ⟨3, ![1, 256, 128]⟩
abbrev S256x128 : Shape := ⟨2, ![256, 128]⟩
abbrev S8x256 : Shape := ⟨2, ![8, 256]⟩
abbrev S128x256 : Shape := ⟨2, ![128, 256]⟩
abbrev S256x256 : Shape := ⟨2, ![256, 256]⟩
abbrev S256 : Shape := ⟨1, ![256]⟩
abbrev S1x1x256 : Shape := ⟨3, ![1, 1, 256]⟩

abbrev nBuf : Space → Nat
  | .hbm => 11
  | .vmem => 15
  | .smem => 1
  | _ => 0

abbrev bufTy : (tb : Table) → Fin (tcTables nBuf tb) → BufTy
  | .hbm, ⟨0, _⟩ => ⟨S12x2048x5120, .fp8e4m3⟩
  | .hbm, ⟨1, _⟩ => ⟨S12x2048x1024, .fp8e4m3⟩
  | .hbm, ⟨2, _⟩ => ⟨S12x2048x1024, .fp8e4m3⟩
  | .hbm, ⟨3, _⟩ => ⟨S40, .f32⟩
  | .hbm, ⟨4, _⟩ => ⟨S12x2048x8, .f32⟩
  | .hbm, ⟨5, _⟩ => ⟨S12x2048x8, .f32⟩
  | .hbm, ⟨6, _⟩ => ⟨S12x8x2048, .f32⟩
  | .hbm, ⟨7, _⟩ => ⟨S12x8x1x2048, .f32⟩
  | .hbm, ⟨8, _⟩ => ⟨S12x8x2048, .f32⟩
  | .hbm, ⟨9, _⟩ => ⟨S12x8x1x2048, .f32⟩
  | .hbm, ⟨10, _⟩ => ⟨S12x2048x5120, .bf16⟩
  | .local _ .vmem, ⟨0, _⟩ => ⟨S1x2048x640, .fp8e4m3⟩
  | .local _ .vmem, ⟨1, _⟩ => ⟨S1x2048x640, .fp8e4m3⟩
  | .local _ .vmem, ⟨2, _⟩ => ⟨S1x2048x128, .fp8e4m3⟩
  | .local _ .vmem, ⟨3, _⟩ => ⟨S1x2048x128, .fp8e4m3⟩
  | .local _ .vmem, ⟨4, _⟩ => ⟨S1x2048x128, .fp8e4m3⟩
  | .local _ .vmem, ⟨5, _⟩ => ⟨S1x2048x128, .fp8e4m3⟩
  | .local _ .vmem, ⟨6, _⟩ => ⟨S1x1x1x2048, .f32⟩
  | .local _ .vmem, ⟨7, _⟩ => ⟨S1x1x1x2048, .f32⟩
  | .local _ .vmem, ⟨8, _⟩ => ⟨S1x1x1x2048, .f32⟩
  | .local _ .vmem, ⟨9, _⟩ => ⟨S1x1x1x2048, .f32⟩
  | .local _ .vmem, ⟨10, _⟩ => ⟨S1x2048x640, .bf16⟩
  | .local _ .vmem, ⟨11, _⟩ => ⟨S1x2048x640, .bf16⟩
  | .local _ .vmem, ⟨12, _⟩ => ⟨S128x2048, .bf16⟩
  | .local _ .vmem, ⟨13, _⟩ => ⟨S2048x128, .f32⟩
  | .local _ .vmem, ⟨14, _⟩ => ⟨S2048x128, .f32⟩
  | .local _ .smem, ⟨0, _⟩ => ⟨S40, .f32⟩
  | _, _ => ⟨S12x2048x5120, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![12, 8], ![false, false]⟩

@[reducible] def k0_t1_loop : Scf.Loop 32 :=
  let c0_i32 : BitVec 32 := 0#32
  let c5_i32 : BitVec 32 := 5#32
  let v365 : BitVec 32 := Scalar.addi c0_i32 c5_i32
  let c1_i32 : BitVec 32 := 1#32
  ⟨c0_i32, v365, c1_i32⟩
def k0_mult1 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32 : BitVec 32 := 128#32
  let v366 : BitVec 32 := Scalar.muli arg12 c128_i32
  v366
def k0_off1 (i : grid0.Coords) (k0_t1 : Fin k0_t1_loop.trips) : Fin 1 → Nat :=
  let arg1 : BitVec 32 := BitVec.ofNat 32 (i 1).val
  let c5_i32_248 : BitVec 32 := 5#32
  let v368 : BitVec 32 := Scalar.muli arg1 c5_i32_248
  let c0_i32 : BitVec 32 := 0#32
  let c1_i32 : BitVec 32 := 1#32
  let arg12 : BitVec 32 := Scf.iv c0_i32 c1_i32 k0_t1
  let v369 : BitVec 32 := Scalar.addi v368 arg12
  let v370 : Index := Scalar.indexCast v369
  ![v370.toNat]
def k0_off2 (k0_t1 : Fin k0_t1_loop.trips) : Fin 3 → Nat :=
  let c0_255 : Index := 0#32
  let c0_256 : Index := 0#32
  let c0_i32 : BitVec 32 := 0#32
  let c1_i32 : BitVec 32 := 1#32
  let arg12 : BitVec 32 := Scf.iv c0_i32 c1_i32 k0_t1
  let c128_i32 : BitVec 32 := 128#32
  let v366 : BitVec 32 := Scalar.muli arg12 c128_i32
  let v367 : BitVec 32 := v366
  let v380 : Index := Scalar.indexCast v367
  ![0, 0, v380.toNat]
def k0_off3 (k0_t1 : Fin k0_t1_loop.trips) : Fin 3 → Nat :=
  let c0_272 : Index := 0#32
  let c256_273 : Index := 256#32
  let c0_i32 : BitVec 32 := 0#32
  let c1_i32 : BitVec 32 := 1#32
  let arg12 : BitVec 32 := Scf.iv c0_i32 c1_i32 k0_t1
  let c128_i32 : BitVec 32 := 128#32
  let v366 : BitVec 32 := Scalar.muli arg12 c128_i32
  let v367 : BitVec 32 := v366
  let v477 : Index := Scalar.indexCast v367
  ![0, 256, v477.toNat]
def k0_off4 (k0_t1 : Fin k0_t1_loop.trips) : Fin 3 → Nat :=
  let c0_298 : Index := 0#32
  let c512_299 : Index := 512#32
  let c0_i32 : BitVec 32 := 0#32
  let c1_i32 : BitVec 32 := 1#32
  let arg12 : BitVec 32 := Scf.iv c0_i32 c1_i32 k0_t1
  let c128_i32 : BitVec 32 := 128#32
  let v366 : BitVec 32 := Scalar.muli arg12 c128_i32
  let v367 : BitVec 32 := v366
  let v649 : Index := Scalar.indexCast v367
  ![0, 512, v649.toNat]
def k0_off5 (k0_t1 : Fin k0_t1_loop.trips) : Fin 3 → Nat :=
  let c0_333 : Index := 0#32
  let c768_334 : Index := 768#32
  let c0_i32 : BitVec 32 := 0#32
  let c1_i32 : BitVec 32 := 1#32
  let arg12 : BitVec 32 := Scf.iv c0_i32 c1_i32 k0_t1
  let c128_i32 : BitVec 32 := 128#32
  let v366 : BitVec 32 := Scalar.muli arg12 c128_i32
  let v367 : BitVec 32 := v366
  let v896 : Index := Scalar.indexCast v367
  ![0, 768, v896.toNat]
def k0_off6 (k0_t1 : Fin k0_t1_loop.trips) : Fin 3 → Nat :=
  let c0_377 : Index := 0#32
  let c1024_378 : Index := 1024#32
  let c0_i32 : BitVec 32 := 0#32
  let c1_i32 : BitVec 32 := 1#32
  let arg12 : BitVec 32 := Scf.iv c0_i32 c1_i32 k0_t1
  let c128_i32 : BitVec 32 := 128#32
  let v366 : BitVec 32 := Scalar.muli arg12 c128_i32
  let v367 : BitVec 32 := v366
  let v1218 : Index := Scalar.indexCast v367
  ![0, 1024, v1218.toNat]
def k0_off7 (k0_t1 : Fin k0_t1_loop.trips) : Fin 3 → Nat :=
  let c0_430 : Index := 0#32
  let c1280_431 : Index := 1280#32
  let c0_i32 : BitVec 32 := 0#32
  let c1_i32 : BitVec 32 := 1#32
  let arg12 : BitVec 32 := Scf.iv c0_i32 c1_i32 k0_t1
  let c128_i32 : BitVec 32 := 128#32
  let v366 : BitVec 32 := Scalar.muli arg12 c128_i32
  let v367 : BitVec 32 := v366
  let v1615 : Index := Scalar.indexCast v367
  ![0, 1280, v1615.toNat]
def k0_off8 (k0_t1 : Fin k0_t1_loop.trips) : Fin 3 → Nat :=
  let c0_492 : Index := 0#32
  let c1536_493 : Index := 1536#32
  let c0_i32 : BitVec 32 := 0#32
  let c1_i32 : BitVec 32 := 1#32
  let arg12 : BitVec 32 := Scf.iv c0_i32 c1_i32 k0_t1
  let c128_i32 : BitVec 32 := 128#32
  let v366 : BitVec 32 := Scalar.muli arg12 c128_i32
  let v367 : BitVec 32 := v366
  let v2087 : Index := Scalar.indexCast v367
  ![0, 1536, v2087.toNat]
def k0_off9 (k0_t1 : Fin k0_t1_loop.trips) : Fin 3 → Nat :=
  let c0_563 : Index := 0#32
  let c1792_564 : Index := 1792#32
  let c0_i32 : BitVec 32 := 0#32
  let c1_i32 : BitVec 32 := 1#32
  let arg12 : BitVec 32 := Scf.iv c0_i32 c1_i32 k0_t1
  let c128_i32 : BitVec 32 := 128#32
  let v366 : BitVec 32 := Scalar.muli arg12 c128_i32
  let v367 : BitVec 32 := v366
  let v2634 : Index := Scalar.indexCast v367
  ![0, 1792, v2634.toNat]
@[reducible] def k0_t2_loop : Scf.Loop 32 :=
  let c0_i32_648 : BitVec 32 := 0#32
  let c8_i32 : BitVec 32 := 8#32
  let v3271 : BitVec 32 := Scalar.addi c0_i32_648 c8_i32
  let c1_i32_649 : BitVec 32 := 1#32
  ⟨c0_i32_648, v3271, c1_i32_649⟩
def k0_mult2 (k0_t2 : Fin k0_t2_loop.trips) : BitVec 32 :=
  let c0_i32_648 : BitVec 32 := 0#32
  let c1_i32_649 : BitVec 32 := 1#32
  let arg13 : BitVec 32 := Scf.iv c0_i32_648 c1_i32_649 k0_t2
  let c256_i32 : BitVec 32 := 256#32
  let v3272 : BitVec 32 := Scalar.muli arg13 c256_i32
  v3272
def k0_off10 (k0_t1 : Fin k0_t1_loop.trips) (k0_t2 : Fin k0_t2_loop.trips) : Fin 3 → Nat :=
  let c0_651 : Index := 0#32
  let c0_i32_648 : BitVec 32 := 0#32
  let c1_i32_649 : BitVec 32 := 1#32
  let arg13 : BitVec 32 := Scf.iv c0_i32_648 c1_i32_649 k0_t2
  let c256_i32 : BitVec 32 := 256#32
  let v3272 : BitVec 32 := Scalar.muli arg13 c256_i32
  let v3273 : BitVec 32 := v3272
  let v3274 : Index := Scalar.indexCast v3273
  let c0_i32 : BitVec 32 := 0#32
  let c1_i32 : BitVec 32 := 1#32
  let arg12 : BitVec 32 := Scf.iv c0_i32 c1_i32 k0_t1
  let c128_i32 : BitVec 32 := 128#32
  let v366 : BitVec 32 := Scalar.muli arg12 c128_i32
  let v367 : BitVec 32 := v366
  let v3275 : Index := Scalar.indexCast v367
  ![0, v3274.toNat, v3275.toNat]
@[reducible] def k0_t3_loop (k0_t2 : Fin k0_t2_loop.trips) : Scf.Loop 32 :=
  let c0_i32_656 : BitVec 32 := 0#32
  let c0_i32_648 : BitVec 32 := 0#32
  let c1_i32_649 : BitVec 32 := 1#32
  let arg13 : BitVec 32 := Scf.iv c0_i32_648 c1_i32_649 k0_t2
  let c1_i32_655 : BitVec 32 := 1#32
  let v3281 : BitVec 32 := Scalar.addi arg13 c1_i32_655
  let v3282 : BitVec 32 := Scalar.subi v3281 c0_i32_656
  let c1_i32_657 : BitVec 32 := 1#32
  let v3284 : BitVec 32 := Scalar.divsi v3282 c1_i32_657
  let v3285 : BitVec 32 := Scalar.muli v3284 c1_i32_657
  let v3286 : BitVec 32 := Scalar.addi c0_i32_656 v3285
  let c1_i32_658 : BitVec 32 := 1#32
  ⟨c0_i32_656, v3286, c1_i32_658⟩
def k0_mult3 (k0_t2 : Fin k0_t2_loop.trips) (k0_t3 : Fin (k0_t3_loop k0_t2).trips) : BitVec 32 :=
  let c0_i32_656 : BitVec 32 := 0#32
  let c1_i32_658 : BitVec 32 := 1#32
  let arg14 : BitVec 32 := Scf.iv c0_i32_656 c1_i32_658 k0_t3
  let c256_i32_661 : BitVec 32 := 256#32
  let v3298 : BitVec 32 := Scalar.muli arg14 c256_i32_661
  v3298
def k0_off11 (k0_t2 : Fin k0_t2_loop.trips) (k0_t3 : Fin (k0_t3_loop k0_t2).trips) : Fin 3 → Nat :=
  let c0_662 : Index := 0#32
  let c0_i32_656 : BitVec 32 := 0#32
  let c1_i32_658 : BitVec 32 := 1#32
  let arg14 : BitVec 32 := Scf.iv c0_i32_656 c1_i32_658 k0_t3
  let c256_i32_661 : BitVec 32 := 256#32
  let v3298 : BitVec 32 := Scalar.muli arg14 c256_i32_661
  let v3299 : BitVec 32 := v3298
  let v3300 : Index := Scalar.indexCast v3299
  let c0_663 : Index := 0#32
  ![0, v3300.toNat, 0]
def k0_off12 (k0_t2 : Fin k0_t2_loop.trips) (k0_t3 : Fin (k0_t3_loop k0_t2).trips) : Fin 2 → Nat :=
  let c0_i32_656 : BitVec 32 := 0#32
  let c1_i32_658 : BitVec 32 := 1#32
  let arg14 : BitVec 32 := Scf.iv c0_i32_656 c1_i32_658 k0_t3
  let c256_i32_661 : BitVec 32 := 256#32
  let v3298 : BitVec 32 := Scalar.muli arg14 c256_i32_661
  let v3299 : BitVec 32 := v3298
  let v3304 : Index := Scalar.indexCast v3299
  let c0_665 : Index := 0#32
  ![v3304.toNat, 0]
def k0_off13 (k0_t2 : Fin k0_t2_loop.trips) (k0_t3 : Fin (k0_t3_loop k0_t2).trips) : Fin 2 → Nat :=
  let c0_669 : Index := 0#32
  let c0_i32_656 : BitVec 32 := 0#32
  let c1_i32_658 : BitVec 32 := 1#32
  let arg14 : BitVec 32 := Scf.iv c0_i32_656 c1_i32_658 k0_t3
  let c256_i32_661 : BitVec 32 := 256#32
  let v3298 : BitVec 32 := Scalar.muli arg14 c256_i32_661
  let v3299 : BitVec 32 := v3298
  let v3331 : Index := Scalar.indexCast v3299
  ![0, v3331.toNat]
@[reducible] def k0_t4_loop (k0_t2 : Fin k0_t2_loop.trips) : Scf.Loop 32 :=
  let c0_i32_656 : BitVec 32 := 0#32
  let c0_i32_648 : BitVec 32 := 0#32
  let c1_i32_649 : BitVec 32 := 1#32
  let arg13 : BitVec 32 := Scf.iv c0_i32_648 c1_i32_649 k0_t2
  let c1_i32_655 : BitVec 32 := 1#32
  let v3281 : BitVec 32 := Scalar.addi arg13 c1_i32_655
  let v3282 : BitVec 32 := Scalar.subi v3281 c0_i32_656
  let c1_i32_657 : BitVec 32 := 1#32
  let v3284 : BitVec 32 := Scalar.divsi v3282 c1_i32_657
  let v3285 : BitVec 32 := Scalar.muli v3284 c1_i32_657
  let v3286 : BitVec 32 := Scalar.addi c0_i32_656 v3285
  let v3283 : BitVec 32 := Scalar.addi c0_i32_656 v3282
  let c1_i32_659 : BitVec 32 := 1#32
  ⟨v3286, v3283, c1_i32_659⟩
def k0_mult4 (k0_t2 : Fin k0_t2_loop.trips) (k0_t4 : Fin (k0_t4_loop k0_t2).trips) : BitVec 32 :=
  let c0_i32_656 : BitVec 32 := 0#32
  let c0_i32_648 : BitVec 32 := 0#32
  let c1_i32_649 : BitVec 32 := 1#32
  let arg13 : BitVec 32 := Scf.iv c0_i32_648 c1_i32_649 k0_t2
  let c1_i32_655 : BitVec 32 := 1#32
  let v3281 : BitVec 32 := Scalar.addi arg13 c1_i32_655
  let v3282 : BitVec 32 := Scalar.subi v3281 c0_i32_656
  let c1_i32_657 : BitVec 32 := 1#32
  let v3284 : BitVec 32 := Scalar.divsi v3282 c1_i32_657
  let v3285 : BitVec 32 := Scalar.muli v3284 c1_i32_657
  let v3286 : BitVec 32 := Scalar.addi c0_i32_656 v3285
  let c1_i32_659 : BitVec 32 := 1#32
  let arg14 : BitVec 32 := Scf.iv v3286 c1_i32_659 k0_t4
  let c256_i32_661 : BitVec 32 := 256#32
  let v3298 : BitVec 32 := Scalar.muli arg14 c256_i32_661
  v3298
def k0_off14 (k0_t2 : Fin k0_t2_loop.trips) (k0_t4 : Fin (k0_t4_loop k0_t2).trips) : Fin 3 → Nat :=
  let c0_662 : Index := 0#32
  let c0_i32_656 : BitVec 32 := 0#32
  let c0_i32_648 : BitVec 32 := 0#32
  let c1_i32_649 : BitVec 32 := 1#32
  let arg13 : BitVec 32 := Scf.iv c0_i32_648 c1_i32_649 k0_t2
  let c1_i32_655 : BitVec 32 := 1#32
  let v3281 : BitVec 32 := Scalar.addi arg13 c1_i32_655
  let v3282 : BitVec 32 := Scalar.subi v3281 c0_i32_656
  let c1_i32_657 : BitVec 32 := 1#32
  let v3284 : BitVec 32 := Scalar.divsi v3282 c1_i32_657
  let v3285 : BitVec 32 := Scalar.muli v3284 c1_i32_657
  let v3286 : BitVec 32 := Scalar.addi c0_i32_656 v3285
  let c1_i32_659 : BitVec 32 := 1#32
  let arg14 : BitVec 32 := Scf.iv v3286 c1_i32_659 k0_t4
  let c256_i32_661 : BitVec 32 := 256#32
  let v3298 : BitVec 32 := Scalar.muli arg14 c256_i32_661
  let v3299 : BitVec 32 := v3298
  let v3300 : Index := Scalar.indexCast v3299
  let c0_663 : Index := 0#32
  ![0, v3300.toNat, 0]
def k0_off15 (k0_t2 : Fin k0_t2_loop.trips) (k0_t4 : Fin (k0_t4_loop k0_t2).trips) : Fin 2 → Nat :=
  let c0_i32_656 : BitVec 32 := 0#32
  let c0_i32_648 : BitVec 32 := 0#32
  let c1_i32_649 : BitVec 32 := 1#32
  let arg13 : BitVec 32 := Scf.iv c0_i32_648 c1_i32_649 k0_t2
  let c1_i32_655 : BitVec 32 := 1#32
  let v3281 : BitVec 32 := Scalar.addi arg13 c1_i32_655
  let v3282 : BitVec 32 := Scalar.subi v3281 c0_i32_656
  let c1_i32_657 : BitVec 32 := 1#32
  let v3284 : BitVec 32 := Scalar.divsi v3282 c1_i32_657
  let v3285 : BitVec 32 := Scalar.muli v3284 c1_i32_657
  let v3286 : BitVec 32 := Scalar.addi c0_i32_656 v3285
  let c1_i32_659 : BitVec 32 := 1#32
  let arg14 : BitVec 32 := Scf.iv v3286 c1_i32_659 k0_t4
  let c256_i32_661 : BitVec 32 := 256#32
  let v3298 : BitVec 32 := Scalar.muli arg14 c256_i32_661
  let v3299 : BitVec 32 := v3298
  let v3304 : Index := Scalar.indexCast v3299
  let c0_665 : Index := 0#32
  ![v3304.toNat, 0]
def k0_off16 (k0_t2 : Fin k0_t2_loop.trips) (k0_t4 : Fin (k0_t4_loop k0_t2).trips) : Fin 2 → Nat :=
  let c0_669 : Index := 0#32
  let c0_i32_656 : BitVec 32 := 0#32
  let c0_i32_648 : BitVec 32 := 0#32
  let c1_i32_649 : BitVec 32 := 1#32
  let arg13 : BitVec 32 := Scf.iv c0_i32_648 c1_i32_649 k0_t2
  let c1_i32_655 : BitVec 32 := 1#32
  let v3281 : BitVec 32 := Scalar.addi arg13 c1_i32_655
  let v3282 : BitVec 32 := Scalar.subi v3281 c0_i32_656
  let c1_i32_657 : BitVec 32 := 1#32
  let v3284 : BitVec 32 := Scalar.divsi v3282 c1_i32_657
  let v3285 : BitVec 32 := Scalar.muli v3284 c1_i32_657
  let v3286 : BitVec 32 := Scalar.addi c0_i32_656 v3285
  let c1_i32_659 : BitVec 32 := 1#32
  let arg14 : BitVec 32 := Scf.iv v3286 c1_i32_659 k0_t4
  let c256_i32_661 : BitVec 32 := 256#32
  let v3298 : BitVec 32 := Scalar.muli arg14 c256_i32_661
  let v3299 : BitVec 32 := v3298
  let v3331 : Index := Scalar.indexCast v3299
  ![0, v3331.toNat]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .smem S40 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x640 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2048x640 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "score_fac" => some (((Real.sqrt 128)⁻¹ * (Real.log 2)⁻¹ : ℝ) : EReal)
  | _ => none
-- ==== ReferenceIdeal.lean ====
abbrev S12x2048x5120 : Shape := ⟨3, ![12, 2048, 5120]⟩
abbrev S12x2048x1024 : Shape := ⟨3, ![12, 2048, 1024]⟩
abbrev S40 : Shape := ⟨1, ![40]⟩
abbrev S12x2048x8 : Shape := ⟨3, ![12, 2048, 8]⟩
abbrev S12x2048x8x5x128 : Shape := ⟨5, ![12, 2048, 8, 5, 128]⟩
abbrev S12x2048x8x128 : Shape := ⟨4, ![12, 2048, 8, 128]⟩
abbrev S_ : Shape := ⟨0, ![]⟩
abbrev S8x5 : Shape := ⟨2, ![8, 5]⟩
abbrev S8x5x1x1 : Shape := ⟨4, ![8, 5, 1, 1]⟩
abbrev S12x8x2048 : Shape := ⟨3, ![12, 8, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S12x8x2048x2048x5 : Shape := ⟨5, ![12, 8, 2048, 2048, 5]⟩
abbrev S12x8x5x2048x2048 : Shape := ⟨5, ![12, 8, 5, 2048, 2048]⟩
abbrev S1x8x5x1x1 : Shape := ⟨5, ![1, 8, 5, 1, 1]⟩
abbrev S12x8x1x1x2048 : Shape := ⟨5, ![12, 8, 1, 1, 2048]⟩
abbrev S12x8x5x2048 : Shape := ⟨4, ![12, 8, 5, 2048]⟩
abbrev S12x8x5x2048x1 : Shape := ⟨5, ![12, 8, 5, 2048, 1]⟩
abbrev S12x8x5x2048x128 : Shape := ⟨5, ![12, 8, 5, 2048, 128]⟩

abbrev nBuf : Space → Nat
  | .hbm => 60
  | .vmem => 6
  | .smem => 0
  | _ => 0

abbrev bufTy : (tb : Table) → Fin (tcTables nBuf tb) → BufTy
  | .hbm, ⟨0, _⟩ => ⟨S12x2048x5120, .fp8e4m3⟩
  | .hbm, ⟨1, _⟩ => ⟨S12x2048x1024, .fp8e4m3⟩
  | .hbm, ⟨2, _⟩ => ⟨S12x2048x1024, .fp8e4m3⟩
  | .hbm, ⟨3, _⟩ => ⟨S40, .f32⟩
  | .hbm, ⟨4, _⟩ => ⟨S12x2048x8, .f32⟩
  | .hbm, ⟨5, _⟩ => ⟨S12x2048x8, .f32⟩
  | .hbm, ⟨6, _⟩ => ⟨S12x2048x5120, .f32⟩
  | .hbm, ⟨7, _⟩ => ⟨S12x2048x1024, .f32⟩
  | .hbm, ⟨8, _⟩ => ⟨S12x2048x1024, .bf16⟩
  | .hbm, ⟨9, _⟩ => ⟨S12x2048x8x5x128, .f32⟩
  | .hbm, ⟨10, _⟩ => ⟨S12x2048x8x128, .f32⟩
  | .hbm, ⟨11, _⟩ => ⟨S12x2048x8x128, .bf16⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S40, .f32⟩
  | .hbm, ⟨16, _⟩ => ⟨S40, .f32⟩
  | .hbm, ⟨17, _⟩ => ⟨S8x5, .f32⟩
  | .hbm, ⟨18, _⟩ => ⟨S8x5x1x1, .f32⟩
  | .hbm, ⟨19, _⟩ => ⟨S12x8x2048, .f32⟩
  | .hbm, ⟨20, _⟩ => ⟨S12x8x2048, .f32⟩
  | .hbm, ⟨21, _⟩ => ⟨S2048, .i32⟩
  | .hbm, ⟨22, _⟩ => ⟨S1x2048, .i32⟩
  | .hbm, ⟨23, _⟩ => ⟨S2048, .i32⟩
  | .hbm, ⟨24, _⟩ => ⟨S2048x1, .i32⟩
  | .hbm, ⟨25, _⟩ => ⟨S2048x2048, .i32⟩
  | .hbm, ⟨26, _⟩ => ⟨S2048x2048, .i32⟩
  | .hbm, ⟨27, _⟩ => ⟨S2048x2048, .i1⟩
  | .hbm, ⟨28, _⟩ => ⟨S12x8x2048x2048x5, .f32⟩
  | .hbm, ⟨29, _⟩ => ⟨S12x8x5x2048x2048, .f32⟩
  | .hbm, ⟨30, _⟩ => ⟨S1x8x5x1x1, .f32⟩
  | .hbm, ⟨31, _⟩ => ⟨S12x8x5x2048x2048, .f32⟩
  | .hbm, ⟨32, _⟩ => ⟨S12x8x5x2048x2048, .f32⟩
  | .hbm, ⟨33, _⟩ => ⟨S12x8x1x1x2048, .f32⟩
  | .hbm, ⟨34, _⟩ => ⟨S12x8x5x2048x2048, .f32⟩
  | .hbm, ⟨35, _⟩ => ⟨S12x8x5x2048x2048, .f32⟩
  | .hbm, ⟨36, _⟩ => ⟨S_, .f32⟩
  | .hbm, ⟨37, _⟩ => ⟨S_, .f32⟩
  | .hbm, ⟨38, _⟩ => ⟨S12x8x5x2048x2048, .i1⟩
  | .hbm, ⟨39, _⟩ => ⟨S12x8x5x2048x2048, .f32⟩
  | .hbm, ⟨40, _⟩ => ⟨S12x8x5x2048x2048, .f32⟩
  | .hbm, ⟨41, _⟩ => ⟨S_, .f32⟩
  | .hbm, ⟨42, _⟩ => ⟨S12x8x5x2048, .f32⟩
  | .hbm, ⟨43, _⟩ => ⟨S12x8x5x2048x1, .f32⟩
  | .hbm, ⟨44, _⟩ => ⟨S12x8x5x2048x2048, .f32⟩
  | .hbm, ⟨45, _⟩ => ⟨S12x8x5x2048x2048, .f32⟩
  | .hbm, ⟨46, _⟩ => ⟨S12x8x5x2048x2048, .f32⟩
  | .hbm, ⟨47, _⟩ => ⟨S_, .f32⟩
  | .hbm, ⟨48, _⟩ => ⟨S12x8x5x2048, .f32⟩
  | .hbm, ⟨49, _⟩ => ⟨S12x8x5x2048x1, .f32⟩
  | .hbm, ⟨50, _⟩ => ⟨S12x8x1x1x2048, .f32⟩
  | .hbm, ⟨51, _⟩ => ⟨S12x8x5x2048x2048, .f32⟩
  | .hbm, ⟨52, _⟩ => ⟨S12x8x5x2048x2048, .f32⟩
  | .hbm, ⟨53, _⟩ => ⟨S12x8x5x2048x2048, .bf16⟩
  | .hbm, ⟨54, _⟩ => ⟨S12x8x5x2048x128, .f32⟩
  | .hbm, ⟨55, _⟩ => ⟨S12x8x5x2048x128, .f32⟩
  | .hbm, ⟨56, _⟩ => ⟨S12x8x5x2048x128, .f32⟩
  | .hbm, ⟨57, _⟩ => ⟨S12x2048x8x5x128, .f32⟩
  | .hbm, ⟨58, _⟩ => ⟨S12x2048x8x5x128, .bf16⟩
  | .hbm, ⟨59, _⟩ => ⟨S12x2048x5120, .bf16⟩
  | .local _ .vmem, ⟨0, _⟩ => ⟨S12x2048x5120, .fp8e4m3⟩
  | .local _ .vmem, ⟨1, _⟩ => ⟨S12x2048x1024, .fp8e4m3⟩
  | .local _ .vmem, ⟨2, _⟩ => ⟨S12x2048x1024, .fp8e4m3⟩
  | .local _ .vmem, ⟨3, _⟩ => ⟨S12x2048x5120, .f32⟩
  | .local _ .vmem, ⟨4, _⟩ => ⟨S12x2048x1024, .f32⟩
  | .local _ .vmem, ⟨5, _⟩ => ⟨S12x2048x1024, .bf16⟩
  | _, _ => ⟨S12x2048x5120, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_1 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_v26 : Ref sig .tc := ⟨.hbm, 40, rfl⟩
abbrev main_cst_2 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_3 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S12x2048x5120 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12x2048x1024 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S12x2048x1024 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S12x2048x5120 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S12x2048x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S12x2048x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.KernelLoops.lean ====
/-
  The counted loops of `Kernel`'s kernel body that hold another loop: the blocks of query rows that the
  online softmax computes (`k0_t2_loop`), and the heads (`k0_t1_loop`). Each trip is run once, at a symbolic trip;
  what it writes is what the run finds, and the contents of the output window before trip `k` follow by recursion.
-/
module

public import proofs.«01_k».proof.Proof.Gen.Kernel
public import proofs.«01_k».proof.Proof.Gen.Kernel.Skeleton
public import proofs.«01_k».proof.Proof.Gen.Kernel.Loops
public import Idealize.ShloMosaic.Lib.Tactic
public import Idealize.ShloMosaic.Lib.Pipeline.Kit

@[expose] public section

set_option maxRecDepth 16384
set_option maxHeartbeats 4000000

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- Memref `M` held whole, on core `c`, at contents `f`. -/
abbrev pt (c : Dev nD) {sp : Space} {S : Shape} {e : EltTy} (M : Memref sig .tc sp S e) (f : BufTy.Contents (Elt F) M.view.ty) : sProp 𝕄G :=
  iprop(M.view.loc (c : Thread nD τ) ↦[M.view.set]{fullShare} f)

/-- Pieces written into the output window. -/
abbrev OutPieces (F : FTy → Type) : Type := List (View.Piece (Elt F) S1x2048x640 .bf16)

/-! ### The blocks of query rows of one head, by the online softmax -/

/-- What one block reads and writes. -/
abbrev Trip2 (c : Dev nD) (arg3 : Memref sig .tc .vmem S1x2048x640 .fp8e4m3) (arg4 : Memref sig .tc .vmem S1x2048x128 .fp8e4m3) (arg8 : Memref sig .tc .vmem S1x2048x640 .bf16) (arg9 : Memref sig .tc .vmem S128x2048 .bf16) (arg11 : Memref sig .tc .vmem S2048x128 .f32)
    (X3 : BufTy.Contents (Elt F) arg3.view.ty) (X4 : BufTy.Contents (Elt F) arg4.view.ty) (X9 : BufTy.Contents (Elt F) arg9.view.ty) (X11 : BufTy.Contents (Elt F) arg11.view.ty) (f : BufTy.Contents (Elt F) arg8.view.ty) : sProp 𝕄G :=
  iprop(pt c arg3 X3 ∗ pt c arg4 X4 ∗ pt c arg9 X9 ∗ pt c arg11 X11 ∗ pt c arg8 f)

/-- One block, run at a symbolic trip: the pieces it writes. -/
@[irreducible] def trip2 (c : Dev nD) (i : grid0.Coords) (arg2 : Memref sig .tc .smem S40 .f32) (harg2 : arg2.IsWhole) (arg3 : Memref sig .tc .vmem S1x2048x640 .fp8e4m3) (harg3 : arg3.IsWhole) (arg4 : Memref sig .tc .vmem S1x2048x128 .fp8e4m3) (harg4 : arg4.IsWhole) (arg5 : Memref sig .tc .vmem S1x2048x128 .fp8e4m3) (harg5 : arg5.IsWhole) (arg6 : Memref sig .tc .vmem S1x1x1x2048 .f32) (harg6 : arg6.IsWhole) (arg7 : Memref sig .tc .vmem S1x1x1x2048 .f32) (harg7 : arg7.IsWhole) (arg8 : Memref sig .tc .vmem S1x2048x640 .bf16) (harg8 : arg8.IsWhole) (arg9 : Memref sig .tc .vmem S128x2048 .bf16) (harg9 : arg9.IsWhole) (arg10 : Memref sig .tc .vmem S2048x128 .f32) (harg10 : arg10.IsWhole) (arg11 : Memref sig .tc .vmem S2048x128 .f32) (harg11 : arg11.IsWhole) (k0_t1 : Fin k0_t1_loop.trips)
    (X3 : BufTy.Contents (Elt F) arg3.view.ty) (X4 : BufTy.Contents (Elt F) arg4.view.ty) (X9 : BufTy.Contents (Elt F) arg9.view.ty) (X11 : BufTy.Contents (Elt F) arg11.view.ty) (k : Fin k0_t2_loop.trips) :
    { L : OutPieces F // ∀ (E : Set ℕ) (f : BufTy.Contents (Elt F) arg8.view.ty),
      Trip2 (F := F) c arg3 arg4 arg8 arg9 arg11 X3 X4 X9 X11 f
      ⊢ wp frame (wpE (defs₀ (F := F)) Variants.none (c : Thread nD τ) none) E (k0_t2_body (F := F) i arg2 harg2 arg3 harg3 arg4 harg4 arg5 harg5 arg6 harg6 arg7 harg7 arg8 harg8 arg9 harg9 arg10 harg10 arg11 harg11 k0_t1 k ())
          (fun _ => Trip2 (F := F) c arg3 arg4 arg8 arg9 arg11 X3 X4 X9 X11 (arg8.view.writes (Elt F) f L)) } := by
  refine ⟨?_, fun E f => ?run⟩
  case run =>
    unfold k0_t2_body
    iintro ⟨H3, H4, H9, H11, H8⟩
    sl_exec
    sl_step
    sl_close

/-- The pieces of the blocks before block `k`, the latest first. -/
def pb2 (c : Dev nD) (i : grid0.Coords) (arg2 : Memref sig .tc .smem S40 .f32) (harg2 : arg2.IsWhole) (arg3 : Memref sig .tc .vmem S1x2048x640 .fp8e4m3) (harg3 : arg3.IsWhole) (arg4 : Memref sig .tc .vmem S1x2048x128 .fp8e4m3) (harg4 : arg4.IsWhole) (arg5 : Memref sig .tc .vmem S1x2048x128 .fp8e4m3) (harg5 : arg5.IsWhole) (arg6 : Memref sig .tc .vmem S1x1x1x2048 .f32) (harg6 : arg6.IsWhole) (arg7 : Memref sig .tc .vmem S1x1x1x2048 .f32) (harg7 : arg7.IsWhole) (arg8 : Memref sig .tc .vmem S1x2048x640 .bf16) (harg8 : arg8.IsWhole) (arg9 : Memref sig .tc .vmem S128x2048 .bf16) (harg9 : arg9.IsWhole) (arg10 : Memref sig .tc .vmem S2048x128 .f32) (harg10 : arg10.IsWhole) (arg11 : Memref sig .tc .vmem S2048x128 .f32) (harg11 : arg11.IsWhole) (k0_t1 : Fin k0_t1_loop.trips)
    (X3 : BufTy.Contents (Elt F) arg3.view.ty) (X4 : BufTy.Contents (Elt F) arg4.view.ty) (X9 : BufTy.Contents (Elt F) arg9.view.ty) (X11 : BufTy.Contents (Elt F) arg11.view.ty) : ℕ → OutPieces F
  | 0 => []
  | k + 1 => (if h : k < k0_t2_loop.trips then (trip2 (F := F) c i arg2 harg2 arg3 harg3 arg4 harg4 arg5 harg5 arg6 harg6 arg7 harg7 arg8 harg8 arg9 harg9 arg10 harg10 arg11 harg11 k0_t1 X3 X4 X9 X11 ⟨k, h⟩).1 else [])
      ++ pb2 c i arg2 harg2 arg3 harg3 arg4 harg4 arg5 harg5 arg6 harg6 arg7 harg7 arg8 harg8 arg9 harg9 arg10 harg10 arg11 harg11 k0_t1 X3 X4 X9 X11 k

theorem pb2_succ (c : Dev nD) (i : grid0.Coords) (arg2 : Memref sig .tc .smem S40 .f32) (harg2 : arg2.IsWhole) (arg3 : Memref sig .tc .vmem S1x2048x640 .fp8e4m3) (harg3 : arg3.IsWhole) (arg4 : Memref sig .tc .vmem S1x2048x128 .fp8e4m3) (harg4 : arg4.IsWhole) (arg5 : Memref sig .tc .vmem S1x2048x128 .fp8e4m3) (harg5 : arg5.IsWhole) (arg6 : Memref sig .tc .vmem S1x1x1x2048 .f32) (harg6 : arg6.IsWhole) (arg7 : Memref sig .tc .vmem S1x1x1x2048 .f32) (harg7 : arg7.IsWhole) (arg8 : Memref sig .tc .vmem S1x2048x640 .bf16) (harg8 : arg8.IsWhole) (arg9 : Memref sig .tc .vmem S128x2048 .bf16) (harg9 : arg9.IsWhole) (arg10 : Memref sig .tc .vmem S2048x128 .f32) (harg10 : arg10.IsWhole) (arg11 : Memref sig .tc .vmem S2048x128 .f32) (harg11 : arg11.IsWhole) (k0_t1 : Fin k0_t1_loop.trips)
    (X3 : BufTy.Contents (Elt F) arg3.view.ty) (X4 : BufTy.Contents (Elt F) arg4.view.ty) (X9 : BufTy.Contents (Elt F) arg9.view.ty) (X11 : BufTy.Contents (Elt F) arg11.view.ty) (k : Fin k0_t2_loop.trips) :
    pb2 (F := F) c i arg2 harg2 arg3 harg3 arg4 harg4 arg5 harg5 arg6 harg6 arg7 harg7 arg8 harg8 arg9 harg9 arg10 harg10 arg11 harg11 k0_t1 X3 X4 X9 X11 (k.val + 1)
      = (trip2 (F := F) c i arg2 harg2 arg3 harg3 arg4 harg4 arg5 harg5 arg6 harg6 arg7 harg7 arg8 harg8 arg9 harg9 arg10 harg10 arg11 harg11 k0_t1 X3 X4 X9 X11 k).1 ++ pb2 (F := F) c i arg2 harg2 arg3 harg3 arg4 harg4 arg5 harg5 arg6 harg6 arg7 harg7 arg8 harg8 arg9 harg9 arg10 harg10 arg11 harg11 k0_t1 X3 X4 X9 X11 k.val := by
  rw [pb2.eq_2]; rw [dif_pos k.isLt]

/-- Before block `k` the output window holds the pieces of the blocks before it over its contents `G8` at entry. -/
abbrev inv2 (c : Dev nD) (i : grid0.Coords) (arg2 : Memref sig .tc .smem S40 .f32) (harg2 : arg2.IsWhole) (arg3 : Memref sig .tc .vmem S1x2048x640 .fp8e4m3) (harg3 : arg3.IsWhole) (arg4 : Memref sig .tc .vmem S1x2048x128 .fp8e4m3) (harg4 : arg4.IsWhole) (arg5 : Memref sig .tc .vmem S1x2048x128 .fp8e4m3) (harg5 : arg5.IsWhole) (arg6 : Memref sig .tc .vmem S1x1x1x2048 .f32) (harg6 : arg6.IsWhole) (arg7 : Memref sig .tc .vmem S1x1x1x2048 .f32) (harg7 : arg7.IsWhole) (arg8 : Memref sig .tc .vmem S1x2048x640 .bf16) (harg8 : arg8.IsWhole) (arg9 : Memref sig .tc .vmem S128x2048 .bf16) (harg9 : arg9.IsWhole) (arg10 : Memref sig .tc .vmem S2048x128 .f32) (harg10 : arg10.IsWhole) (arg11 : Memref sig .tc .vmem S2048x128 .f32) (harg11 : arg11.IsWhole) (k0_t1 : Fin k0_t1_loop.trips)
    (X3 : BufTy.Contents (Elt F) arg3.view.ty) (X4 : BufTy.Contents (Elt F) arg4.view.ty) (X9 : BufTy.Contents (Elt F) arg9.view.ty) (X11 : BufTy.Contents (Elt F) arg11.view.ty) (G8 : BufTy.Contents (Elt F) arg8.view.ty) (k : ℕ) (_ : Unit) : sProp 𝕄G :=
  iprop(pt c arg3 X3 ∗ pt c arg4 X4 ∗ pt c arg9 X9 ∗ pt c arg11 X11
    ∗ ∃ f, pt c arg8 f ∗ ⌜f = arg8.view.writes (Elt F) G8 (pb2 (F := F) c i arg2 harg2 arg3 harg3 arg4 harg4 arg5 harg5 arg6 harg6 arg7 harg7 arg8 harg8 arg9 harg9 arg10 harg10 arg11 harg11 k0_t1 X3 X4 X9 X11 k)⌝)

set_option warn.classDefReducibility false in
/-- The loop over the blocks, by that invariant. -/
@[sl_loop] noncomputable def loopInv_k0_t2 (c : Dev nD) (i : grid0.Coords) (arg2 : Memref sig .tc .smem S40 .f32) (harg2 : arg2.IsWhole) (arg3 : Memref sig .tc .vmem S1x2048x640 .fp8e4m3) (harg3 : arg3.IsWhole) (arg4 : Memref sig .tc .vmem S1x2048x128 .fp8e4m3) (harg4 : arg4.IsWhole) (arg5 : Memref sig .tc .vmem S1x2048x128 .fp8e4m3) (harg5 : arg5.IsWhole) (arg6 : Memref sig .tc .vmem S1x1x1x2048 .f32) (harg6 : arg6.IsWhole) (arg7 : Memref sig .tc .vmem S1x1x1x2048 .f32) (harg7 : arg7.IsWhole) (arg8 : Memref sig .tc .vmem S1x2048x640 .bf16) (harg8 : arg8.IsWhole) (arg9 : Memref sig .tc .vmem S128x2048 .bf16) (harg9 : arg9.IsWhole) (arg10 : Memref sig .tc .vmem S2048x128 .f32) (harg10 : arg10.IsWhole) (arg11 : Memref sig .tc .vmem S2048x128 .f32) (harg11 : arg11.IsWhole) (k0_t1 : Fin k0_t1_loop.trips)
    (X3 : BufTy.Contents (Elt F) arg3.view.ty) (X4 : BufTy.Contents (Elt F) arg4.view.ty) (X9 : BufTy.Contents (Elt F) arg9.view.ty) (X11 : BufTy.Contents (Elt F) arg11.view.ty) (G8 : BufTy.Contents (Elt F) arg8.view.ty) :
    LoopInvTy_k0_t2 (F := F) Unit ℕ (UR sig nD τ) ℕ Variants.none c none Set.univ i arg2 harg2 arg3 harg3 arg4 harg4 arg5 harg5 arg6 harg6 arg7 harg7 arg8 harg8 arg9 harg9 arg10 harg10 arg11 harg11 k0_t1 where
  inv := inv2 (F := F) c i arg2 harg2 arg3 harg3 arg4 harg4 arg5 harg5 arg6 harg6 arg7 harg7 arg8 harg8 arg9 harg9 arg10 harg10 arg11 harg11 k0_t1 X3 X4 X9 X11 G8
  step k acc := by
    iintro ⟨H3, H4, H9, H11, %f, H8, %hf⟩
    subst hf
    iapply (wp_wand_r Idealize.ShloMosaic.frame (wpE (defs₀ (F := F)) Variants.none (c : Thread nD τ) none) Set.univ)
    isplitl [H3 H4 H9 H11 H8]
    · iapply ((trip2 (F := F) c i arg2 harg2 arg3 harg3 arg4 harg4 arg5 harg5 arg6 harg6 arg7 harg7 arg8 harg8 arg9 harg9 arg10 harg10 arg11 harg11 k0_t1 X3 X4 X9 X11 k).2 Set.univ _)
      isplitl [H3]; · iexact H3
      isplitl [H4]; · iexact H4
      isplitl [H9]; · iexact H9
      isplitl [H11]; · iexact H11
      iexact H8
    · iintro %yld ⟨H3, H4, H9, H11, H8⟩
      isplitl [H3]; · iexact H3
      isplitl [H4]; · iexact H4
      isplitl [H9]; · iexact H9
      isplitl [H11]; · iexact H11
      iexists _
      isplitl [H8]; · iexact H8
      ipureintro
      rw [pb2_succ, View.writes_append]

/-! ### The heads -/

/-- What one head reads and writes. -/
abbrev Trip1 (c : Dev nD) (arg2 : Memref sig .tc .smem S40 .f32) (arg3 : Memref sig .tc .vmem S1x2048x640 .fp8e4m3) (arg4 : Memref sig .tc .vmem S1x2048x128 .fp8e4m3) (arg8 : Memref sig .tc .vmem S1x2048x640 .bf16) (arg9 : Memref sig .tc .vmem S128x2048 .bf16) (arg10 : Memref sig .tc .vmem S2048x128 .f32) (arg11 : Memref sig .tc .vmem S2048x128 .f32)
    (X2 : BufTy.Contents (Elt F) arg2.view.ty) (X3 : BufTy.Contents (Elt F) arg3.view.ty) (X4 : BufTy.Contents (Elt F) arg4.view.ty) (X9 : BufTy.Contents (Elt F) arg9.view.ty) (X10 : BufTy.Contents (Elt F) arg10.view.ty)
    (X11 : BufTy.Contents (Elt F) arg11.view.ty) (f : BufTy.Contents (Elt F) arg8.view.ty) : sProp 𝕄G :=
  iprop(pt c arg2 X2 ∗ pt c arg3 X3 ∗ pt c arg4 X4 ∗ pt c arg9 X9 ∗ pt c arg10 X10 ∗ pt c arg11 X11 ∗ pt c arg8 f)

/-- The direct computation of one head, over every block: the pieces it writes into the scaled key scales and into
    the output window, and what it hands to the test of its sums. -/
@[irreducible] def direct (c : Dev nD) (i : grid0.Coords) (arg2 : Memref sig .tc .smem S40 .f32) (harg2 : arg2.IsWhole) (arg3 : Memref sig .tc .vmem S1x2048x640 .fp8e4m3) (harg3 : arg3.IsWhole) (arg4 : Memref sig .tc .vmem S1x2048x128 .fp8e4m3) (harg4 : arg4.IsWhole) (arg5 : Memref sig .tc .vmem S1x2048x128 .fp8e4m3) (harg5 : arg5.IsWhole) (arg6 : Memref sig .tc .vmem S1x1x1x2048 .f32) (harg6 : arg6.IsWhole) (arg7 : Memref sig .tc .vmem S1x1x1x2048 .f32) (harg7 : arg7.IsWhole) (arg8 : Memref sig .tc .vmem S1x2048x640 .bf16) (harg8 : arg8.IsWhole) (arg9 : Memref sig .tc .vmem S128x2048 .bf16) (harg9 : arg9.IsWhole) (arg10 : Memref sig .tc .vmem S2048x128 .f32) (harg10 : arg10.IsWhole) (arg11 : Memref sig .tc .vmem S2048x128 .f32) (harg11 : arg11.IsWhole) (arg1 : BitVec 32)
    (X2 : BufTy.Contents (Elt F) arg2.view.ty) (X3 : BufTy.Contents (Elt F) arg3.view.ty) (X4 : BufTy.Contents (Elt F) arg4.view.ty) (X9 : BufTy.Contents (Elt F) arg9.view.ty) (X10 : BufTy.Contents (Elt F) arg10.view.ty) (k : Fin k0_t1_loop.trips) :
    Σ' (L11 : List (View.Piece (Elt F) S2048x128 .f32)) (v : BitVec 32) (b : BitVec 1) (s : FVec F S1x1x256 .f32),
    { L : OutPieces F // ∀ (E : Set ℕ) (X11 : BufTy.Contents (Elt F) arg11.view.ty) (f : BufTy.Contents (Elt F) arg8.view.ty),
      Trip1 (F := F) c arg2 arg3 arg4 arg8 arg9 arg10 arg11 X2 X3 X4 X9 X10 X11 f
      ⊢ wp frame (wpE (defs₀ (F := F)) Variants.none (c : Thread nD τ) none) E (k0_part56 (F := F) i arg2 harg2 arg3 harg3 arg4 harg4 arg5 harg5 arg6 harg6 arg7 harg7 arg8 harg8 arg9 harg9 arg10 harg10 arg11 harg11 arg1 0#32 1#32 k)
          (fun y => iprop(⌜y = ⟨v, b, s⟩⌝ ∗ Trip1 (F := F) c arg2 arg3 arg4 arg8 arg9 arg10 arg11 X2 X3 X4 X9 X10
            (arg11.view.writes (Elt F) X11 L11) (arg8.view.writes (Elt F) f L))) } := by
  refine ⟨?_, ?_, ?_, ?_, ?_, fun E X11 f => ?run⟩
  case run =>
    rw [k0_part56_eq_skeleton]; unfold k0_part56_skel
    iintro ⟨H2, H3, H4, H9, H10, H11, H8⟩
    sl_exec
    sl_step
    sl_close

end Cert.Proof.Kernel

end
-- ==== Proof.KernelHeads.lean ====
/-
  The heads of `Kernel`'s kernel body: the direct computation of a head, then — where the test of its sums fails — the
  online softmax over every block of rows. What the output window holds before head `k` follows by recursion.
-/
module

public import proofs.«01_k».proof.Proof.KernelLoops

@[expose] public section

set_option maxRecDepth 16384
set_option maxHeartbeats 400000

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- The kernel recomputes the head: the test of its sums, or of the value scales, failed. -/
abbrev Redo (b : BitVec 1) (s : FVec F S1x1x256 .f32) (v364 : BitVec 1) : Prop :=
  Scalar.cmpi .ne (Scalar.extui (Scalar.xori (Scalar.andi (Scalar.andi b (Scalar.cmpf .ole (k0_pay1 s) (Scalar.ofBits .f32 0x5D800000#32))) v364) 1#1) : BitVec 32) 0#32 = 1#1

instance (b : BitVec 1) (s : FVec F S1x1x256 .f32) (v364 : BitVec 1) : Decidable (Redo b s v364) := by
  unfold Redo; infer_instance

/-- What follows the direct computation of a head: the test of its sums, and the recomputation. -/
noncomputable def rest (i : grid0.Coords) (arg2 : Memref sig .tc .smem S40 .f32) (harg2 : arg2.IsWhole) (arg3 : Memref sig .tc .vmem S1x2048x640 .fp8e4m3) (harg3 : arg3.IsWhole) (arg4 : Memref sig .tc .vmem S1x2048x128 .fp8e4m3) (harg4 : arg4.IsWhole) (arg5 : Memref sig .tc .vmem S1x2048x128 .fp8e4m3) (harg5 : arg5.IsWhole) (arg6 : Memref sig .tc .vmem S1x1x1x2048 .f32) (harg6 : arg6.IsWhole) (arg7 : Memref sig .tc .vmem S1x1x1x2048 .f32) (harg7 : arg7.IsWhole) (arg8 : Memref sig .tc .vmem S1x2048x640 .bf16) (harg8 : arg8.IsWhole) (arg9 : Memref sig .tc .vmem S128x2048 .bf16) (harg9 : arg9.IsWhole) (arg10 : Memref sig .tc .vmem S2048x128 .f32) (harg10 : arg10.IsWhole) (arg11 : Memref sig .tc .vmem S2048x128 .f32) (harg11 : arg11.IsWhole) (v364 : BitVec 1) (k0_t1 : Fin k0_t1_loop.trips) (b : BitVec 1) (s : FVec F S1x1x256 .f32) :
    Prog (TpuEff nD τ sig (Elt F) Λ₀ .tc) Unit := do
  if Scalar.cmpi .ne (Scalar.extui (Scalar.xori (Scalar.andi (Scalar.andi b (Scalar.cmpf .ole (k0_pay1 s) (Scalar.ofBits .f32 0x5D800000#32))) v364) 1#1) : BitVec 32) 0#32 = 1#1 then do
    Scf.Loop.for k0_t2_loop k0_t2_ok ⟨⟩ (k0_t2_body i arg2 harg2 arg3 harg3 arg4 harg4 arg5 harg5 arg6 harg6 arg7 harg7 arg8 harg8 arg9 harg9 arg10 harg10 arg11 harg11 k0_t1)
    pure ⟨⟩
  else do
    pure ⟨⟩
  pure ⟨⟩

theorem t1_body_eq (i : grid0.Coords) (arg2 : Memref sig .tc .smem S40 .f32) (harg2 : arg2.IsWhole) (arg3 : Memref sig .tc .vmem S1x2048x640 .fp8e4m3) (harg3 : arg3.IsWhole) (arg4 : Memref sig .tc .vmem S1x2048x128 .fp8e4m3) (harg4 : arg4.IsWhole) (arg5 : Memref sig .tc .vmem S1x2048x128 .fp8e4m3) (harg5 : arg5.IsWhole) (arg6 : Memref sig .tc .vmem S1x1x1x2048 .f32) (harg6 : arg6.IsWhole) (arg7 : Memref sig .tc .vmem S1x1x1x2048 .f32) (harg7 : arg7.IsWhole) (arg8 : Memref sig .tc .vmem S1x2048x640 .bf16) (harg8 : arg8.IsWhole) (arg9 : Memref sig .tc .vmem S128x2048 .bf16) (harg9 : arg9.IsWhole) (arg10 : Memref sig .tc .vmem S2048x128 .f32) (harg10 : arg10.IsWhole) (arg11 : Memref sig .tc .vmem S2048x128 .f32) (harg11 : arg11.IsWhole) (arg1 : BitVec 32) (v364 : BitVec 1) (k : Fin k0_t1_loop.trips) :
    k0_t1_body (F := F) i arg2 harg2 arg3 harg3 arg4 harg4 arg5 harg5 arg6 harg6 arg7 harg7 arg8 harg8 arg9 harg9 arg10 harg10 arg11 harg11 arg1 v364 k () = (k0_part56 i arg2 harg2 arg3 harg3 arg4 harg4 arg5 harg5 arg6 harg6 arg7 harg7 arg8 harg8 arg9 harg9 arg10 harg10 arg11 harg11 arg1 0#32 1#32 k >>= fun y => rest i arg2 harg2 arg3 harg3 arg4 harg4 arg5 harg5 arg6 harg6 arg7 harg7 arg8 harg8 arg9 harg9 arg10 harg10 arg11 harg11 v364 k y.2.1 y.2.2) := rfl

theorem rest_run (c : Dev nD) (i : grid0.Coords) (arg2 : Memref sig .tc .smem S40 .f32) (harg2 : arg2.IsWhole) (arg3 : Memref sig .tc .vmem S1x2048x640 .fp8e4m3) (harg3 : arg3.IsWhole) (arg4 : Memref sig .tc .vmem S1x2048x128 .fp8e4m3) (harg4 : arg4.IsWhole) (arg5 : Memref sig .tc .vmem S1x2048x128 .fp8e4m3) (harg5 : arg5.IsWhole) (arg6 : Memref sig .tc .vmem S1x1x1x2048 .f32) (harg6 : arg6.IsWhole) (arg7 : Memref sig .tc .vmem S1x1x1x2048 .f32) (harg7 : arg7.IsWhole) (arg8 : Memref sig .tc .vmem S1x2048x640 .bf16) (harg8 : arg8.IsWhole) (arg9 : Memref sig .tc .vmem S128x2048 .bf16) (harg9 : arg9.IsWhole) (arg10 : Memref sig .tc .vmem S2048x128 .f32) (harg10 : arg10.IsWhole) (arg11 : Memref sig .tc .vmem S2048x128 .f32) (harg11 : arg11.IsWhole) (v364 : BitVec 1) (X2 : BufTy.Contents (Elt F) arg2.view.ty) (X3 : BufTy.Contents (Elt F) arg3.view.ty) (X4 : BufTy.Contents (Elt F) arg4.view.ty) (X9 : BufTy.Contents (Elt F) arg9.view.ty) (X10 : BufTy.Contents (Elt F) arg10.view.ty) (k : Fin k0_t1_loop.trips) (b : BitVec 1) (s : FVec F S1x1x256 .f32)
    (X11 : BufTy.Contents (Elt F) arg11.view.ty) (f : BufTy.Contents (Elt F) arg8.view.ty) :
      Trip1 (F := F) c arg2 arg3 arg4 arg8 arg9 arg10 arg11 X2 X3 X4 X9 X10 X11 f
      ⊢ wp frame (wpE (defs₀ (F := F)) Variants.none (c : Thread nD τ) none) Set.univ (rest (F := F) i arg2 harg2 arg3 harg3 arg4 harg4 arg5 harg5 arg6 harg6 arg7 harg7 arg8 harg8 arg9 harg9 arg10 harg10 arg11 harg11 v364 k b s)
          (fun _ => Trip1 (F := F) c arg2 arg3 arg4 arg8 arg9 arg10 arg11 X2 X3 X4 X9 X10 X11
            (arg8.view.writes (Elt F) f (if Redo b s v364 then pb2 (F := F) c i arg2 harg2 arg3 harg3 arg4 harg4 arg5 harg5 arg6 harg6 arg7 harg7 arg8 harg8 arg9 harg9 arg10 harg10 arg11 harg11 k X3 X4 X9 X11 k0_t2_loop.trips else []))) := by
  unfold rest
  iintro ⟨H2, H3, H4, H9, H10, H11, H8⟩
  by_cases hC : Redo b s v364
  · have e : (if Redo b s v364 then pb2 (F := F) c i arg2 harg2 arg3 harg3 arg4 harg4 arg5 harg5 arg6 harg6 arg7 harg7 arg8 harg8 arg9 harg9 arg10 harg10 arg11 harg11 k X3 X4 X9 X11 k0_t2_loop.trips else []) = pb2 (F := F) c i arg2 harg2 arg3 harg3 arg4 harg4 arg5 harg5 arg6 harg6 arg7 harg7 arg8 harg8 arg9 harg9 arg10 harg10 arg11 harg11 k X3 X4 X9 X11 k0_t2_loop.trips := if_pos hC
    rw [e]
    sl_exec
    sl_step
    sl_close
  · have e : (if Redo b s v364 then pb2 (F := F) c i arg2 harg2 arg3 harg3 arg4 harg4 arg5 harg5 arg6 harg6 arg7 harg7 arg8 harg8 arg9 harg9 arg10 harg10 arg11 harg11 k X3 X4 X9 X11 k0_t2_loop.trips else []) = [] := if_neg hC
    rw [e]
    sl_exec
    sl_step
    sl_close

/-- The pieces head `k` writes into the scaled key scales. -/
def pieces11 (c : Dev nD) (i : grid0.Coords) (arg2 : Memref sig .tc .smem S40 .f32) (harg2 : arg2.IsWhole) (arg3 : Memref sig .tc .vmem S1x2048x640 .fp8e4m3) (harg3 : arg3.IsWhole) (arg4 : Memref sig .tc .vmem S1x2048x128 .fp8e4m3) (harg4 : arg4.IsWhole) (arg5 : Memref sig .tc .vmem S1x2048x128 .fp8e4m3) (harg5 : arg5.IsWhole) (arg6 : Memref sig .tc .vmem S1x1x1x2048 .f32) (harg6 : arg6.IsWhole) (arg7 : Memref sig .tc .vmem S1x1x1x2048 .f32) (harg7 : arg7.IsWhole) (arg8 : Memref sig .tc .vmem S1x2048x640 .bf16) (harg8 : arg8.IsWhole) (arg9 : Memref sig .tc .vmem S128x2048 .bf16) (harg9 : arg9.IsWhole) (arg10 : Memref sig .tc .vmem S2048x128 .f32) (harg10 : arg10.IsWhole) (arg11 : Memref sig .tc .vmem S2048x128 .f32) (harg11 : arg11.IsWhole) (arg1 : BitVec 32) (X2 : BufTy.Contents (Elt F) arg2.view.ty) (X3 : BufTy.Contents (Elt F) arg3.view.ty) (X4 : BufTy.Contents (Elt F) arg4.view.ty) (X9 : BufTy.Contents (Elt F) arg9.view.ty) (X10 : BufTy.Contents (Elt F) arg10.view.ty) (k : Fin k0_t1_loop.trips) : List (View.Piece (Elt F) S2048x128 .f32) :=
  (direct (F := F) c i arg2 harg2 arg3 harg3 arg4 harg4 arg5 harg5 arg6 harg6 arg7 harg7 arg8 harg8 arg9 harg9 arg10 harg10 arg11 harg11 arg1 X2 X3 X4 X9 X10 k).1

/-- The pieces the direct computation of head `k` writes into the output window. -/
def pieces8 (c : Dev nD) (i : grid0.Coords) (arg2 : Memref sig .tc .smem S40 .f32) (harg2 : arg2.IsWhole) (arg3 : Memref sig .tc .vmem S1x2048x640 .fp8e4m3) (harg3 : arg3.IsWhole) (arg4 : Memref sig .tc .vmem S1x2048x128 .fp8e4m3) (harg4 : arg4.IsWhole) (arg5 : Memref sig .tc .vmem S1x2048x128 .fp8e4m3) (harg5 : arg5.IsWhole) (arg6 : Memref sig .tc .vmem S1x1x1x2048 .f32) (harg6 : arg6.IsWhole) (arg7 : Memref sig .tc .vmem S1x1x1x2048 .f32) (harg7 : arg7.IsWhole) (arg8 : Memref sig .tc .vmem S1x2048x640 .bf16) (harg8 : arg8.IsWhole) (arg9 : Memref sig .tc .vmem S128x2048 .bf16) (harg9 : arg9.IsWhole) (arg10 : Memref sig .tc .vmem S2048x128 .f32) (harg10 : arg10.IsWhole) (arg11 : Memref sig .tc .vmem S2048x128 .f32) (harg11 : arg11.IsWhole) (arg1 : BitVec 32) (X2 : BufTy.Contents (Elt F) arg2.view.ty) (X3 : BufTy.Contents (Elt F) arg3.view.ty) (X4 : BufTy.Contents (Elt F) arg4.view.ty) (X9 : BufTy.Contents (Elt F) arg9.view.ty) (X10 : BufTy.Contents (Elt F) arg10.view.ty) (k : Fin k0_t1_loop.trips) : OutPieces F :=
  (direct (F := F) c i arg2 harg2 arg3 harg3 arg4 harg4 arg5 harg5 arg6 harg6 arg7 harg7 arg8 harg8 arg9 harg9 arg10 harg10 arg11 harg11 arg1 X2 X3 X4 X9 X10 k).2.2.2.2.1

/-- Head `k` is recomputed. -/
abbrev RedoAt (c : Dev nD) (i : grid0.Coords) (arg2 : Memref sig .tc .smem S40 .f32) (harg2 : arg2.IsWhole) (arg3 : Memref sig .tc .vmem S1x2048x640 .fp8e4m3) (harg3 : arg3.IsWhole) (arg4 : Memref sig .tc .vmem S1x2048x128 .fp8e4m3) (harg4 : arg4.IsWhole) (arg5 : Memref sig .tc .vmem S1x2048x128 .fp8e4m3) (harg5 : arg5.IsWhole) (arg6 : Memref sig .tc .vmem S1x1x1x2048 .f32) (harg6 : arg6.IsWhole) (arg7 : Memref sig .tc .vmem S1x1x1x2048 .f32) (harg7 : arg7.IsWhole) (arg8 : Memref sig .tc .vmem S1x2048x640 .bf16) (harg8 : arg8.IsWhole) (arg9 : Memref sig .tc .vmem S128x2048 .bf16) (harg9 : arg9.IsWhole) (arg10 : Memref sig .tc .vmem S2048x128 .f32) (harg10 : arg10.IsWhole) (arg11 : Memref sig .tc .vmem S2048x128 .f32) (harg11 : arg11.IsWhole) (arg1 : BitVec 32) (v364 : BitVec 1) (X2 : BufTy.Contents (Elt F) arg2.view.ty) (X3 : BufTy.Contents (Elt F) arg3.view.ty) (X4 : BufTy.Contents (Elt F) arg4.view.ty) (X9 : BufTy.Contents (Elt F) arg9.view.ty) (X10 : BufTy.Contents (Elt F) arg10.view.ty) (k : Fin k0_t1_loop.trips) : Prop :=
  Redo (direct (F := F) c i arg2 harg2 arg3 harg3 arg4 harg4 arg5 harg5 arg6 harg6 arg7 harg7 arg8 harg8 arg9 harg9 arg10 harg10 arg11 harg11 arg1 X2 X3 X4 X9 X10 k).2.2.1 (direct (F := F) c i arg2 harg2 arg3 harg3 arg4 harg4 arg5 harg5 arg6 harg6 arg7 harg7 arg8 harg8 arg9 harg9 arg10 harg10 arg11 harg11 arg1 X2 X3 X4 X9 X10 k).2.2.2.1 v364

/-- The pieces head `k` writes into the output window, where the scaled key scales are at `X11` once it has written them. -/
def headPieces (c : Dev nD) (i : grid0.Coords) (arg2 : Memref sig .tc .smem S40 .f32) (harg2 : arg2.IsWhole) (arg3 : Memref sig .tc .vmem S1x2048x640 .fp8e4m3) (harg3 : arg3.IsWhole) (arg4 : Memref sig .tc .vmem S1x2048x128 .fp8e4m3) (harg4 : arg4.IsWhole) (arg5 : Memref sig .tc .vmem S1x2048x128 .fp8e4m3) (harg5 : arg5.IsWhole) (arg6 : Memref sig .tc .vmem S1x1x1x2048 .f32) (harg6 : arg6.IsWhole) (arg7 : Memref sig .tc .vmem S1x1x1x2048 .f32) (harg7 : arg7.IsWhole) (arg8 : Memref sig .tc .vmem S1x2048x640 .bf16) (harg8 : arg8.IsWhole) (arg9 : Memref sig .tc .vmem S128x2048 .bf16) (harg9 : arg9.IsWhole) (arg10 : Memref sig .tc .vmem S2048x128 .f32) (harg10 : arg10.IsWhole) (arg11 : Memref sig .tc .vmem S2048x128 .f32) (harg11 : arg11.IsWhole) (arg1 : BitVec 32) (v364 : BitVec 1) (X2 : BufTy.Contents (Elt F) arg2.view.ty) (X3 : BufTy.Contents (Elt F) arg3.view.ty) (X4 : BufTy.Contents (Elt F) arg4.view.ty) (X9 : BufTy.Contents (Elt F) arg9.view.ty) (X10 : BufTy.Contents (Elt F) arg10.view.ty) (X11 : BufTy.Contents (Elt F) arg11.view.ty) (k : Fin k0_t1_loop.trips) : OutPieces F :=
  (if RedoAt (F := F) c i arg2 harg2 arg3 harg3 arg4 harg4 arg5 harg5 arg6 harg6 arg7 harg7 arg8 harg8 arg9 harg9 arg10 harg10 arg11 harg11 arg1 v364 X2 X3 X4 X9 X10 k then pb2 (F := F) c i arg2 harg2 arg3 harg3 arg4 harg4 arg5 harg5 arg6 harg6 arg7 harg7 arg8 harg8 arg9 harg9 arg10 harg10 arg11 harg11 k X3 X4 X9 X11 k0_t2_loop.trips else [])
    ++ pieces8 (F := F) c i arg2 harg2 arg3 harg3 arg4 harg4 arg5 harg5 arg6 harg6 arg7 harg7 arg8 harg8 arg9 harg9 arg10 harg10 arg11 harg11 arg1 X2 X3 X4 X9 X10 k

/-- One head, at a symbolic trip. -/
theorem trip1 (c : Dev nD) (i : grid0.Coords) (arg2 : Memref sig .tc .smem S40 .f32) (harg2 : arg2.IsWhole) (arg3 : Memref sig .tc .vmem S1x2048x640 .fp8e4m3) (harg3 : arg3.IsWhole) (arg4 : Memref sig .tc .vmem S1x2048x128 .fp8e4m3) (harg4 : arg4.IsWhole) (arg5 : Memref sig .tc .vmem S1x2048x128 .fp8e4m3) (harg5 : arg5.IsWhole) (arg6 : Memref sig .tc .vmem S1x1x1x2048 .f32) (harg6 : arg6.IsWhole) (arg7 : Memref sig .tc .vmem S1x1x1x2048 .f32) (harg7 : arg7.IsWhole) (arg8 : Memref sig .tc .vmem S1x2048x640 .bf16) (harg8 : arg8.IsWhole) (arg9 : Memref sig .tc .vmem S128x2048 .bf16) (harg9 : arg9.IsWhole) (arg10 : Memref sig .tc .vmem S2048x128 .f32) (harg10 : arg10.IsWhole) (arg11 : Memref sig .tc .vmem S2048x128 .f32) (harg11 : arg11.IsWhole) (arg1 : BitVec 32) (v364 : BitVec 1) (X2 : BufTy.Contents (Elt F) arg2.view.ty) (X3 : BufTy.Contents (Elt F) arg3.view.ty) (X4 : BufTy.Contents (Elt F) arg4.view.ty) (X9 : BufTy.Contents (Elt F) arg9.view.ty) (X10 : BufTy.Contents (Elt F) arg10.view.ty) (k : Fin k0_t1_loop.trips)
    (X11 : BufTy.Contents (Elt F) arg11.view.ty) (f : BufTy.Contents (Elt F) arg8.view.ty) :
      Trip1 (F := F) c arg2 arg3 arg4 arg8 arg9 arg10 arg11 X2 X3 X4 X9 X10 X11 f
      ⊢ wp frame (wpE (defs₀ (F := F)) Variants.none (c : Thread nD τ) none) Set.univ (k0_t1_body (F := F) i arg2 harg2 arg3 harg3 arg4 harg4 arg5 harg5 arg6 harg6 arg7 harg7 arg8 harg8 arg9 harg9 arg10 harg10 arg11 harg11 arg1 v364 k ())
          (fun _ => Trip1 (F := F) c arg2 arg3 arg4 arg8 arg9 arg10 arg11 X2 X3 X4 X9 X10
            (arg11.view.writes (Elt F) X11 (pieces11 (F := F) c i arg2 harg2 arg3 harg3 arg4 harg4 arg5 harg5 arg6 harg6 arg7 harg7 arg8 harg8 arg9 harg9 arg10 harg10 arg11 harg11 arg1 X2 X3 X4 X9 X10 k))
            (arg8.view.writes (Elt F) f (headPieces (F := F) c i arg2 harg2 arg3 harg3 arg4 harg4 arg5 harg5 arg6 harg6 arg7 harg7 arg8 harg8 arg9 harg9 arg10 harg10 arg11 harg11 arg1 v364 X2 X3 X4 X9 X10
              (arg11.view.writes (Elt F) X11 (pieces11 (F := F) c i arg2 harg2 arg3 harg3 arg4 harg4 arg5 harg5 arg6 harg6 arg7 harg7 arg8 harg8 arg9 harg9 arg10 harg10 arg11 harg11 arg1 X2 X3 X4 X9 X10 k)) k))) := by
  rw [t1_body_eq, wp_bind]
  iintro H
  iapply (wp_wand_r Idealize.ShloMosaic.frame (wpE (defs₀ (F := F)) Variants.none (c : Thread nD τ) none) Set.univ)
  isplitl [H]
  · iapply ((direct (F := F) c i arg2 harg2 arg3 harg3 arg4 harg4 arg5 harg5 arg6 harg6 arg7 harg7 arg8 harg8 arg9 harg9 arg10 harg10 arg11 harg11 arg1 X2 X3 X4 X9 X10 k).2.2.2.2.2 Set.univ X11 f)
    iexact H
  iintro %y ⟨%hy, H⟩
  subst hy
  have h := rest_run (F := F) c i arg2 harg2 arg3 harg3 arg4 harg4 arg5 harg5 arg6 harg6 arg7 harg7 arg8 harg8 arg9 harg9 arg10 harg10 arg11 harg11 v364 X2 X3 X4 X9 X10 k (direct (F := F) c i arg2 harg2 arg3 harg3 arg4 harg4 arg5 harg5 arg6 harg6 arg7 harg7 arg8 harg8 arg9 harg9 arg10 harg10 arg11 harg11 arg1 X2 X3 X4 X9 X10 k).2.2.1 (direct (F := F) c i arg2 harg2 arg3 harg3 arg4 harg4 arg5 harg5 arg6 harg6 arg7 harg7 arg8 harg8 arg9 harg9 arg10 harg10 arg11 harg11 arg1 X2 X3 X4 X9 X10 k).2.2.2.1
    (arg11.view.writes (Elt F) X11 (pieces11 (F := F) c i arg2 harg2 arg3 harg3 arg4 harg4 arg5 harg5 arg6 harg6 arg7 harg7 arg8 harg8 arg9 harg9 arg10 harg10 arg11 harg11 arg1 X2 X3 X4 X9 X10 k)) (arg8.view.writes (Elt F) f (pieces8 (F := F) c i arg2 harg2 arg3 harg3 arg4 harg4 arg5 harg5 arg6 harg6 arg7 harg7 arg8 harg8 arg9 harg9 arg10 harg10 arg11 harg11 arg1 X2 X3 X4 X9 X10 k))
  rw [← View.writes_append] at h
  iapply h
  iexact H

end Cert.Proof.Kernel

end
-- ==== Proof.KernelBody.lean ====
/-
  The body of `Kernel`'s kernel: the loop over the heads by its invariant, and the whole body — what each buffer holds after it,
  out of what they held before it.
-/
module

public import proofs.«01_k».proof.Proof.KernelHeads

@[expose] public section

set_option maxRecDepth 16384
set_option maxHeartbeats 400000

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- The pieces the heads before `k` write into the scaled key scales, the last one first. -/
def pb11 (c : Dev nD) (i : grid0.Coords) (arg2 : Memref sig .tc .smem S40 .f32) (harg2 : arg2.IsWhole) (arg3 : Memref sig .tc .vmem S1x2048x640 .fp8e4m3) (harg3 : arg3.IsWhole) (arg4 : Memref sig .tc .vmem S1x2048x128 .fp8e4m3) (harg4 : arg4.IsWhole) (arg5 : Memref sig .tc .vmem S1x2048x128 .fp8e4m3) (harg5 : arg5.IsWhole) (arg6 : Memref sig .tc .vmem S1x1x1x2048 .f32) (harg6 : arg6.IsWhole) (arg7 : Memref sig .tc .vmem S1x1x1x2048 .f32) (harg7 : arg7.IsWhole) (arg8 : Memref sig .tc .vmem S1x2048x640 .bf16) (harg8 : arg8.IsWhole) (arg9 : Memref sig .tc .vmem S128x2048 .bf16) (harg9 : arg9.IsWhole) (arg10 : Memref sig .tc .vmem S2048x128 .f32) (harg10 : arg10.IsWhole) (arg11 : Memref sig .tc .vmem S2048x128 .f32) (harg11 : arg11.IsWhole) (arg1 : BitVec 32) (X2 : BufTy.Contents (Elt F) arg2.view.ty) (X3 : BufTy.Contents (Elt F) arg3.view.ty) (X4 : BufTy.Contents (Elt F) arg4.view.ty) (X9 : BufTy.Contents (Elt F) arg9.view.ty) (X10 : BufTy.Contents (Elt F) arg10.view.ty) : ℕ → List (View.Piece (Elt F) S2048x128 .f32)
  | 0 => []
  | k + 1 => (if h : k < k0_t1_loop.trips then pieces11 (F := F) c i arg2 harg2 arg3 harg3 arg4 harg4 arg5 harg5 arg6 harg6 arg7 harg7 arg8 harg8 arg9 harg9 arg10 harg10 arg11 harg11 arg1 X2 X3 X4 X9 X10 ⟨k, h⟩ else [])
      ++ pb11 c i arg2 harg2 arg3 harg3 arg4 harg4 arg5 harg5 arg6 harg6 arg7 harg7 arg8 harg8 arg9 harg9 arg10 harg10 arg11 harg11 arg1 X2 X3 X4 X9 X10 k

theorem pb11_succ (c : Dev nD) (i : grid0.Coords) (arg2 : Memref sig .tc .smem S40 .f32) (harg2 : arg2.IsWhole) (arg3 : Memref sig .tc .vmem S1x2048x640 .fp8e4m3) (harg3 : arg3.IsWhole) (arg4 : Memref sig .tc .vmem S1x2048x128 .fp8e4m3) (harg4 : arg4.IsWhole) (arg5 : Memref sig .tc .vmem S1x2048x128 .fp8e4m3) (harg5 : arg5.IsWhole) (arg6 : Memref sig .tc .vmem S1x1x1x2048 .f32) (harg6 : arg6.IsWhole) (arg7 : Memref sig .tc .vmem S1x1x1x2048 .f32) (harg7 : arg7.IsWhole) (arg8 : Memref sig .tc .vmem S1x2048x640 .bf16) (harg8 : arg8.IsWhole) (arg9 : Memref sig .tc .vmem S128x2048 .bf16) (harg9 : arg9.IsWhole) (arg10 : Memref sig .tc .vmem S2048x128 .f32) (harg10 : arg10.IsWhole) (arg11 : Memref sig .tc .vmem S2048x128 .f32) (harg11 : arg11.IsWhole) (arg1 : BitVec 32) (X2 : BufTy.Contents (Elt F) arg2.view.ty) (X3 : BufTy.Contents (Elt F) arg3.view.ty) (X4 : BufTy.Contents (Elt F) arg4.view.ty) (X9 : BufTy.Contents (Elt F) arg9.view.ty) (X10 : BufTy.Contents (Elt F) arg10.view.ty) (k : Fin k0_t1_loop.trips) :
    pb11 (F := F) c i arg2 harg2 arg3 harg3 arg4 harg4 arg5 harg5 arg6 harg6 arg7 harg7 arg8 harg8 arg9 harg9 arg10 harg10 arg11 harg11 arg1 X2 X3 X4 X9 X10 (k.val + 1)
      = pieces11 (F := F) c i arg2 harg2 arg3 harg3 arg4 harg4 arg5 harg5 arg6 harg6 arg7 harg7 arg8 harg8 arg9 harg9 arg10 harg10 arg11 harg11 arg1 X2 X3 X4 X9 X10 k ++ pb11 (F := F) c i arg2 harg2 arg3 harg3 arg4 harg4 arg5 harg5 arg6 harg6 arg7 harg7 arg8 harg8 arg9 harg9 arg10 harg10 arg11 harg11 arg1 X2 X3 X4 X9 X10 k.val := by
  show (if h : k.val < k0_t1_loop.trips then _ else _) ++ _ = _
  rw [dif_pos k.isLt]

/-- The scaled key scales after the heads before `k`. -/
abbrev G11 (c : Dev nD) (i : grid0.Coords) (arg2 : Memref sig .tc .smem S40 .f32) (harg2 : arg2.IsWhole) (arg3 : Memref sig .tc .vmem S1x2048x640 .fp8e4m3) (harg3 : arg3.IsWhole) (arg4 : Memref sig .tc .vmem S1x2048x128 .fp8e4m3) (harg4 : arg4.IsWhole) (arg5 : Memref sig .tc .vmem S1x2048x128 .fp8e4m3) (harg5 : arg5.IsWhole) (arg6 : Memref sig .tc .vmem S1x1x1x2048 .f32) (harg6 : arg6.IsWhole) (arg7 : Memref sig .tc .vmem S1x1x1x2048 .f32) (harg7 : arg7.IsWhole) (arg8 : Memref sig .tc .vmem S1x2048x640 .bf16) (harg8 : arg8.IsWhole) (arg9 : Memref sig .tc .vmem S128x2048 .bf16) (harg9 : arg9.IsWhole) (arg10 : Memref sig .tc .vmem S2048x128 .f32) (harg10 : arg10.IsWhole) (arg11 : Memref sig .tc .vmem S2048x128 .f32) (harg11 : arg11.IsWhole) (arg1 : BitVec 32) (X2 : BufTy.Contents (Elt F) arg2.view.ty) (X3 : BufTy.Contents (Elt F) arg3.view.ty) (X4 : BufTy.Contents (Elt F) arg4.view.ty) (X9 : BufTy.Contents (Elt F) arg9.view.ty) (X10 : BufTy.Contents (Elt F) arg10.view.ty) (X11 : BufTy.Contents (Elt F) arg11.view.ty) (k : ℕ) : BufTy.Contents (Elt F) arg11.view.ty :=
  arg11.view.writes (Elt F) X11 (pb11 (F := F) c i arg2 harg2 arg3 harg3 arg4 harg4 arg5 harg5 arg6 harg6 arg7 harg7 arg8 harg8 arg9 harg9 arg10 harg10 arg11 harg11 arg1 X2 X3 X4 X9 X10 k)

/-- The pieces the heads before `k` write into the output window, the last one first. -/
def pb1 (c : Dev nD) (i : grid0.Coords) (arg2 : Memref sig .tc .smem S40 .f32) (harg2 : arg2.IsWhole) (arg3 : Memref sig .tc .vmem S1x2048x640 .fp8e4m3) (harg3 : arg3.IsWhole) (arg4 : Memref sig .tc .vmem S1x2048x128 .fp8e4m3) (harg4 : arg4.IsWhole) (arg5 : Memref sig .tc .vmem S1x2048x128 .fp8e4m3) (harg5 : arg5.IsWhole) (arg6 : Memref sig .tc .vmem S1x1x1x2048 .f32) (harg6 : arg6.IsWhole) (arg7 : Memref sig .tc .vmem S1x1x1x2048 .f32) (harg7 : arg7.IsWhole) (arg8 : Memref sig .tc .vmem S1x2048x640 .bf16) (harg8 : arg8.IsWhole) (arg9 : Memref sig .tc .vmem S128x2048 .bf16) (harg9 : arg9.IsWhole) (arg10 : Memref sig .tc .vmem S2048x128 .f32) (harg10 : arg10.IsWhole) (arg11 : Memref sig .tc .vmem S2048x128 .f32) (harg11 : arg11.IsWhole) (arg1 : BitVec 32) (v364 : BitVec 1) (X2 : BufTy.Contents (Elt F) arg2.view.ty) (X3 : BufTy.Contents (Elt F) arg3.view.ty) (X4 : BufTy.Contents (Elt F) arg4.view.ty) (X9 : BufTy.Contents (Elt F) arg9.view.ty) (X10 : BufTy.Contents (Elt F) arg10.view.ty) (X11 : BufTy.Contents (Elt F) arg11.view.ty) : ℕ → OutPieces F
  | 0 => []
  | k + 1 => (if h : k < k0_t1_loop.trips then headPieces (F := F) c i arg2 harg2 arg3 harg3 arg4 harg4 arg5 harg5 arg6 harg6 arg7 harg7 arg8 harg8 arg9 harg9 arg10 harg10 arg11 harg11 arg1 v364 X2 X3 X4 X9 X10
        (G11 (F := F) c i arg2 harg2 arg3 harg3 arg4 harg4 arg5 harg5 arg6 harg6 arg7 harg7 arg8 harg8 arg9 harg9 arg10 harg10 arg11 harg11 arg1 X2 X3 X4 X9 X10 X11 (k + 1)) ⟨k, h⟩ else [])
      ++ pb1 c i arg2 harg2 arg3 harg3 arg4 harg4 arg5 harg5 arg6 harg6 arg7 harg7 arg8 harg8 arg9 harg9 arg10 harg10 arg11 harg11 arg1 v364 X2 X3 X4 X9 X10 X11 k

theorem pb1_succ (c : Dev nD) (i : grid0.Coords) (arg2 : Memref sig .tc .smem S40 .f32) (harg2 : arg2.IsWhole) (arg3 : Memref sig .tc .vmem S1x2048x640 .fp8e4m3) (harg3 : arg3.IsWhole) (arg4 : Memref sig .tc .vmem S1x2048x128 .fp8e4m3) (harg4 : arg4.IsWhole) (arg5 : Memref sig .tc .vmem S1x2048x128 .fp8e4m3) (harg5 : arg5.IsWhole) (arg6 : Memref sig .tc .vmem S1x1x1x2048 .f32) (harg6 : arg6.IsWhole) (arg7 : Memref sig .tc .vmem S1x1x1x2048 .f32) (harg7 : arg7.IsWhole) (arg8 : Memref sig .tc .vmem S1x2048x640 .bf16) (harg8 : arg8.IsWhole) (arg9 : Memref sig .tc .vmem S128x2048 .bf16) (harg9 : arg9.IsWhole) (arg10 : Memref sig .tc .vmem S2048x128 .f32) (harg10 : arg10.IsWhole) (arg11 : Memref sig .tc .vmem S2048x128 .f32) (harg11 : arg11.IsWhole) (arg1 : BitVec 32) (v364 : BitVec 1) (X2 : BufTy.Contents (Elt F) arg2.view.ty) (X3 : BufTy.Contents (Elt F) arg3.view.ty) (X4 : BufTy.Contents (Elt F) arg4.view.ty) (X9 : BufTy.Contents (Elt F) arg9.view.ty) (X10 : BufTy.Contents (Elt F) arg10.view.ty) (X11 : BufTy.Contents (Elt F) arg11.view.ty) (k : Fin k0_t1_loop.trips) :
    pb1 (F := F) c i arg2 harg2 arg3 harg3 arg4 harg4 arg5 harg5 arg6 harg6 arg7 harg7 arg8 harg8 arg9 harg9 arg10 harg10 arg11 harg11 arg1 v364 X2 X3 X4 X9 X10 X11 (k.val + 1)
      = headPieces (F := F) c i arg2 harg2 arg3 harg3 arg4 harg4 arg5 harg5 arg6 harg6 arg7 harg7 arg8 harg8 arg9 harg9 arg10 harg10 arg11 harg11 arg1 v364 X2 X3 X4 X9 X10 (G11 (F := F) c i arg2 harg2 arg3 harg3 arg4 harg4 arg5 harg5 arg6 harg6 arg7 harg7 arg8 harg8 arg9 harg9 arg10 harg10 arg11 harg11 arg1 X2 X3 X4 X9 X10 X11 (k.val + 1)) k
        ++ pb1 (F := F) c i arg2 harg2 arg3 harg3 arg4 harg4 arg5 harg5 arg6 harg6 arg7 harg7 arg8 harg8 arg9 harg9 arg10 harg10 arg11 harg11 arg1 v364 X2 X3 X4 X9 X10 X11 k.val := by
  show (if h : k.val < k0_t1_loop.trips then _ else _) ++ _ = _
  rw [dif_pos k.isLt]

/-- Before head `k`. -/
abbrev inv1 (c : Dev nD) (i : grid0.Coords) (arg2 : Memref sig .tc .smem S40 .f32) (harg2 : arg2.IsWhole) (arg3 : Memref sig .tc .vmem S1x2048x640 .fp8e4m3) (harg3 : arg3.IsWhole) (arg4 : Memref sig .tc .vmem S1x2048x128 .fp8e4m3) (harg4 : arg4.IsWhole) (arg5 : Memref sig .tc .vmem S1x2048x128 .fp8e4m3) (harg5 : arg5.IsWhole) (arg6 : Memref sig .tc .vmem S1x1x1x2048 .f32) (harg6 : arg6.IsWhole) (arg7 : Memref sig .tc .vmem S1x1x1x2048 .f32) (harg7 : arg7.IsWhole) (arg8 : Memref sig .tc .vmem S1x2048x640 .bf16) (harg8 : arg8.IsWhole) (arg9 : Memref sig .tc .vmem S128x2048 .bf16) (harg9 : arg9.IsWhole) (arg10 : Memref sig .tc .vmem S2048x128 .f32) (harg10 : arg10.IsWhole) (arg11 : Memref sig .tc .vmem S2048x128 .f32) (harg11 : arg11.IsWhole) (arg1 : BitVec 32) (v364 : BitVec 1) (X2 : BufTy.Contents (Elt F) arg2.view.ty) (X3 : BufTy.Contents (Elt F) arg3.view.ty) (X4 : BufTy.Contents (Elt F) arg4.view.ty) (X9 : BufTy.Contents (Elt F) arg9.view.ty) (X10 : BufTy.Contents (Elt F) arg10.view.ty)
    (X11 : BufTy.Contents (Elt F) arg11.view.ty) (G8 : BufTy.Contents (Elt F) arg8.view.ty) (k : ℕ) (_ : Unit) : sProp 𝕄G :=
  iprop(pt c arg2 X2 ∗ pt c arg3 X3 ∗ pt c arg4 X4 ∗ pt c arg9 X9 ∗ pt c arg10 X10
    ∗ (∃ f, pt c arg11 f ∗ ⌜f = G11 (F := F) c i arg2 harg2 arg3 harg3 arg4 harg4 arg5 harg5 arg6 harg6 arg7 harg7 arg8 harg8 arg9 harg9 arg10 harg10 arg11 harg11 arg1 X2 X3 X4 X9 X10 X11 k⌝)
    ∗ ∃ f, pt c arg8 f ∗ ⌜f = arg8.view.writes (Elt F) G8 (pb1 (F := F) c i arg2 harg2 arg3 harg3 arg4 harg4 arg5 harg5 arg6 harg6 arg7 harg7 arg8 harg8 arg9 harg9 arg10 harg10 arg11 harg11 arg1 v364 X2 X3 X4 X9 X10 X11 k)⌝)

set_option warn.classDefReducibility false in
/-- The loop over the heads, by that invariant. -/
@[sl_loop] noncomputable def loopInv_k0_t1 (c : Dev nD) (i : grid0.Coords) (arg2 : Memref sig .tc .smem S40 .f32) (harg2 : arg2.IsWhole) (arg3 : Memref sig .tc .vmem S1x2048x640 .fp8e4m3) (harg3 : arg3.IsWhole) (arg4 : Memref sig .tc .vmem S1x2048x128 .fp8e4m3) (harg4 : arg4.IsWhole) (arg5 : Memref sig .tc .vmem S1x2048x128 .fp8e4m3) (harg5 : arg5.IsWhole) (arg6 : Memref sig .tc .vmem S1x1x1x2048 .f32) (harg6 : arg6.IsWhole) (arg7 : Memref sig .tc .vmem S1x1x1x2048 .f32) (harg7 : arg7.IsWhole) (arg8 : Memref sig .tc .vmem S1x2048x640 .bf16) (harg8 : arg8.IsWhole) (arg9 : Memref sig .tc .vmem S128x2048 .bf16) (harg9 : arg9.IsWhole) (arg10 : Memref sig .tc .vmem S2048x128 .f32) (harg10 : arg10.IsWhole) (arg11 : Memref sig .tc .vmem S2048x128 .f32) (harg11 : arg11.IsWhole) (arg1 : BitVec 32) (v364 : BitVec 1) (X2 : BufTy.Contents (Elt F) arg2.view.ty) (X3 : BufTy.Contents (Elt F) arg3.view.ty) (X4 : BufTy.Contents (Elt F) arg4.view.ty) (X9 : BufTy.Contents (Elt F) arg9.view.ty) (X10 : BufTy.Contents (Elt F) arg10.view.ty)
    (X11 : BufTy.Contents (Elt F) arg11.view.ty) (G8 : BufTy.Contents (Elt F) arg8.view.ty) :
    LoopInvTy_k0_t1 (F := F) Unit ℕ (UR sig nD τ) ℕ Variants.none c none Set.univ i arg2 harg2 arg3 harg3 arg4 harg4 arg5 harg5 arg6 harg6 arg7 harg7 arg8 harg8 arg9 harg9 arg10 harg10 arg11 harg11 arg1 v364 where
  inv := inv1 (F := F) c i arg2 harg2 arg3 harg3 arg4 harg4 arg5 harg5 arg6 harg6 arg7 harg7 arg8 harg8 arg9 harg9 arg10 harg10 arg11 harg11 arg1 v364 X2 X3 X4 X9 X10 X11 G8
  step k acc := by
    iintro ⟨H2, H3, H4, H9, H10, ⟨%f11, H11, %hf11⟩, %f, H8, %hf⟩
    subst hf; subst hf11
    have h := trip1 (F := F) c i arg2 harg2 arg3 harg3 arg4 harg4 arg5 harg5 arg6 harg6 arg7 harg7 arg8 harg8 arg9 harg9 arg10 harg10 arg11 harg11 arg1 v364 X2 X3 X4 X9 X10 k
      (G11 (F := F) c i arg2 harg2 arg3 harg3 arg4 harg4 arg5 harg5 arg6 harg6 arg7 harg7 arg8 harg8 arg9 harg9 arg10 harg10 arg11 harg11 arg1 X2 X3 X4 X9 X10 X11 k.val)
      (arg8.view.writes (Elt F) G8 (pb1 (F := F) c i arg2 harg2 arg3 harg3 arg4 harg4 arg5 harg5 arg6 harg6 arg7 harg7 arg8 harg8 arg9 harg9 arg10 harg10 arg11 harg11 arg1 v364 X2 X3 X4 X9 X10 X11 k.val))
    rw [← View.writes_append, ← View.writes_append, ← pb11_succ, ← pb1_succ] at h
    iapply (wp_wand_r Idealize.ShloMosaic.frame (wpE (defs₀ (F := F)) Variants.none (c : Thread nD τ) none) Set.univ)
    isplitl [H2 H3 H4 H9 H10 H11 H8]
    · iapply h
      isplitl [H2]; · iexact H2
      isplitl [H3]; · iexact H3
      isplitl [H4]; · iexact H4
      isplitl [H9]; · iexact H9
      isplitl [H10]; · iexact H10
      isplitl [H11]; · iexact H11
      iexact H8
    · iintro %yld ⟨H2, H3, H4, H9, H10, H11, H8⟩
      isplitl [H2]; · iexact H2
      isplitl [H3]; · iexact H3
      isplitl [H4]; · iexact H4
      isplitl [H9]; · iexact H9
      isplitl [H10]; · iexact H10
      isplitl [H11]
      · iexists _
        isplitl [H11]; · iexact H11
        ipureintro; rfl
      iexists _
      isplitl [H8]; · iexact H8
      ipureintro; rfl

/-- What the body reads and writes. -/
abbrev Held (c : Dev nD) (arg2 : Memref sig .tc .smem S40 .f32) (arg3 : Memref sig .tc .vmem S1x2048x640 .fp8e4m3) (arg4 : Memref sig .tc .vmem S1x2048x128 .fp8e4m3) (arg5 : Memref sig .tc .vmem S1x2048x128 .fp8e4m3) (arg6 arg7 : Memref sig .tc .vmem S1x1x1x2048 .f32) (arg8 : Memref sig .tc .vmem S1x2048x640 .bf16) (arg9 : Memref sig .tc .vmem S128x2048 .bf16) (arg10 arg11 : Memref sig .tc .vmem S2048x128 .f32)
    (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X9 : BufTy.Contents (Elt F) arg9.view.ty) (X10 : BufTy.Contents (Elt F) arg10.view.ty)
    (X11 : BufTy.Contents (Elt F) arg11.view.ty) (f : BufTy.Contents (Elt F) arg8.view.ty) : sProp 𝕄G :=
  iprop(pt c arg2 X2 ∗ pt c arg3 X3 ∗ pt c arg4 X4 ∗ pt c arg5 X5 ∗ pt c arg6 X6 ∗ pt c arg7 X7 ∗ pt c arg8 f ∗ pt c arg9 X9 ∗ pt c arg10 X10 ∗ pt c arg11 X11)

/-- The body: the pieces it writes into the transposed values and into the key scales, the head group and the test of the
    value scales it finds; what it then writes into the output window follows by the heads' recursion. -/
@[irreducible] def body (c : Dev nD) (i : grid0.Coords) (arg2 : Memref sig .tc .smem S40 .f32) (harg2 : arg2.IsWhole) (arg3 : Memref sig .tc .vmem S1x2048x640 .fp8e4m3) (harg3 : arg3.IsWhole) (arg4 : Memref sig .tc .vmem S1x2048x128 .fp8e4m3) (harg4 : arg4.IsWhole) (arg5 : Memref sig .tc .vmem S1x2048x128 .fp8e4m3) (harg5 : arg5.IsWhole) (arg6 : Memref sig .tc .vmem S1x1x1x2048 .f32) (harg6 : arg6.IsWhole) (arg7 : Memref sig .tc .vmem S1x1x1x2048 .f32) (harg7 : arg7.IsWhole) (arg8 : Memref sig .tc .vmem S1x2048x640 .bf16) (harg8 : arg8.IsWhole) (arg9 : Memref sig .tc .vmem S128x2048 .bf16) (harg9 : arg9.IsWhole) (arg10 : Memref sig .tc .vmem S2048x128 .f32) (harg10 : arg10.IsWhole) (arg11 : Memref sig .tc .vmem S2048x128 .f32) (harg11 : arg11.IsWhole)
    (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) :
    Σ' (L9 : List (View.Piece (Elt F) S128x2048 .bf16)) (L10 : List (View.Piece (Elt F) S2048x128 .f32)) (a1 : BitVec 32),
    { v : BitVec 1 // ∀ (X9 : BufTy.Contents (Elt F) arg9.view.ty) (X10 : BufTy.Contents (Elt F) arg10.view.ty)
        (X11 : BufTy.Contents (Elt F) arg11.view.ty) (f : BufTy.Contents (Elt F) arg8.view.ty),
      Held (F := F) c arg2 arg3 arg4 arg5 arg6 arg7 arg8 arg9 arg10 arg11 X2 X3 X4 X5 X6 X7 X9 X10 X11 f
      ⊢ wp frame (wpE (defs₀ (F := F)) Variants.none (c : Thread nD τ) none) Set.univ (cc0_gqa_fp8_prefill (F := F) i arg2 harg2 arg3 harg3 arg4 harg4 arg5 harg5 arg6 harg6 arg7 harg7 arg8 harg8 arg9 harg9 arg10 harg10 arg11 harg11)
          (fun _ => Held (F := F) c arg2 arg3 arg4 arg5 arg6 arg7 arg8 arg9 arg10 arg11 X2 X3 X4 X5 X6 X7
            (arg9.view.writes (Elt F) arg9.view.junk L9) (arg10.view.writes (Elt F) arg10.view.junk L10)
            (G11 (F := F) c i arg2 harg2 arg3 harg3 arg4 harg4 arg5 harg5 arg6 harg6 arg7 harg7 arg8 harg8 arg9 harg9 arg10 harg10 arg11 harg11 a1 X2 X3 X4 (arg9.view.writes (Elt F) arg9.view.junk L9) (arg10.view.writes (Elt F) arg10.view.junk L10) X11 k0_t1_loop.trips)
            (arg8.view.writes (Elt F) f (pb1 (F := F) c i arg2 harg2 arg3 harg3 arg4 harg4 arg5 harg5 arg6 harg6 arg7 harg7 arg8 harg8 arg9 harg9 arg10 harg10 arg11 harg11 a1 v X2 X3 X4 (arg9.view.writes (Elt F) arg9.view.junk L9) (arg10.view.writes (Elt F) arg10.view.junk L10) X11 k0_t1_loop.trips))) } := by
  refine ⟨?_, ?_, ?_, ?_, fun X9 X10 X11 f => ?run⟩
  case run =>
    rw [cc0_gqa_fp8_prefill_eq_skeleton]; unfold cc0_gqa_fp8_prefill_skel
    iintro ⟨H2, H3, H4, H5, H6, H7, H8, H9, H10, H11⟩
    sl_exec
    sl_step
    sl_close

end Cert.Proof.Kernel

end
-- ==== Proof.KernelRun.lean ====
/-
  The run of `Kernel`: the pipeline's proof data, the body at a grid point, and the frame — every argument array as it was,
  every counter at zero.
-/
module

public import proofs.«01_k».proof.Proof.KernelBody
public import proofs.«01_k».proof.Proof.Gen.Kernel.Frame

@[expose] public section

set_option maxRecDepth 16384
set_option maxHeartbeats 400000

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf RDat)

variable {F : FTy → Type} [FloatOps F]

local notation "𝕄G" => MT nD τ sig Unit (Elt F) ℕ (UR sig nD τ) ℕ

/-- A whole buffer's points-to. -/
theorem pt_whole (c : Dev nD) (b : Ref sig .tc) (f : Buf (Elt F) ((c : Thread nD τ).loc b)) :
    (pt (F := F) c (Memref.whole b) f : sProp 𝕄G) = (((c : Thread nD τ).loc b) ↦{fullShare} f) := by
  show (_ ↦[(View.whole b).set]{fullShare} f) = _
  rw [View.set_whole]

/-- `X` is what one run of the body leaves in the output window where it finds the blocks `x2` … `x7` in the input windows. -/
def Left (c : Dev nD) (i : grid0.Coords) (arg2 : Memref sig .tc .smem S40 .f32) (harg2 : arg2.IsWhole) (arg3 : Memref sig .tc .vmem S1x2048x640 .fp8e4m3) (harg3 : arg3.IsWhole) (arg4 : Memref sig .tc .vmem S1x2048x128 .fp8e4m3) (harg4 : arg4.IsWhole) (arg5 : Memref sig .tc .vmem S1x2048x128 .fp8e4m3) (harg5 : arg5.IsWhole) (arg6 : Memref sig .tc .vmem S1x1x1x2048 .f32) (harg6 : arg6.IsWhole) (arg7 : Memref sig .tc .vmem S1x1x1x2048 .f32) (harg7 : arg7.IsWhole) (arg8 : Memref sig .tc .vmem S1x2048x640 .bf16) (harg8 : arg8.IsWhole) (arg9 : Memref sig .tc .vmem S128x2048 .bf16) (harg9 : arg9.IsWhole) (arg10 : Memref sig .tc .vmem S2048x128 .f32) (harg10 : arg10.IsWhole) (arg11 : Memref sig .tc .vmem S2048x128 .f32) (harg11 : arg11.IsWhole)
    (x2 : Vec F S40 .f32) (x3 : Vec F S1x2048x640 .fp8e4m3) (x4 x5 : Vec F S1x2048x128 .fp8e4m3) (x6 x7 : Vec F S1x1x1x2048 .f32)
    (X : Vec F S1x2048x640 .bf16) : Prop :=
  ∃ (X2 : BufTy.Contents (Elt F) arg2.view.ty) (X3 : BufTy.Contents (Elt F) arg3.view.ty) (X4 : BufTy.Contents (Elt F) arg4.view.ty)
    (X5 : BufTy.Contents (Elt F) arg5.view.ty) (X6 : BufTy.Contents (Elt F) arg6.view.ty) (X7 : BufTy.Contents (Elt F) arg7.view.ty)
    (X11 : BufTy.Contents (Elt F) arg11.view.ty) (f : BufTy.Contents (Elt F) arg8.view.ty),
    (arg2.view.read (Elt F) X2 = x2 ∧ arg3.view.read (Elt F) X3 = x3 ∧ arg4.view.read (Elt F) X4 = x4
      ∧ arg5.view.read (Elt F) X5 = x5 ∧ arg6.view.read (Elt F) X6 = x6 ∧ arg7.view.read (Elt F) X7 = x7)
    ∧ X = arg8.view.read (Elt F) (arg8.view.writes (Elt F) f (pb1 (F := F) c i arg2 harg2 arg3 harg3 arg4 harg4 arg5 harg5 arg6 harg6 arg7 harg7 arg8 harg8 arg9 harg9 arg10 harg10 arg11 harg11
        (body (F := F) c i arg2 harg2 arg3 harg3 arg4 harg4 arg5 harg5 arg6 harg6 arg7 harg7 arg8 harg8 arg9 harg9 arg10 harg10 arg11 harg11 X2 X3 X4 X5 X6 X7).2.2.1 (body (F := F) c i arg2 harg2 arg3 harg3 arg4 harg4 arg5 harg5 arg6 harg6 arg7 harg7 arg8 harg8 arg9 harg9 arg10 harg10 arg11 harg11 X2 X3 X4 X5 X6 X7).2.2.2.1 X2 X3 X4
        (arg9.view.writes (Elt F) arg9.view.junk (body (F := F) c i arg2 harg2 arg3 harg3 arg4 harg4 arg5 harg5 arg6 harg6 arg7 harg7 arg8 harg8 arg9 harg9 arg10 harg10 arg11 harg11 X2 X3 X4 X5 X6 X7).1)
        (arg10.view.writes (Elt F) arg10.view.junk (body (F := F) c i arg2 harg2 arg3 harg3 arg4 harg4 arg5 harg5 arg6 harg6 arg7 harg7 arg8 harg8 arg9 harg9 arg10 harg10 arg11 harg11 X2 X3 X4 X5 X6 X7).2.1) X11 k0_t1_loop.trips))

/-- The body over owned windows and scratch buffers. -/
theorem body_owns (c : Dev nD) (i : grid0.Coords) (arg2 : Memref sig .tc .smem S40 .f32) (harg2 : arg2.IsWhole) (arg3 : Memref sig .tc .vmem S1x2048x640 .fp8e4m3) (harg3 : arg3.IsWhole) (arg4 : Memref sig .tc .vmem S1x2048x128 .fp8e4m3) (harg4 : arg4.IsWhole) (arg5 : Memref sig .tc .vmem S1x2048x128 .fp8e4m3) (harg5 : arg5.IsWhole) (arg6 : Memref sig .tc .vmem S1x1x1x2048 .f32) (harg6 : arg6.IsWhole) (arg7 : Memref sig .tc .vmem S1x1x1x2048 .f32) (harg7 : arg7.IsWhole) (arg8 : Memref sig .tc .vmem S1x2048x640 .bf16) (harg8 : arg8.IsWhole) (arg9 : Memref sig .tc .vmem S128x2048 .bf16) (harg9 : arg9.IsWhole) (arg10 : Memref sig .tc .vmem S2048x128 .f32) (harg10 : arg10.IsWhole) (arg11 : Memref sig .tc .vmem S2048x128 .f32) (harg11 : arg11.IsWhole)
    (x2 : Vec F S40 .f32) (x3 : Vec F S1x2048x640 .fp8e4m3) (x4 x5 : Vec F S1x2048x128 .fp8e4m3) (x6 x7 : Vec F S1x1x1x2048 .f32)
    (X : Vec F S1x2048x640 .bf16) :
    iprop(owns (c : Thread nD τ) arg2 fullShare x2 ∗ owns (c : Thread nD τ) arg3 fullShare x3 ∗ owns (c : Thread nD τ) arg4 fullShare x4
      ∗ owns (c : Thread nD τ) arg5 fullShare x5 ∗ owns (c : Thread nD τ) arg6 fullShare x6 ∗ owns (c : Thread nD τ) arg7 fullShare x7
      ∗ owns (c : Thread nD τ) arg8 fullShare X
      ∗ (∃ f, pt (F := F) c arg9 f) ∗ (∃ f, pt (F := F) c arg10 f) ∗ (∃ f, pt (F := F) c arg11 f))
    ⊢ wp frame (wpE (defs₀ (F := F)) Variants.none (c : Thread nD τ) none) Set.univ (cc0_gqa_fp8_prefill (F := F) i arg2 harg2 arg3 harg3 arg4 harg4 arg5 harg5 arg6 harg6 arg7 harg7 arg8 harg8 arg9 harg9 arg10 harg10 arg11 harg11)
      (fun _ => iprop(owns (c : Thread nD τ) arg2 fullShare x2 ∗ owns (c : Thread nD τ) arg3 fullShare x3 ∗ owns (c : Thread nD τ) arg4 fullShare x4
        ∗ owns (c : Thread nD τ) arg5 fullShare x5 ∗ owns (c : Thread nD τ) arg6 fullShare x6 ∗ owns (c : Thread nD τ) arg7 fullShare x7
        ∗ (∃ X, ⌜Left (F := F) c i arg2 harg2 arg3 harg3 arg4 harg4 arg5 harg5 arg6 harg6 arg7 harg7 arg8 harg8 arg9 harg9 arg10 harg10 arg11 harg11 x2 x3 x4 x5 x6 x7 X⌝ ∗ owns (c : Thread nD τ) arg8 fullShare X)
        ∗ (∃ f, pt (F := F) c arg9 f) ∗ (∃ f, pt (F := F) c arg10 f) ∗ (∃ f, pt (F := F) c arg11 f))) := by
  unfold owns
  iintro ⟨⟨%X2, %h2, H2⟩, ⟨%X3, %h3, H3⟩, ⟨%X4, %h4, H4⟩, ⟨%X5, %h5, H5⟩, ⟨%X6, %h6, H6⟩, ⟨%X7, %h7, H7⟩, ⟨%f, -, H8⟩, ⟨%X9, H9⟩, ⟨%X10, H10⟩, ⟨%X11, H11⟩⟩
  iapply (wp_wand_r Idealize.ShloMosaic.frame (wpE (defs₀ (F := F)) Variants.none (c : Thread nD τ) none) Set.univ)
  isplitl [H2 H3 H4 H5 H6 H7 H8 H9 H10 H11]
  · iapply ((body (F := F) c i arg2 harg2 arg3 harg3 arg4 harg4 arg5 harg5 arg6 harg6 arg7 harg7 arg8 harg8 arg9 harg9 arg10 harg10 arg11 harg11 X2 X3 X4 X5 X6 X7).2.2.2.2 X9 X10 X11 f)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  iintro %y ⟨H2, H3, H4, H5, H6, H7, H8, H9, H10, H11⟩
  isplitl [H2]; · iexists _; isplitr; swap; (· iexact H2); ipureintro; exact h2
  isplitl [H3]; · iexists _; isplitr; swap; (· iexact H3); ipureintro; exact h3
  isplitl [H4]; · iexists _; isplitr; swap; (· iexact H4); ipureintro; exact h4
  isplitl [H5]; · iexists _; isplitr; swap; (· iexact H5); ipureintro; exact h5
  isplitl [H6]; · iexists _; isplitr; swap; (· iexact H6); ipureintro; exact h6
  isplitl [H7]; · iexists _; isplitr; swap; (· iexact H7); ipureintro; exact h7
  isplitl [H8]
  · iexists _; isplitr
    swap
    · iexists _; isplitr; swap; (· iexact H8); ipureintro; rfl
    ipureintro
    exact ⟨X2, X3, X4, X5, X6, X7, X11, f, ⟨h2, h3, h4, h5, h6, h7⟩, rfl⟩
  isplitl [H9]; · iexists _; iexact H9
  isplitl [H10]; · iexists _; iexact H10
  iexists _; iexact H11

variable (m : (ℓ : Loc nD τ sig) → Buf (Elt F) ℓ) (ρ : Dev nD → PrngReg)

/-- The proof data of the one pipeline on core `c`, the output window's buffer after the body at `out`: the arrays as the
    region finds them, each input window's buffer at its block, the scratch buffers at something, nothing owed. -/
def dats (out : (c : Dev nD) → (t : Fin cfg0.N) → Vec F S1x2048x640 .bf16) (_ : Fin 1) (c : Dev nD) :
    Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out c t
  Φ _ := Pipeline.ΦA spec0 c
  q _ := fullShare
  owed _ := 0

variable (out : (c : Dev nD) → (t : Fin cfg0.N) → Vec F S1x2048x640 .bf16)

theorem A_eq (c : Dev nD) (w : Fin cfg0.W) : (dats m out 0 c).A w = V m c (Pipeline.arrRef spec0 w) := by dsimp only [dats]
theorem after0_0 (c : Dev nD) (t : Fin cfg0.N) : (dats m out 0 c).after 0 t = iblk m c 0 t := by dsimp only [dats]
theorem after0_1 (c : Dev nD) (t : Fin cfg0.N) : (dats m out 0 c).after 1 t = iblk m c 1 t := by dsimp only [dats]
theorem after0_2 (c : Dev nD) (t : Fin cfg0.N) : (dats m out 0 c).after 2 t = iblk m c 2 t := by dsimp only [dats]
theorem after0_3 (c : Dev nD) (t : Fin cfg0.N) : (dats m out 0 c).after 3 t = iblk m c 3 t := by dsimp only [dats]
theorem after0_4 (c : Dev nD) (t : Fin cfg0.N) : (dats m out 0 c).after 4 t = iblk m c 4 t := by dsimp only [dats]
theorem after0_5 (c : Dev nD) (t : Fin cfg0.N) : (dats m out 0 c).after 5 t = iblk m c 5 t := by dsimp only [dats]
theorem after0_6 (c : Dev nD) (t : Fin cfg0.N) : (dats m out 0 c).after 6 t = out c t := by dsimp only [dats]

theorem before0_0 (c : Dev nD) (t : Fin cfg0.N) (d) : (dats m out 0 c).before 0 t d = iblk m c 0 t := before0_0_of m _ (A_eq m out c 0) (after0_0 m out c) t d
theorem before0_1 (c : Dev nD) (t : Fin cfg0.N) (d) : (dats m out 0 c).before 1 t d = iblk m c 1 t := before0_1_of m _ (A_eq m out c 1) (after0_1 m out c) t d
theorem before0_2 (c : Dev nD) (t : Fin cfg0.N) (d) : (dats m out 0 c).before 2 t d = iblk m c 2 t := before0_2_of m _ (A_eq m out c 2) (after0_2 m out c) t d
theorem before0_3 (c : Dev nD) (t : Fin cfg0.N) (d) : (dats m out 0 c).before 3 t d = iblk m c 3 t := before0_3_of m _ (A_eq m out c 3) (after0_3 m out c) t d
theorem before0_4 (c : Dev nD) (t : Fin cfg0.N) (d) : (dats m out 0 c).before 4 t d = iblk m c 4 t := before0_4_of m _ (A_eq m out c 4) (after0_4 m out c) t d
theorem before0_5 (c : Dev nD) (t : Fin cfg0.N) (d) : (dats m out 0 c).before 5 t d = iblk m c 5 t := before0_5_of m _ (A_eq m out c 5) (after0_5 m out c) t d

/-- What the body leaves in the output window at point `t`. -/
def LeftAt (c : Dev nD) (t : Fin cfg0.N) (X : Vec F S1x2048x640 .bf16) : Prop :=
  Left (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole cc0_scratch0) (Memref.isWhole_whole _) (Memref.whole cc0_scratch1) (Memref.isWhole_whole _) (Memref.whole cc0_scratch2) (Memref.isWhole_whole _)
    (iblk m c 0 t) (iblk m c 1 t) (iblk m c 2 t) (iblk m c 3 t) (iblk m c 4 t) (iblk m c 5 t) X

/-- What the body takes at a point, the output window's buffer as `L`, -/
def bodyPre (c : Dev nD) (t : Fin cfg0.N) (L : sProp 𝕄G) : sProp 𝕄G :=
  iprop((dats m out 0 c).Φ t.castSucc ∗ (dats m out 0 c).owesAt () t.castSucc
    ∗ (∃ d, owns (c : Thread nD τ) (st0_0 t) fullShare ((dats m out 0 c).before 0 t d))
    ∗ (∃ d, owns (c : Thread nD τ) (st0_1 t) fullShare ((dats m out 0 c).before 1 t d))
    ∗ (∃ d, owns (c : Thread nD τ) (st0_2 t) fullShare ((dats m out 0 c).before 2 t d))
    ∗ (∃ d, owns (c : Thread nD τ) (st0_3 t) fullShare ((dats m out 0 c).before 3 t d))
    ∗ (∃ d, owns (c : Thread nD τ) (st0_4 t) fullShare ((dats m out 0 c).before 4 t d))
    ∗ (∃ d, owns (c : Thread nD τ) (st0_5 t) fullShare ((dats m out 0 c).before 5 t d))
    ∗ L)

/-- and what it leaves. -/
def bodyPost (c : Dev nD) (t : Fin cfg0.N) (L : sProp 𝕄G) : sProp 𝕄G :=
  iprop((dats m out 0 c).Φ t.succ ∗ (dats m out 0 c).owesAt () t.succ
    ∗ owns (c : Thread nD τ) (st0_0 t) fullShare ((dats m out 0 c).after 0 t)
    ∗ owns (c : Thread nD τ) (st0_1 t) fullShare ((dats m out 0 c).after 1 t)
    ∗ owns (c : Thread nD τ) (st0_2 t) fullShare ((dats m out 0 c).after 2 t)
    ∗ owns (c : Thread nD τ) (st0_3 t) fullShare ((dats m out 0 c).after 3 t)
    ∗ owns (c : Thread nD τ) (st0_4 t) fullShare ((dats m out 0 c).after 4 t)
    ∗ owns (c : Thread nD τ) (st0_5 t) fullShare ((dats m out 0 c).after 5 t)
    ∗ L)

theorem sound_body (c : Dev nD) (t : Fin cfg0.N) (L L' : sProp 𝕄G)
    (hL : L ⊢ iprop(∃ X, owns (c : Thread nD τ) (st0_6 t) fullShare X))
    (hL' : ∀ X, LeftAt m c t X → owns (c : Thread nD τ) (st0_6 t) fullShare X ⊢ L') :
    bodyPre m out c t L ⊢ wp frame (wpE (defs₀ (F := F)) Variants.none (c : Thread nD τ) none) Set.univ (bodyAt0 t) (fun _ => bodyPost m out c t L') := by
  unfold bodyPre bodyPost bodyAt0
  rw [show (dats m out 0 c).Φ t.succ = (dats m out 0 c).Φ t.castSucc from rfl, after0_0, after0_1, after0_2, after0_3, after0_4, after0_5]
  rw [show (dats m out 0 c).Φ t.castSucc = Pipeline.ΦA spec0 c from rfl]
  unfold Pipeline.ΦA
  rw [scopedRest0_eq]
  unfold Dat.owesAt Pipeline.owesWithin
  rw [show (dats m out 0 c).owed t.castSucc = 0 from rfl, show (dats m out 0 c).owed t.succ = 0 from rfl]
  simp only [before0_0, before0_1, before0_2, before0_3, before0_4, before0_5]
  iintro ⟨⟨⟨⟨%f9, H9⟩, ⟨%f10, H10⟩, ⟨%f11, H11⟩⟩, Hg⟩, HO, ⟨%d0, H0⟩, ⟨%d1, H1⟩, ⟨%d2, H2⟩, ⟨%d3, H3⟩, ⟨%d4, H4⟩, ⟨%d5, H5⟩, H6⟩
  icases hL $$ H6 with ⟨%X, H6⟩
  iapply (wp_wand_r Idealize.ShloMosaic.frame (wpE (defs₀ (F := F)) Variants.none (c : Thread nD τ) none) Set.univ)
  isplitl [H0 H1 H2 H3 H4 H5 H6 H9 H10 H11]
  · iapply (body_owns (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole cc0_scratch0) (Memref.isWhole_whole _) (Memref.whole cc0_scratch1) (Memref.isWhole_whole _) (Memref.whole cc0_scratch2) (Memref.isWhole_whole _)
      (iblk m c 0 t) (iblk m c 1 t) (iblk m c 2 t) (iblk m c 3 t) (iblk m c 4 t) (iblk m c 5 t) X)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H9]; · iexists f9; rw [pt_whole]; exact .rfl
    isplitl [H10]; · iexists f10; rw [pt_whole]; exact .rfl
    iexists f11; rw [pt_whole]; exact .rfl
  iintro %y ⟨H0, H1, H2, H3, H4, H5, ⟨%Y, %hY, H6⟩, ⟨%g9, H9⟩, ⟨%g10, H10⟩, ⟨%g11, H11⟩⟩
  isplitl [H9 H10 H11 Hg]
  · isplitl [H9 H10 H11]
    · isplitl [H9]; · iexists g9; rw [pt_whole]; exact .rfl
      isplitl [H10]; · iexists g10; rw [pt_whole]; exact .rfl
      iexists g11; rw [pt_whole]; exact .rfl
    iexact Hg
  isplitl [HO]; · iexact HO
  isplitl [H0]; · iexact H0
  isplitl [H1]; · iexact H1
  isplitl [H2]; · iexact H2
  isplitl [H3]; · iexact H3
  isplitl [H4]; · iexact H4
  isplitl [H5]; · iexact H5
  iapply (hL' Y hY)
  iexact H6

theorem defs₀_row (t : Fin cfg0.N) :
    defs₀ (F := F) .tc cfg0.body (cfg0.bodyArgs t (cfg0.slots t)) = bodyAt0 t := by
  unfold defs₀; rw [Defs.onTc_tc]

/-- The output window forgotten: the frame reads nothing of it. -/
def fgt (w : Fin cfg0.W) : Bool := match w with
  | ⟨6, _⟩ => true
  | _ => false

/-- The pipeline's body obligation, the output window forgotten. -/
theorem body_obligation_fgt (c : Dev nD) : BodyObligation (dats (F := F) m out 0 c) (defs₀ (F := F)) Variants.none () Set.univ fgt := fun t => by
  rw [bigSep_W0, bigSep_W0, defs₀_row]
  exact triple_restated (sound_body m out c t iprop(∃ X, owns (c : Thread nD τ) (st0_6 t) fullShare X) iprop(∃ X, owns (c : Thread nD τ) (st0_6 t) fullShare X)
    .rfl (fun X _ => by iintro H; iexists X; iexact H)) rfl .rfl fun _ => .rfl

/-- The pipeline's body obligation at the proof data's output contents, where the body leaves those. -/
theorem body_obligation (hout : ∀ c t X, LeftAt m c t X → X = out c t) (c : Dev nD) :
    BodyObligation (dats (F := F) m out 0 c) (defs₀ (F := F)) Variants.none () Set.univ := fun t => by
  rw [bigSep_W0, bigSep_W0, defs₀_row]
  exact triple_restated (sound_body m out c t iprop(∃ d, owns (c : Thread nD τ) (st0_6 t) fullShare ((dats m out 0 c).before 6 t d))
    (owns (c : Thread nD τ) (st0_6 t) fullShare ((dats m out 0 c).after 6 t))
    (by iintro ⟨%d, H⟩; iexists _; iexact H) (fun X hX => by rw [hout c t X hX, after0_6])) rfl .rfl fun _ => .rfl

set_option backward.isDefEq.respectTransparency.types false in
/-- The run, the output array at what the proof data computes. -/
theorem run_main (hout : ∀ c t X, LeftAt m c t X → X = out c t) :
    θ_run defs (onTc (τ := τ) (main (F := F))) (s₀ m ρ) (fun r => Pipeline.FramePost cfgs (dats m out) 0 (V m) r ∧ r.2.sem = fun _ => 0) :=
  Pipeline.θ_run_frame cfgs (dats m out) 0 launch0 defs₀ Variants.none m ρ main
    (hbody := fun c => (body_obligation m out hout c).loose) (hshare := fun c => (dats m out 0 c).share_full fun _ => rfl)
    (howed := fun _ _ => rfl) (V := V m) (hmain := hmain m Variants.none) (hA := A_eq m out) (hΦ := fun _ _ => rfl) (Q' := _) (hQ' := fun _ h => h)

/-- Contents not named. -/
abbrev outF (c : Dev nD) (t : Fin cfg0.N) : Vec F S1x2048x640 .bf16 := Dat.unnamed (cfg := cfg0) 6 t

/-- The proof data of the frame: nothing is said of the output. -/
abbrev datsF : (p : Fin 1) → (c : Dev nD) → Dat τ (Elt F) Unit ℕ (UR sig nD τ) ℕ cfg0 c :=
  dats m outF

set_option backward.isDefEq.respectTransparency.types false in
/-- The run, the output forgotten. -/
theorem run_fgt :
    θ_run defs (onTc (τ := τ) (main (F := F))) (s₀ m ρ) (fun r => RDat.FramePost cfg0 (fun c => (datsF m 0 c).toRForget fgt) (V m) r ∧ r.2.sem = fun _ => 0) :=
  Pipeline.θ_run_frame_forget cfgs (datsF m) 0 launch0 defs₀ Variants.none fgt m ρ main
    (hbody := fun c => (body_obligation_fgt m _ c).loose) (hshare := fun c => (datsF m 0 c).share_full fun _ => rfl)
    (howed := fun _ _ => rfl) (V := V m) (hmain := hmain m Variants.none) (hA := A_eq m outF) (hΦ := fun _ _ => rfl) (Q' := _) (hQ' := fun _ h => h)

/-- THE FRAME: every argument array as launched, every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => ⟨
      (h.1.arr_in c 1 rfl).trans ((A_eq m outF c 1).trans (V_main_arg0 m c)),
      (h.1.arr_in c 2 rfl).trans ((A_eq m outF c 2).trans (V_main_arg1 m c)),
      (h.1.arr_in c 3 rfl).trans ((A_eq m outF c 3).trans (V_main_arg2 m c)),
      (h.1.arr_in c 0 rfl).trans ((A_eq m outF c 0).trans (V_main_arg3 m c)),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c)⟩, h.2⟩) (run_fgt m ρ)

end Cert.Proof.Kernel

end
-- ==== Proof.KernelIdealLoops.lean ====
/-
  The counted loops of `KernelIdeal`'s kernel body that hold another loop: the blocks of query rows that the
  online softmax computes (`k0_t2_loop`), and the heads (`k0_t1_loop`). Each trip is run once, at a symbolic trip;
  what it writes is what the run finds, and the contents of the output window before trip `k` follow by recursion.
-/
module

public import proofs.«01_k».proof.Proof.Gen.KernelIdeal
public import proofs.«01_k».proof.Proof.Gen.KernelIdeal.Skeleton
public import proofs.«01_k».proof.Proof.Gen.KernelIdeal.Loops
public import Idealize.ShloMosaic.Lib.Tactic
public import Idealize.ShloMosaic.Lib.Pipeline.Kit

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

/-- Memref `M` held whole, on core `c`, at contents `f`. -/
abbrev pt (c : Dev nD) {sp : Space} {S : Shape} {e : EltTy} (M : Memref sig .tc sp S e) (f : BufTy.Contents (Elt F) M.view.ty) : sProp 𝕄G :=
  iprop(M.view.loc (c : Thread nD τ) ↦[M.view.set]{fullShare} f)

/-- Pieces written into the output window. -/
abbrev OutPieces (F : FTy → Type) : Type := List (View.Piece (Elt F) S1x2048x640 .bf16)

/-! ### The blocks of query rows of one head, by the online softmax -/

/-- What one block reads and writes. -/
abbrev Trip2 (c : Dev nD) (arg3 : Memref sig .tc .vmem S1x2048x640 .fp8e4m3) (arg4 : Memref sig .tc .vmem S1x2048x128 .fp8e4m3) (arg8 : Memref sig .tc .vmem S1x2048x640 .bf16) (arg9 : Memref sig .tc .vmem S128x2048 .bf16) (arg11 : Memref sig .tc .vmem S2048x128 .f32)
    (X3 : BufTy.Contents (Elt F) arg3.view.ty) (X4 : BufTy.Contents (Elt F) arg4.view.ty) (X9 : BufTy.Contents (Elt F) arg9.view.ty) (X11 : BufTy.Contents (Elt F) arg11.view.ty) (f : BufTy.Contents (Elt F) arg8.view.ty) : sProp 𝕄G :=
  iprop(pt c arg3 X3 ∗ pt c arg4 X4 ∗ pt c arg9 X9 ∗ pt c arg11 X11 ∗ pt c arg8 f)

/-- One block, run at a symbolic trip: the pieces it writes. -/
@[irreducible] def trip2 (c : Dev nD) (i : grid0.Coords) (arg2 : Memref sig .tc .smem S40 .f32) (harg2 : arg2.IsWhole) (arg3 : Memref sig .tc .vmem S1x2048x640 .fp8e4m3) (harg3 : arg3.IsWhole) (arg4 : Memref sig .tc .vmem S1x2048x128 .fp8e4m3) (harg4 : arg4.IsWhole) (arg5 : Memref sig .tc .vmem S1x2048x128 .fp8e4m3) (harg5 : arg5.IsWhole) (arg6 : Memref sig .tc .vmem S1x1x1x2048 .f32) (harg6 : arg6.IsWhole) (arg7 : Memref sig .tc .vmem S1x1x1x2048 .f32) (harg7 : arg7.IsWhole) (arg8 : Memref sig .tc .vmem S1x2048x640 .bf16) (harg8 : arg8.IsWhole) (arg9 : Memref sig .tc .vmem S128x2048 .bf16) (harg9 : arg9.IsWhole) (arg10 : Memref sig .tc .vmem S2048x128 .f32) (harg10 : arg10.IsWhole) (arg11 : Memref sig .tc .vmem S2048x128 .f32) (harg11 : arg11.IsWhole) (k0_t1 : Fin k0_t1_loop.trips)
    (X3 : BufTy.Contents (Elt F) arg3.view.ty) (X4 : BufTy.Contents (Elt F) arg4.view.ty) (X9 : BufTy.Contents (Elt F) arg9.view.ty) (X11 : BufTy.Contents (Elt F) arg11.view.ty) (k : Fin k0_t2_loop.trips) :
    { L : OutPieces F // ∀ (E : Set ℕ) (f : BufTy.Contents (Elt F) arg8.view.ty),
      Trip2 (F := F) c arg3 arg4 arg8 arg9 arg11 X3 X4 X9 X11 f
      ⊢ wp frame (wpE (defs₀ (F := F)) Variants.none (c : Thread nD τ) none) E (k0_t2_body (F := F) i arg2 harg2 arg3 harg3 arg4 harg4 arg5 harg5 arg6 harg6 arg7 harg7 arg8 harg8 arg9 harg9 arg10 harg10 arg11 harg11 k0_t1 k ())
          (fun _ => Trip2 (F := F) c arg3 arg4 arg8 arg9 arg11 X3 X4 X9 X11 (arg8.view.writes (Elt F) f L)) } := by
  refine ⟨?_, fun E f => ?run⟩
  case run =>
    unfold k0_t2_body
    iintro ⟨H3, H4, H9, H11, H8⟩
    sl_exec
    sl_step
    sl_close

/-- The pieces of the blocks before block `k`, the latest first. -/
def pb2 (c : Dev nD) (i : grid0.Coords) (arg2 : Memref sig .tc .smem S40 .f32) (harg2 : arg2.IsWhole) (arg3 : Memref sig .tc .vmem S1x2048x640 .fp8e4m3) (harg3 : arg3.IsWhole) (arg4 : Memref sig .tc .vmem S1x2048x128 .fp8e4m3) (harg4 : arg4.IsWhole) (arg5 : Memref sig .tc .vmem S1x2048x128 .fp8e4m3) (harg5 : arg5.IsWhole) (arg6 : Memref sig .tc .vmem S1x1x1x2048 .f32) (harg6 : arg6.IsWhole) (arg7 : Memref sig .tc .vmem S1x1x1x2048 .f32) (harg7 : arg7.IsWhole) (arg8 : Memref sig .tc .vmem S1x2048x640 .bf16) (harg8 : arg8.IsWhole) (arg9 : Memref sig .tc .vmem S128x2048 .bf16) (harg9 : arg9.IsWhole) (arg10 : Memref sig .tc .vmem S2048x128 .f32) (harg10 : arg10.IsWhole) (arg11 : Memref sig .tc .vmem S2048x128 .f32) (harg11 : arg11.IsWhole) (k0_t1 : Fin k0_t1_loop.trips)
    (X3 : BufTy.Contents (Elt F) arg3.view.ty) (X4 : BufTy.Contents (Elt F) arg4.view.ty) (X9 : BufTy.Contents (Elt F) arg9.view.ty) (X11 : BufTy.Contents (Elt F) arg11.view.ty) : ℕ → OutPieces F
  | 0 => []
  | k + 1 => (if h : k < k0_t2_loop.trips then (trip2 (F := F) c i arg2 harg2 arg3 harg3 arg4 harg4 arg5 harg5 arg6 harg6 arg7 harg7 arg8 harg8 arg9 harg9 arg10 harg10 arg11 harg11 k0_t1 X3 X4 X9 X11 ⟨k, h⟩).1 else [])
      ++ pb2 c i arg2 harg2 arg3 harg3 arg4 harg4 arg5 harg5 arg6 harg6 arg7 harg7 arg8 harg8 arg9 harg9 arg10 harg10 arg11 harg11 k0_t1 X3 X4 X9 X11 k

theorem pb2_succ (c : Dev nD) (i : grid0.Coords) (arg2 : Memref sig .tc .smem S40 .f32) (harg2 : arg2.IsWhole) (arg3 : Memref sig .tc .vmem S1x2048x640 .fp8e4m3) (harg3 : arg3.IsWhole) (arg4 : Memref sig .tc .vmem S1x2048x128 .fp8e4m3) (harg4 : arg4.IsWhole) (arg5 : Memref sig .tc .vmem S1x2048x128 .fp8e4m3) (harg5 : arg5.IsWhole) (arg6 : Memref sig .tc .vmem S1x1x1x2048 .f32) (harg6 : arg6.IsWhole) (arg7 : Memref sig .tc .vmem S1x1x1x2048 .f32) (harg7 : arg7.IsWhole) (arg8 : Memref sig .tc .vmem S1x2048x640 .bf16) (harg8 : arg8.IsWhole) (arg9 : Memref sig .tc .vmem S128x2048 .bf16) (harg9 : arg9.IsWhole) (arg10 : Memref sig .tc .vmem S2048x128 .f32) (harg10 : arg10.IsWhole) (arg11 : Memref sig .tc .vmem S2048x128 .f32) (harg11 : arg11.IsWhole) (k0_t1 : Fin k0_t1_loop.trips)
    (X3 : BufTy.Contents (Elt F) arg3.view.ty) (X4 : BufTy.Contents (Elt F) arg4.view.ty) (X9 : BufTy.Contents (Elt F) arg9.view.ty) (X11 : BufTy.Contents (Elt F) arg11.view.ty) (k : Fin k0_t2_loop.trips) :
    pb2 (F := F) c i arg2 harg2 arg3 harg3 arg4 harg4 arg5 harg5 arg6 harg6 arg7 harg7 arg8 harg8 arg9 harg9 arg10 harg10 arg11 harg11 k0_t1 X3 X4 X9 X11 (k.val + 1)
      = (trip2 (F := F) c i arg2 harg2 arg3 harg3 arg4 harg4 arg5 harg5 arg6 harg6 arg7 harg7 arg8 harg8 arg9 harg9 arg10 harg10 arg11 harg11 k0_t1 X3 X4 X9 X11 k).1 ++ pb2 (F := F) c i arg2 harg2 arg3 harg3 arg4 harg4 arg5 harg5 arg6 harg6 arg7 harg7 arg8 harg8 arg9 harg9 arg10 harg10 arg11 harg11 k0_t1 X3 X4 X9 X11 k.val := by
  rw [pb2.eq_2]; rw [dif_pos k.isLt]

/-- Before block `k` the output window holds the pieces of the blocks before it over its contents `G8` at entry. -/
abbrev inv2 (c : Dev nD) (i : grid0.Coords) (arg2 : Memref sig .tc .smem S40 .f32) (harg2 : arg2.IsWhole) (arg3 : Memref sig .tc .vmem S1x2048x640 .fp8e4m3) (harg3 : arg3.IsWhole) (arg4 : Memref sig .tc .vmem S1x2048x128 .fp8e4m3) (harg4 : arg4.IsWhole) (arg5 : Memref sig .tc .vmem S1x2048x128 .fp8e4m3) (harg5 : arg5.IsWhole) (arg6 : Memref sig .tc .vmem S1x1x1x2048 .f32) (harg6 : arg6.IsWhole) (arg7 : Memref sig .tc .vmem S1x1x1x2048 .f32) (harg7 : arg7.IsWhole) (arg8 : Memref sig .tc .vmem S1x2048x640 .bf16) (harg8 : arg8.IsWhole) (arg9 : Memref sig .tc .vmem S128x2048 .bf16) (harg9 : arg9.IsWhole) (arg10 : Memref sig .tc .vmem S2048x128 .f32) (harg10 : arg10.IsWhole) (arg11 : Memref sig .tc .vmem S2048x128 .f32) (harg11 : arg11.IsWhole) (k0_t1 : Fin k0_t1_loop.trips)
    (X3 : BufTy.Contents (Elt F) arg3.view.ty) (X4 : BufTy.Contents (Elt F) arg4.view.ty) (X9 : BufTy.Contents (Elt F) arg9.view.ty) (X11 : BufTy.Contents (Elt F) arg11.view.ty) (G8 : BufTy.Contents (Elt F) arg8.view.ty) (k : ℕ) (_ : Unit) : sProp 𝕄G :=
  iprop(pt c arg3 X3 ∗ pt c arg4 X4 ∗ pt c arg9 X9 ∗ pt c arg11 X11
    ∗ ∃ f, pt c arg8 f ∗ ⌜f = arg8.view.writes (Elt F) G8 (pb2 (F := F) c i arg2 harg2 arg3 harg3 arg4 harg4 arg5 harg5 arg6 harg6 arg7 harg7 arg8 harg8 arg9 harg9 arg10 harg10 arg11 harg11 k0_t1 X3 X4 X9 X11 k)⌝)

set_option warn.classDefReducibility false in
/-- The loop over the blocks, by that invariant. -/
@[sl_loop] noncomputable def loopInv_k0_t2 (c : Dev nD) (i : grid0.Coords) (arg2 : Memref sig .tc .smem S40 .f32) (harg2 : arg2.IsWhole) (arg3 : Memref sig .tc .vmem S1x2048x640 .fp8e4m3) (harg3 : arg3.IsWhole) (arg4 : Memref sig .tc .vmem S1x2048x128 .fp8e4m3) (harg4 : arg4.IsWhole) (arg5 : Memref sig .tc .vmem S1x2048x128 .fp8e4m3) (harg5 : arg5.IsWhole) (arg6 : Memref sig .tc .vmem S1x1x1x2048 .f32) (harg6 : arg6.IsWhole) (arg7 : Memref sig .tc .vmem S1x1x1x2048 .f32) (harg7 : arg7.IsWhole) (arg8 : Memref sig .tc .vmem S1x2048x640 .bf16) (harg8 : arg8.IsWhole) (arg9 : Memref sig .tc .vmem S128x2048 .bf16) (harg9 : arg9.IsWhole) (arg10 : Memref sig .tc .vmem S2048x128 .f32) (harg10 : arg10.IsWhole) (arg11 : Memref sig .tc .vmem S2048x128 .f32) (harg11 : arg11.IsWhole) (k0_t1 : Fin k0_t1_loop.trips)
    (X3 : BufTy.Contents (Elt F) arg3.view.ty) (X4 : BufTy.Contents (Elt F) arg4.view.ty) (X9 : BufTy.Contents (Elt F) arg9.view.ty) (X11 : BufTy.Contents (Elt F) arg11.view.ty) (G8 : BufTy.Contents (Elt F) arg8.view.ty) :
    LoopInvTy_k0_t2 (F := F) Unit ℕ (UR sig nD τ) ℕ Variants.none c none Set.univ i arg2 harg2 arg3 harg3 arg4 harg4 arg5 harg5 arg6 harg6 arg7 harg7 arg8 harg8 arg9 harg9 arg10 harg10 arg11 harg11 k0_t1 where
  inv := inv2 (F := F) c i arg2 harg2 arg3 harg3 arg4 harg4 arg5 harg5 arg6 harg6 arg7 harg7 arg8 harg8 arg9 harg9 arg10 harg10 arg11 harg11 k0_t1 X3 X4 X9 X11 G8
  step k acc := by
    iintro ⟨H3, H4, H9, H11, %f, H8, %hf⟩
    subst hf
    iapply (wp_wand_r Idealize.ShloMosaic.frame (wpE (defs₀ (F := F)) Variants.none (c : Thread nD τ) none) Set.univ)
    isplitl [H3 H4 H9 H11 H8]
    · iapply ((trip2 (F := F) c i arg2 harg2 arg3 harg3 arg4 harg4 arg5 harg5 arg6 harg6 arg7 harg7 arg8 harg8 arg9 harg9 arg10 harg10 arg11 harg11 k0_t1 X3 X4 X9 X11 k).2 Set.univ _)
      isplitl [H3]; · iexact H3
      isplitl [H4]; · iexact H4
      isplitl [H9]; · iexact H9
      isplitl [H11]; · iexact H11
      iexact H8
    · iintro %yld ⟨H3, H4, H9, H11, H8⟩
      isplitl [H3]; · iexact H3
      isplitl [H4]; · iexact H4
      isplitl [H9]; · iexact H9
      isplitl [H11]; · iexact H11
      iexists _
      isplitl [H8]; · iexact H8
      ipureintro
      rw [pb2_succ, View.writes_append]

/-! ### The heads -/

/-- What one head reads and writes. -/
abbrev Trip1 (c : Dev nD) (arg2 : Memref sig .tc .smem S40 .f32) (arg3 : Memref sig .tc .vmem S1x2048x640 .fp8e4m3) (arg4 : Memref sig .tc .vmem S1x2048x128 .fp8e4m3) (arg8 : Memref sig .tc .vmem S1x2048x640 .bf16) (arg9 : Memref sig .tc .vmem S128x2048 .bf16) (arg10 : Memref sig .tc .vmem S2048x128 .f32) (arg11 : Memref sig .tc .vmem S2048x128 .f32)
    (X2 : BufTy.Contents (Elt F) arg2.view.ty) (X3 : BufTy.Contents (Elt F) arg3.view.ty) (X4 : BufTy.Contents (Elt F) arg4.view.ty) (X9 : BufTy.Contents (Elt F) arg9.view.ty) (X10 : BufTy.Contents (Elt F) arg10.view.ty)
    (X11 : BufTy.Contents (Elt F) arg11.view.ty) (f : BufTy.Contents (Elt F) arg8.view.ty) : sProp 𝕄G :=
  iprop(pt c arg2 X2 ∗ pt c arg3 X3 ∗ pt c arg4 X4 ∗ pt c arg9 X9 ∗ pt c arg10 X10 ∗ pt c arg11 X11 ∗ pt c arg8 f)

/-- The direct computation of one head, over every block: the pieces it writes into the scaled key scales and into
    the output window, and what it hands to the test of its sums. -/
@[irreducible] def direct (c : Dev nD) (i : grid0.Coords) (arg2 : Memref sig .tc .smem S40 .f32) (harg2 : arg2.IsWhole) (arg3 : Memref sig .tc .vmem S1x2048x640 .fp8e4m3) (harg3 : arg3.IsWhole) (arg4 : Memref sig .tc .vmem S1x2048x128 .fp8e4m3) (harg4 : arg4.IsWhole) (arg5 : Memref sig .tc .vmem S1x2048x128 .fp8e4m3) (harg5 : arg5.IsWhole) (arg6 : Memref sig .tc .vmem S1x1x1x2048 .f32) (harg6 : arg6.IsWhole) (arg7 : Memref sig .tc .vmem S1x1x1x2048 .f32) (harg7 : arg7.IsWhole) (arg8 : Memref sig .tc .vmem S1x2048x640 .bf16) (harg8 : arg8.IsWhole) (arg9 : Memref sig .tc .vmem S128x2048 .bf16) (harg9 : arg9.IsWhole) (arg10 : Memref sig .tc .vmem S2048x128 .f32) (harg10 : arg10.IsWhole) (arg11 : Memref sig .tc .vmem S2048x128 .f32) (harg11 : arg11.IsWhole) (arg1 : BitVec 32)
    (X2 : BufTy.Contents (Elt F) arg2.view.ty) (X3 : BufTy.Contents (Elt F) arg3.view.ty) (X4 : BufTy.Contents (Elt F) arg4.view.ty) (X9 : BufTy.Contents (Elt F) arg9.view.ty) (X10 : BufTy.Contents (Elt F) arg10.view.ty) (k : Fin k0_t1_loop.trips) :
    Σ' (L11 : List (View.Piece (Elt F) S2048x128 .f32)) (v : BitVec 32) (b : BitVec 1) (s : FVec F S1x1x256 .f32),
    { L : OutPieces F // ∀ (E : Set ℕ) (X11 : BufTy.Contents (Elt F) arg11.view.ty) (f : BufTy.Contents (Elt F) arg8.view.ty),
      Trip1 (F := F) c arg2 arg3 arg4 arg8 arg9 arg10 arg11 X2 X3 X4 X9 X10 X11 f
      ⊢ wp frame (wpE (defs₀ (F := F)) Variants.none (c : Thread nD τ) none) E (k0_part56 (F := F) i arg2 harg2 arg3 harg3 arg4 harg4 arg5 harg5 arg6 harg6 arg7 harg7 arg8 harg8 arg9 harg9 arg10 harg10 arg11 harg11 arg1 0#32 1#32 k)
          (fun y => iprop(⌜y = ⟨v, b, s⟩⌝ ∗ Trip1 (F := F) c arg2 arg3 arg4 arg8 arg9 arg10 arg11 X2 X3 X4 X9 X10
            (arg11.view.writes (Elt F) X11 L11) (arg8.view.writes (Elt F) f L))) } := by
  refine ⟨?_, ?_, ?_, ?_, ?_, fun E X11 f => ?run⟩
  case run =>
    rw [k0_part56_eq_skeleton]; unfold k0_part56_skel
    iintro ⟨H2, H3, H4, H9, H10, H11, H8⟩
    sl_exec
    sl_step
    sl_close

end Cert.Proof.KernelIdeal

end
-- ==== Proof.KernelIdealHeads.lean ====
/-
  The heads of `KernelIdeal`'s kernel body: the direct computation of a head, then — where the test of its sums fails — the
  online softmax over every block of rows. What the output window holds before head `k` follows by recursion.
-/
module

public import proofs.«01_k».proof.Proof.KernelIdealLoops

@[expose] public section

set_option maxRecDepth 16384
set_option maxHeartbeats 400000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

/-- The kernel recomputes the head: the test of its sums, or of the value scales, failed. -/
abbrev Redo (b : BitVec 1) (s : FVec F S1x1x256 .f32) (v364 : BitVec 1) : Prop :=
  Scalar.cmpi .ne (Scalar.extui (Scalar.xori (Scalar.andi (Scalar.andi b (Scalar.cmpf .ole (k0_pay1 s) (Scalar.ofBits .f32 0x5D800000#32))) v364) 1#1) : BitVec 32) 0#32 = 1#1

instance (b : BitVec 1) (s : FVec F S1x1x256 .f32) (v364 : BitVec 1) : Decidable (Redo b s v364) := by
  unfold Redo; infer_instance

/-- What follows the direct computation of a head: the test of its sums, and the recomputation. -/
noncomputable def rest (i : grid0.Coords) (arg2 : Memref sig .tc .smem S40 .f32) (harg2 : arg2.IsWhole) (arg3 : Memref sig .tc .vmem S1x2048x640 .fp8e4m3) (harg3 : arg3.IsWhole) (arg4 : Memref sig .tc .vmem S1x2048x128 .fp8e4m3) (harg4 : arg4.IsWhole) (arg5 : Memref sig .tc .vmem S1x2048x128 .fp8e4m3) (harg5 : arg5.IsWhole) (arg6 : Memref sig .tc .vmem S1x1x1x2048 .f32) (harg6 : arg6.IsWhole) (arg7 : Memref sig .tc .vmem S1x1x1x2048 .f32) (harg7 : arg7.IsWhole) (arg8 : Memref sig .tc .vmem S1x2048x640 .bf16) (harg8 : arg8.IsWhole) (arg9 : Memref sig .tc .vmem S128x2048 .bf16) (harg9 : arg9.IsWhole) (arg10 : Memref sig .tc .vmem S2048x128 .f32) (harg10 : arg10.IsWhole) (arg11 : Memref sig .tc .vmem S2048x128 .f32) (harg11 : arg11.IsWhole) (v364 : BitVec 1) (k0_t1 : Fin k0_t1_loop.trips) (b : BitVec 1) (s : FVec F S1x1x256 .f32) :
    Prog (TpuEff nD τ sig (Elt F) Λ₀ .tc) Unit := do
  if Scalar.cmpi .ne (Scalar.extui (Scalar.xori (Scalar.andi (Scalar.andi b (Scalar.cmpf .ole (k0_pay1 s) (Scalar.ofBits .f32 0x5D800000#32))) v364) 1#1) : BitVec 32) 0#32 = 1#1 then do
    Scf.Loop.for k0_t2_loop k0_t2_ok ⟨⟩ (k0_t2_body i arg2 harg2 arg3 harg3 arg4 harg4 arg5 harg5 arg6 harg6 arg7 harg7 arg8 harg8 arg9 harg9 arg10 harg10 arg11 harg11 k0_t1)
    pure ⟨⟩
  else do
    pure ⟨⟩
  pure ⟨⟩

theorem t1_body_eq (i : grid0.Coords) (arg2 : Memref sig .tc .smem S40 .f32) (harg2 : arg2.IsWhole) (arg3 : Memref sig .tc .vmem S1x2048x640 .fp8e4m3) (harg3 : arg3.IsWhole) (arg4 : Memref sig .tc .vmem S1x2048x128 .fp8e4m3) (harg4 : arg4.IsWhole) (arg5 : Memref sig .tc .vmem S1x2048x128 .fp8e4m3) (harg5 : arg5.IsWhole) (arg6 : Memref sig .tc .vmem S1x1x1x2048 .f32) (harg6 : arg6.IsWhole) (arg7 : Memref sig .tc .vmem S1x1x1x2048 .f32) (harg7 : arg7.IsWhole) (arg8 : Memref sig .tc .vmem S1x2048x640 .bf16) (harg8 : arg8.IsWhole) (arg9 : Memref sig .tc .vmem S128x2048 .bf16) (harg9 : arg9.IsWhole) (arg10 : Memref sig .tc .vmem S2048x128 .f32) (harg10 : arg10.IsWhole) (arg11 : Memref sig .tc .vmem S2048x128 .f32) (harg11 : arg11.IsWhole) (arg1 : BitVec 32) (v364 : BitVec 1) (k : Fin k0_t1_loop.trips) :
    k0_t1_body (F := F) i arg2 harg2 arg3 harg3 arg4 harg4 arg5 harg5 arg6 harg6 arg7 harg7 arg8 harg8 arg9 harg9 arg10 harg10 arg11 harg11 arg1 v364 k () = (k0_part56 i arg2 harg2 arg3 harg3 arg4 harg4 arg5 harg5 arg6 harg6 arg7 harg7 arg8 harg8 arg9 harg9 arg10 harg10 arg11 harg11 arg1 0#32 1#32 k >>= fun y => rest i arg2 harg2 arg3 harg3 arg4 harg4 arg5 harg5 arg6 harg6 arg7 harg7 arg8 harg8 arg9 harg9 arg10 harg10 arg11 harg11 v364 k y.2.1 y.2.2) := rfl

theorem rest_run (c : Dev nD) (i : grid0.Coords) (arg2 : Memref sig .tc .smem S40 .f32) (harg2 : arg2.IsWhole) (arg3 : Memref sig .tc .vmem S1x2048x640 .fp8e4m3) (harg3 : arg3.IsWhole) (arg4 : Memref sig .tc .vmem S1x2048x128 .fp8e4m3) (harg4 : arg4.IsWhole) (arg5 : Memref sig .tc .vmem S1x2048x128 .fp8e4m3) (harg5 : arg5.IsWhole) (arg6 : Memref sig .tc .vmem S1x1x1x2048 .f32) (harg6 : arg6.IsWhole) (arg7 : Memref sig .tc .vmem S1x1x1x2048 .f32) (harg7 : arg7.IsWhole) (arg8 : Memref sig .tc .vmem S1x2048x640 .bf16) (harg8 : arg8.IsWhole) (arg9 : Memref sig .tc .vmem S128x2048 .bf16) (harg9 : arg9.IsWhole) (arg10 : Memref sig .tc .vmem S2048x128 .f32) (harg10 : arg10.IsWhole) (arg11 : Memref sig .tc .vmem S2048x128 .f32) (harg11 : arg11.IsWhole) (v364 : BitVec 1) (X2 : BufTy.Contents (Elt F) arg2.view.ty) (X3 : BufTy.Contents (Elt F) arg3.view.ty) (X4 : BufTy.Contents (Elt F) arg4.view.ty) (X9 : BufTy.Contents (Elt F) arg9.view.ty) (X10 : BufTy.Contents (Elt F) arg10.view.ty) (k : Fin k0_t1_loop.trips) (b : BitVec 1) (s : FVec F S1x1x256 .f32)
    (X11 : BufTy.Contents (Elt F) arg11.view.ty) (f : BufTy.Contents (Elt F) arg8.view.ty) :
      Trip1 (F := F) c arg2 arg3 arg4 arg8 arg9 arg10 arg11 X2 X3 X4 X9 X10 X11 f
      ⊢ wp frame (wpE (defs₀ (F := F)) Variants.none (c : Thread nD τ) none) Set.univ (rest (F := F) i arg2 harg2 arg3 harg3 arg4 harg4 arg5 harg5 arg6 harg6 arg7 harg7 arg8 harg8 arg9 harg9 arg10 harg10 arg11 harg11 v364 k b s)
          (fun _ => Trip1 (F := F) c arg2 arg3 arg4 arg8 arg9 arg10 arg11 X2 X3 X4 X9 X10 X11
            (arg8.view.writes (Elt F) f (if Redo b s v364 then pb2 (F := F) c i arg2 harg2 arg3 harg3 arg4 harg4 arg5 harg5 arg6 harg6 arg7 harg7 arg8 harg8 arg9 harg9 arg10 harg10 arg11 harg11 k X3 X4 X9 X11 k0_t2_loop.trips else []))) := by
  unfold rest
  iintro ⟨H2, H3, H4, H9, H10, H11, H8⟩
  by_cases hC : Redo b s v364
  · have e : (if Redo b s v364 then pb2 (F := F) c i arg2 harg2 arg3 harg3 arg4 harg4 arg5 harg5 arg6 harg6 arg7 harg7 arg8 harg8 arg9 harg9 arg10 harg10 arg11 harg11 k X3 X4 X9 X11 k0_t2_loop.trips else []) = pb2 (F := F) c i arg2 harg2 arg3 harg3 arg4 harg4 arg5 harg5 arg6 harg6 arg7 harg7 arg8 harg8 arg9 harg9 arg10 harg10 arg11 harg11 k X3 X4 X9 X11 k0_t2_loop.trips := if_pos hC
    rw [e]
    sl_exec
    sl_step
    sl_close
  · have e : (if Redo b s v364 then pb2 (F := F) c i arg2 harg2 arg3 harg3 arg4 harg4 arg5 harg5 arg6 harg6 arg7 harg7 arg8 harg8 arg9 harg9 arg10 harg10 arg11 harg11 k X3 X4 X9 X11 k0_t2_loop.trips else []) = [] := if_neg hC
    rw [e]
    sl_exec
    sl_step
    sl_close

/-- The pieces head `k` writes into the scaled key scales. -/
def pieces11 (c : Dev nD) (i : grid0.Coords) (arg2 : Memref sig .tc .smem S40 .f32) (harg2 : arg2.IsWhole) (arg3 : Memref sig .tc .vmem S1x2048x640 .fp8e4m3) (harg3 : arg3.IsWhole) (arg4 : Memref sig .tc .vmem S1x2048x128 .fp8e4m3) (harg4 : arg4.IsWhole) (arg5 : Memref sig .tc .vmem S1x2048x128 .fp8e4m3) (harg5 : arg5.IsWhole) (arg6 : Memref sig .tc .vmem S1x1x1x2048 .f32) (harg6 : arg6.IsWhole) (arg7 : Memref sig .tc .vmem S1x1x1x2048 .f32) (harg7 : arg7.IsWhole) (arg8 : Memref sig .tc .vmem S1x2048x640 .bf16) (harg8 : arg8.IsWhole) (arg9 : Memref sig .tc .vmem S128x2048 .bf16) (harg9 : arg9.IsWhole) (arg10 : Memref sig .tc .vmem S2048x128 .f32) (harg10 : arg10.IsWhole) (arg11 : Memref sig .tc .vmem S2048x128 .f32) (harg11 : arg11.IsWhole) (arg1 : BitVec 32) (X2 : BufTy.Contents (Elt F) arg2.view.ty) (X3 : BufTy.Contents (Elt F) arg3.view.ty) (X4 : BufTy.Contents (Elt F) arg4.view.ty) (X9 : BufTy.Contents (Elt F) arg9.view.ty) (X10 : BufTy.Contents (Elt F) arg10.view.ty) (k : Fin k0_t1_loop.trips) : List (View.Piece (Elt F) S2048x128 .f32) :=
  (direct (F := F) c i arg2 harg2 arg3 harg3 arg4 harg4 arg5 harg5 arg6 harg6 arg7 harg7 arg8 harg8 arg9 harg9 arg10 harg10 arg11 harg11 arg1 X2 X3 X4 X9 X10 k).1

/-- The pieces the direct computation of head `k` writes into the output window. -/
def pieces8 (c : Dev nD) (i : grid0.Coords) (arg2 : Memref sig .tc .smem S40 .f32) (harg2 : arg2.IsWhole) (arg3 : Memref sig .tc .vmem S1x2048x640 .fp8e4m3) (harg3 : arg3.IsWhole) (arg4 : Memref sig .tc .vmem S1x2048x128 .fp8e4m3) (harg4 : arg4.IsWhole) (arg5 : Memref sig .tc .vmem S1x2048x128 .fp8e4m3) (harg5 : arg5.IsWhole) (arg6 : Memref sig .tc .vmem S1x1x1x2048 .f32) (harg6 : arg6.IsWhole) (arg7 : Memref sig .tc .vmem S1x1x1x2048 .f32) (harg7 : arg7.IsWhole) (arg8 : Memref sig .tc .vmem S1x2048x640 .bf16) (harg8 : arg8.IsWhole) (arg9 : Memref sig .tc .vmem S128x2048 .bf16) (harg9 : arg9.IsWhole) (arg10 : Memref sig .tc .vmem S2048x128 .f32) (harg10 : arg10.IsWhole) (arg11 : Memref sig .tc .vmem S2048x128 .f32) (harg11 : arg11.IsWhole) (arg1 : BitVec 32) (X2 : BufTy.Contents (Elt F) arg2.view.ty) (X3 : BufTy.Contents (Elt F) arg3.view.ty) (X4 : BufTy.Contents (Elt F) arg4.view.ty) (X9 : BufTy.Contents (Elt F) arg9.view.ty) (X10 : BufTy.Contents (Elt F) arg10.view.ty) (k : Fin k0_t1_loop.trips) : OutPieces F :=
  (direct (F := F) c i arg2 harg2 arg3 harg3 arg4 harg4 arg5 harg5 arg6 harg6 arg7 harg7 arg8 harg8 arg9 harg9 arg10 harg10 arg11 harg11 arg1 X2 X3 X4 X9 X10 k).2.2.2.2.1

/-- Head `k` is recomputed. -/
abbrev RedoAt (c : Dev nD) (i : grid0.Coords) (arg2 : Memref sig .tc .smem S40 .f32) (harg2 : arg2.IsWhole) (arg3 : Memref sig .tc .vmem S1x2048x640 .fp8e4m3) (harg3 : arg3.IsWhole) (arg4 : Memref sig .tc .vmem S1x2048x128 .fp8e4m3) (harg4 : arg4.IsWhole) (arg5 : Memref sig .tc .vmem S1x2048x128 .fp8e4m3) (harg5 : arg5.IsWhole) (arg6 : Memref sig .tc .vmem S1x1x1x2048 .f32) (harg6 : arg6.IsWhole) (arg7 : Memref sig .tc .vmem S1x1x1x2048 .f32) (harg7 : arg7.IsWhole) (arg8 : Memref sig .tc .vmem S1x2048x640 .bf16) (harg8 : arg8.IsWhole) (arg9 : Memref sig .tc .vmem S128x2048 .bf16) (harg9 : arg9.IsWhole) (arg10 : Memref sig .tc .vmem S2048x128 .f32) (harg10 : arg10.IsWhole) (arg11 : Memref sig .tc .vmem S2048x128 .f32) (harg11 : arg11.IsWhole) (arg1 : BitVec 32) (v364 : BitVec 1) (X2 : BufTy.Contents (Elt F) arg2.view.ty) (X3 : BufTy.Contents (Elt F) arg3.view.ty) (X4 : BufTy.Contents (Elt F) arg4.view.ty) (X9 : BufTy.Contents (Elt F) arg9.view.ty) (X10 : BufTy.Contents (Elt F) arg10.view.ty) (k : Fin k0_t1_loop.trips) : Prop :=
  Redo (direct (F := F) c i arg2 harg2 arg3 harg3 arg4 harg4 arg5 harg5 arg6 harg6 arg7 harg7 arg8 harg8 arg9 harg9 arg10 harg10 arg11 harg11 arg1 X2 X3 X4 X9 X10 k).2.2.1 (direct (F := F) c i arg2 harg2 arg3 harg3 arg4 harg4 arg5 harg5 arg6 harg6 arg7 harg7 arg8 harg8 arg9 harg9 arg10 harg10 arg11 harg11 arg1 X2 X3 X4 X9 X10 k).2.2.2.1 v364

/-- The pieces head `k` writes into the output window, where the scaled key scales are at `X11` once it has written them. -/
def headPieces (c : Dev nD) (i : grid0.Coords) (arg2 : Memref sig .tc .smem S40 .f32) (harg2 : arg2.IsWhole) (arg3 : Memref sig .tc .vmem S1x2048x640 .fp8e4m3) (harg3 : arg3.IsWhole) (arg4 : Memref sig .tc .vmem S1x2048x128 .fp8e4m3) (harg4 : arg4.IsWhole) (arg5 : Memref sig .tc .vmem S1x2048x128 .fp8e4m3) (harg5 : arg5.IsWhole) (arg6 : Memref sig .tc .vmem S1x1x1x2048 .f32) (harg6 : arg6.IsWhole) (arg7 : Memref sig .tc .vmem S1x1x1x2048 .f32) (harg7 : arg7.IsWhole) (arg8 : Memref sig .tc .vmem S1x2048x640 .bf16) (harg8 : arg8.IsWhole) (arg9 : Memref sig .tc .vmem S128x2048 .bf16) (harg9 : arg9.IsWhole) (arg10 : Memref sig .tc .vmem S2048x128 .f32) (harg10 : arg10.IsWhole) (arg11 : Memref sig .tc .vmem S2048x128 .f32) (harg11 : arg11.IsWhole) (arg1 : BitVec 32) (v364 : BitVec 1) (X2 : BufTy.Contents (Elt F) arg2.view.ty) (X3 : BufTy.Contents (Elt F) arg3.view.ty) (X4 : BufTy.Contents (Elt F) arg4.view.ty) (X9 : BufTy.Contents (Elt F) arg9.view.ty) (X10 : BufTy.Contents (Elt F) arg10.view.ty) (X11 : BufTy.Contents (Elt F) arg11.view.ty) (k : Fin k0_t1_loop.trips) : OutPieces F :=
  (if RedoAt (F := F) c i arg2 harg2 arg3 harg3 arg4 harg4 arg5 harg5 arg6 harg6 arg7 harg7 arg8 harg8 arg9 harg9 arg10 harg10 arg11 harg11 arg1 v364 X2 X3 X4 X9 X10 k then pb2 (F := F) c i arg2 harg2 arg3 harg3 arg4 harg4 arg5 harg5 arg6 harg6 arg7 harg7 arg8 harg8 arg9 harg9 arg10 harg10 arg11 harg11 k X3 X4 X9 X11 k0_t2_loop.trips else [])
    ++ pieces8 (F := F) c i arg2 harg2 arg3 harg3 arg4 harg4 arg5 harg5 arg6 harg6 arg7 harg7 arg8 harg8 arg9 harg9 arg10 harg10 arg11 harg11 arg1 X2 X3 X4 X9 X10 k

/-- One head, at a symbolic trip. -/
theorem trip1 (c : Dev nD) (i : grid0.Coords) (arg2 : Memref sig .tc .smem S40 .f32) (harg2 : arg2.IsWhole) (arg3 : Memref sig .tc .vmem S1x2048x640 .fp8e4m3) (harg3 : arg3.IsWhole) (arg4 : Memref sig .tc .vmem S1x2048x128 .fp8e4m3) (harg4 : arg4.IsWhole) (arg5 : Memref sig .tc .vmem S1x2048x128 .fp8e4m3) (harg5 : arg5.IsWhole) (arg6 : Memref sig .tc .vmem S1x1x1x2048 .f32) (harg6 : arg6.IsWhole) (arg7 : Memref sig .tc .vmem S1x1x1x2048 .f32) (harg7 : arg7.IsWhole) (arg8 : Memref sig .tc .vmem S1x2048x640 .bf16) (harg8 : arg8.IsWhole) (arg9 : Memref sig .tc .vmem S128x2048 .bf16) (harg9 : arg9.IsWhole) (arg10 : Memref sig .tc .vmem S2048x128 .f32) (harg10 : arg10.IsWhole) (arg11 : Memref sig .tc .vmem S2048x128 .f32) (harg11 : arg11.IsWhole) (arg1 : BitVec 32) (v364 : BitVec 1) (X2 : BufTy.Contents (Elt F) arg2.view.ty) (X3 : BufTy.Contents (Elt F) arg3.view.ty) (X4 : BufTy.Contents (Elt F) arg4.view.ty) (X9 : BufTy.Contents (Elt F) arg9.view.ty) (X10 : BufTy.Contents (Elt F) arg10.view.ty) (k : Fin k0_t1_loop.trips)
    (X11 : BufTy.Contents (Elt F) arg11.view.ty) (f : BufTy.Contents (Elt F) arg8.view.ty) :
      Trip1 (F := F) c arg2 arg3 arg4 arg8 arg9 arg10 arg11 X2 X3 X4 X9 X10 X11 f
      ⊢ wp frame (wpE (defs₀ (F := F)) Variants.none (c : Thread nD τ) none) Set.univ (k0_t1_body (F := F) i arg2 harg2 arg3 harg3 arg4 harg4 arg5 harg5 arg6 harg6 arg7 harg7 arg8 harg8 arg9 harg9 arg10 harg10 arg11 harg11 arg1 v364 k ())
          (fun _ => Trip1 (F := F) c arg2 arg3 arg4 arg8 arg9 arg10 arg11 X2 X3 X4 X9 X10
            (arg11.view.writes (Elt F) X11 (pieces11 (F := F) c i arg2 harg2 arg3 harg3 arg4 harg4 arg5 harg5 arg6 harg6 arg7 harg7 arg8 harg8 arg9 harg9 arg10 harg10 arg11 harg11 arg1 X2 X3 X4 X9 X10 k))
            (arg8.view.writes (Elt F) f (headPieces (F := F) c i arg2 harg2 arg3 harg3 arg4 harg4 arg5 harg5 arg6 harg6 arg7 harg7 arg8 harg8 arg9 harg9 arg10 harg10 arg11 harg11 arg1 v364 X2 X3 X4 X9 X10
              (arg11.view.writes (Elt F) X11 (pieces11 (F := F) c i arg2 harg2 arg3 harg3 arg4 harg4 arg5 harg5 arg6 harg6 arg7 harg7 arg8 harg8 arg9 harg9 arg10 harg10 arg11 harg11 arg1 X2 X3 X4 X9 X10 k)) k))) := by
  rw [t1_body_eq, wp_bind]
  iintro H
  iapply (wp_wand_r Idealize.ShloMosaic.frame (wpE (defs₀ (F := F)) Variants.none (c : Thread nD τ) none) Set.univ)
  isplitl [H]
  · iapply ((direct (F := F) c i arg2 harg2 arg3 harg3 arg4 harg4 arg5 harg5 arg6 harg6 arg7 harg7 arg8 harg8 arg9 harg9 arg10 harg10 arg11 harg11 arg1 X2 X3 X4 X9 X10 k).2.2.2.2.2 Set.univ X11 f)
    iexact H
  iintro %y ⟨%hy, H⟩
  subst hy
  have h := rest_run (F := F) c i arg2 harg2 arg3 harg3 arg4 harg4 arg5 harg5 arg6 harg6 arg7 harg7 arg8 harg8 arg9 harg9 arg10 harg10 arg11 harg11 v364 X2 X3 X4 X9 X10 k (direct (F := F) c i arg2 harg2 arg3 harg3 arg4 harg4 arg5 harg5 arg6 harg6 arg7 harg7 arg8 harg8 arg9 harg9 arg10 harg10 arg11 harg11 arg1 X2 X3 X4 X9 X10 k).2.2.1 (direct (F := F) c i arg2 harg2 arg3 harg3 arg4 harg4 arg5 harg5 arg6 harg6 arg7 harg7 arg8 harg8 arg9 harg9 arg10 harg10 arg11 harg11 arg1 X2 X3 X4 X9 X10 k).2.2.2.1
    (arg11.view.writes (Elt F) X11 (pieces11 (F := F) c i arg2 harg2 arg3 harg3 arg4 harg4 arg5 harg5 arg6 harg6 arg7 harg7 arg8 harg8 arg9 harg9 arg10 harg10 arg11 harg11 arg1 X2 X3 X4 X9 X10 k)) (arg8.view.writes (Elt F) f (pieces8 (F := F) c i arg2 harg2 arg3 harg3 arg4 harg4 arg5 harg5 arg6 harg6 arg7 harg7 arg8 harg8 arg9 harg9 arg10 harg10 arg11 harg11 arg1 X2 X3 X4 X9 X10 k))
  rw [← View.writes_append] at h
  iapply h
  iexact H

end Cert.Proof.KernelIdeal

end
-- ==== Proof.KernelIdealBody.lean ====
/-
  The body of `KernelIdeal`'s kernel: the loop over the heads by its invariant, and the whole body — what each buffer holds after it,
  out of what they held before it.
-/
module

public import proofs.«01_k».proof.Proof.KernelIdealHeads

@[expose] public section

set_option maxRecDepth 16384
set_option maxHeartbeats 400000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

/-- The pieces the heads before `k` write into the scaled key scales, the last one first. -/
def pb11 (c : Dev nD) (i : grid0.Coords) (arg2 : Memref sig .tc .smem S40 .f32) (harg2 : arg2.IsWhole) (arg3 : Memref sig .tc .vmem S1x2048x640 .fp8e4m3) (harg3 : arg3.IsWhole) (arg4 : Memref sig .tc .vmem S1x2048x128 .fp8e4m3) (harg4 : arg4.IsWhole) (arg5 : Memref sig .tc .vmem S1x2048x128 .fp8e4m3) (harg5 : arg5.IsWhole) (arg6 : Memref sig .tc .vmem S1x1x1x2048 .f32) (harg6 : arg6.IsWhole) (arg7 : Memref sig .tc .vmem S1x1x1x2048 .f32) (harg7 : arg7.IsWhole) (arg8 : Memref sig .tc .vmem S1x2048x640 .bf16) (harg8 : arg8.IsWhole) (arg9 : Memref sig .tc .vmem S128x2048 .bf16) (harg9 : arg9.IsWhole) (arg10 : Memref sig .tc .vmem S2048x128 .f32) (harg10 : arg10.IsWhole) (arg11 : Memref sig .tc .vmem S2048x128 .f32) (harg11 : arg11.IsWhole) (arg1 : BitVec 32) (X2 : BufTy.Contents (Elt F) arg2.view.ty) (X3 : BufTy.Contents (Elt F) arg3.view.ty) (X4 : BufTy.Contents (Elt F) arg4.view.ty) (X9 : BufTy.Contents (Elt F) arg9.view.ty) (X10 : BufTy.Contents (Elt F) arg10.view.ty) : ℕ → List (View.Piece (Elt F) S2048x128 .f32)
  | 0 => []
  | k + 1 => (if h : k < k0_t1_loop.trips then pieces11 (F := F) c i arg2 harg2 arg3 harg3 arg4 harg4 arg5 harg5 arg6 harg6 arg7 harg7 arg8 harg8 arg9 harg9 arg10 harg10 arg11 harg11 arg1 X2 X3 X4 X9 X10 ⟨k, h⟩ else [])
      ++ pb11 c i arg2 harg2 arg3 harg3 arg4 harg4 arg5 harg5 arg6 harg6 arg7 harg7 arg8 harg8 arg9 harg9 arg10 harg10 arg11 harg11 arg1 X2 X3 X4 X9 X10 k

theorem pb11_succ (c : Dev nD) (i : grid0.Coords) (arg2 : Memref sig .tc .smem S40 .f32) (harg2 : arg2.IsWhole) (arg3 : Memref sig .tc .vmem S1x2048x640 .fp8e4m3) (harg3 : arg3.IsWhole) (arg4 : Memref sig .tc .vmem S1x2048x128 .fp8e4m3) (harg4 : arg4.IsWhole) (arg5 : Memref sig .tc .vmem S1x2048x128 .fp8e4m3) (harg5 : arg5.IsWhole) (arg6 : Memref sig .tc .vmem S1x1x1x2048 .f32) (harg6 : arg6.IsWhole) (arg7 : Memref sig .tc .vmem S1x1x1x2048 .f32) (harg7 : arg7.IsWhole) (arg8 : Memref sig .tc .vmem S1x2048x640 .bf16) (harg8 : arg8.IsWhole) (arg9 : Memref sig .tc .vmem S128x2048 .bf16) (harg9 : arg9.IsWhole) (arg10 : Memref sig .tc .vmem S2048x128 .f32) (harg10 : arg10.IsWhole) (arg11 : Memref sig .tc .vmem S2048x128 .f32) (harg11 : arg11.IsWhole) (arg1 : BitVec 32) (X2 : BufTy.Contents (Elt F) arg2.view.ty) (X3 : BufTy.Contents (Elt F) arg3.view.ty) (X4 : BufTy.Contents (Elt F) arg4.view.ty) (X9 : BufTy.Contents (Elt F) arg9.view.ty) (X10 : BufTy.Contents (Elt F) arg10.view.ty) (k : Fin k0_t1_loop.trips) :
    pb11 (F := F) c i arg2 harg2 arg3 harg3 arg4 harg4 arg5 harg5 arg6 harg6 arg7 harg7 arg8 harg8 arg9 harg9 arg10 harg10 arg11 harg11 arg1 X2 X3 X4 X9 X10 (k.val + 1)
      = pieces11 (F := F) c i arg2 harg2 arg3 harg3 arg4 harg4 arg5 harg5 arg6 harg6 arg7 harg7 arg8 harg8 arg9 harg9 arg10 harg10 arg11 harg11 arg1 X2 X3 X4 X9 X10 k ++ pb11 (F := F) c i arg2 harg2 arg3 harg3 arg4 harg4 arg5 harg5 arg6 harg6 arg7 harg7 arg8 harg8 arg9 harg9 arg10 harg10 arg11 harg11 arg1 X2 X3 X4 X9 X10 k.val := by
  show (if h : k.val < k0_t1_loop.trips then _ else _) ++ _ = _
  rw [dif_pos k.isLt]

/-- The scaled key scales after the heads before `k`. -/
abbrev G11 (c : Dev nD) (i : grid0.Coords) (arg2 : Memref sig .tc .smem S40 .f32) (harg2 : arg2.IsWhole) (arg3 : Memref sig .tc .vmem S1x2048x640 .fp8e4m3) (harg3 : arg3.IsWhole) (arg4 : Memref sig .tc .vmem S1x2048x128 .fp8e4m3) (harg4 : arg4.IsWhole) (arg5 : Memref sig .tc .vmem S1x2048x128 .fp8e4m3) (harg5 : arg5.IsWhole) (arg6 : Memref sig .tc .vmem S1x1x1x2048 .f32) (harg6 : arg6.IsWhole) (arg7 : Memref sig .tc .vmem S1x1x1x2048 .f32) (harg7 : arg7.IsWhole) (arg8 : Memref sig .tc .vmem S1x2048x640 .bf16) (harg8 : arg8.IsWhole) (arg9 : Memref sig .tc .vmem S128x2048 .bf16) (harg9 : arg9.IsWhole) (arg10 : Memref sig .tc .vmem S2048x128 .f32) (harg10 : arg10.IsWhole) (arg11 : Memref sig .tc .vmem S2048x128 .f32) (harg11 : arg11.IsWhole) (arg1 : BitVec 32) (X2 : BufTy.Contents (Elt F) arg2.view.ty) (X3 : BufTy.Contents (Elt F) arg3.view.ty) (X4 : BufTy.Contents (Elt F) arg4.view.ty) (X9 : BufTy.Contents (Elt F) arg9.view.ty) (X10 : BufTy.Contents (Elt F) arg10.view.ty) (X11 : BufTy.Contents (Elt F) arg11.view.ty) (k : ℕ) : BufTy.Contents (Elt F) arg11.view.ty :=
  arg11.view.writes (Elt F) X11 (pb11 (F := F) c i arg2 harg2 arg3 harg3 arg4 harg4 arg5 harg5 arg6 harg6 arg7 harg7 arg8 harg8 arg9 harg9 arg10 harg10 arg11 harg11 arg1 X2 X3 X4 X9 X10 k)

/-- The pieces the heads before `k` write into the output window, the last one first. -/
def pb1 (c : Dev nD) (i : grid0.Coords) (arg2 : Memref sig .tc .smem S40 .f32) (harg2 : arg2.IsWhole) (arg3 : Memref sig .tc .vmem S1x2048x640 .fp8e4m3) (harg3 : arg3.IsWhole) (arg4 : Memref sig .tc .vmem S1x2048x128 .fp8e4m3) (harg4 : arg4.IsWhole) (arg5 : Memref sig .tc .vmem S1x2048x128 .fp8e4m3) (harg5 : arg5.IsWhole) (arg6 : Memref sig .tc .vmem S1x1x1x2048 .f32) (harg6 : arg6.IsWhole) (arg7 : Memref sig .tc .vmem S1x1x1x2048 .f32) (harg7 : arg7.IsWhole) (arg8 : Memref sig .tc .vmem S1x2048x640 .bf16) (harg8 : arg8.IsWhole) (arg9 : Memref sig .tc .vmem S128x2048 .bf16) (harg9 : arg9.IsWhole) (arg10 : Memref sig .tc .vmem S2048x128 .f32) (harg10 : arg10.IsWhole) (arg11 : Memref sig .tc .vmem S2048x128 .f32) (harg11 : arg11.IsWhole) (arg1 : BitVec 32) (v364 : BitVec 1) (X2 : BufTy.Contents (Elt F) arg2.view.ty) (X3 : BufTy.Contents (Elt F) arg3.view.ty) (X4 : BufTy.Contents (Elt F) arg4.view.ty) (X9 : BufTy.Contents (Elt F) arg9.view.ty) (X10 : BufTy.Contents (Elt F) arg10.view.ty) (X11 : BufTy.Contents (Elt F) arg11.view.ty) : ℕ → OutPieces F
  | 0 => []
  | k + 1 => (if h : k < k0_t1_loop.trips then headPieces (F := F) c i arg2 harg2 arg3 harg3 arg4 harg4 arg5 harg5 arg6 harg6 arg7 harg7 arg8 harg8 arg9 harg9 arg10 harg10 arg11 harg11 arg1 v364 X2 X3 X4 X9 X10
        (G11 (F := F) c i arg2 harg2 arg3 harg3 arg4 harg4 arg5 harg5 arg6 harg6 arg7 harg7 arg8 harg8 arg9 harg9 arg10 harg10 arg11 harg11 arg1 X2 X3 X4 X9 X10 X11 (k + 1)) ⟨k, h⟩ else [])
      ++ pb1 c i arg2 harg2 arg3 harg3 arg4 harg4 arg5 harg5 arg6 harg6 arg7 harg7 arg8 harg8 arg9 harg9 arg10 harg10 arg11 harg11 arg1 v364 X2 X3 X4 X9 X10 X11 k

theorem pb1_succ (c : Dev nD) (i : grid0.Coords) (arg2 : Memref sig .tc .smem S40 .f32) (harg2 : arg2.IsWhole) (arg3 : Memref sig .tc .vmem S1x2048x640 .fp8e4m3) (harg3 : arg3.IsWhole) (arg4 : Memref sig .tc .vmem S1x2048x128 .fp8e4m3) (harg4 : arg4.IsWhole) (arg5 : Memref sig .tc .vmem S1x2048x128 .fp8e4m3) (harg5 : arg5.IsWhole) (arg6 : Memref sig .tc .vmem S1x1x1x2048 .f32) (harg6 : arg6.IsWhole) (arg7 : Memref sig .tc .vmem S1x1x1x2048 .f32) (harg7 : arg7.IsWhole) (arg8 : Memref sig .tc .vmem S1x2048x640 .bf16) (harg8 : arg8.IsWhole) (arg9 : Memref sig .tc .vmem S128x2048 .bf16) (harg9 : arg9.IsWhole) (arg10 : Memref sig .tc .vmem S2048x128 .f32) (harg10 : arg10.IsWhole) (arg11 : Memref sig .tc .vmem S2048x128 .f32) (harg11 : arg11.IsWhole) (arg1 : BitVec 32) (v364 : BitVec 1) (X2 : BufTy.Contents (Elt F) arg2.view.ty) (X3 : BufTy.Contents (Elt F) arg3.view.ty) (X4 : BufTy.Contents (Elt F) arg4.view.ty) (X9 : BufTy.Contents (Elt F) arg9.view.ty) (X10 : BufTy.Contents (Elt F) arg10.view.ty) (X11 : BufTy.Contents (Elt F) arg11.view.ty) (k : Fin k0_t1_loop.trips) :
    pb1 (F := F) c i arg2 harg2 arg3 harg3 arg4 harg4 arg5 harg5 arg6 harg6 arg7 harg7 arg8 harg8 arg9 harg9 arg10 harg10 arg11 harg11 arg1 v364 X2 X3 X4 X9 X10 X11 (k.val + 1)
      = headPieces (F := F) c i arg2 harg2 arg3 harg3 arg4 harg4 arg5 harg5 arg6 harg6 arg7 harg7 arg8 harg8 arg9 harg9 arg10 harg10 arg11 harg11 arg1 v364 X2 X3 X4 X9 X10 (G11 (F := F) c i arg2 harg2 arg3 harg3 arg4 harg4 arg5 harg5 arg6 harg6 arg7 harg7 arg8 harg8 arg9 harg9 arg10 harg10 arg11 harg11 arg1 X2 X3 X4 X9 X10 X11 (k.val + 1)) k
        ++ pb1 (F := F) c i arg2 harg2 arg3 harg3 arg4 harg4 arg5 harg5 arg6 harg6 arg7 harg7 arg8 harg8 arg9 harg9 arg10 harg10 arg11 harg11 arg1 v364 X2 X3 X4 X9 X10 X11 k.val := by
  show (if h : k.val < k0_t1_loop.trips then _ else _) ++ _ = _
  rw [dif_pos k.isLt]

/-- Before head `k`. -/
abbrev inv1 (c : Dev nD) (i : grid0.Coords) (arg2 : Memref sig .tc .smem S40 .f32) (harg2 : arg2.IsWhole) (arg3 : Memref sig .tc .vmem S1x2048x640 .fp8e4m3) (harg3 : arg3.IsWhole) (arg4 : Memref sig .tc .vmem S1x2048x128 .fp8e4m3) (harg4 : arg4.IsWhole) (arg5 : Memref sig .tc .vmem S1x2048x128 .fp8e4m3) (harg5 : arg5.IsWhole) (arg6 : Memref sig .tc .vmem S1x1x1x2048 .f32) (harg6 : arg6.IsWhole) (arg7 : Memref sig .tc .vmem S1x1x1x2048 .f32) (harg7 : arg7.IsWhole) (arg8 : Memref sig .tc .vmem S1x2048x640 .bf16) (harg8 : arg8.IsWhole) (arg9 : Memref sig .tc .vmem S128x2048 .bf16) (harg9 : arg9.IsWhole) (arg10 : Memref sig .tc .vmem S2048x128 .f32) (harg10 : arg10.IsWhole) (arg11 : Memref sig .tc .vmem S2048x128 .f32) (harg11 : arg11.IsWhole) (arg1 : BitVec 32) (v364 : BitVec 1) (X2 : BufTy.Contents (Elt F) arg2.view.ty) (X3 : BufTy.Contents (Elt F) arg3.view.ty) (X4 : BufTy.Contents (Elt F) arg4.view.ty) (X9 : BufTy.Contents (Elt F) arg9.view.ty) (X10 : BufTy.Contents (Elt F) arg10.view.ty)
    (X11 : BufTy.Contents (Elt F) arg11.view.ty) (G8 : BufTy.Contents (Elt F) arg8.view.ty) (k : ℕ) (_ : Unit) : sProp 𝕄G :=
  iprop(pt c arg2 X2 ∗ pt c arg3 X3 ∗ pt c arg4 X4 ∗ pt c arg9 X9 ∗ pt c arg10 X10
    ∗ (∃ f, pt c arg11 f ∗ ⌜f = G11 (F := F) c i arg2 harg2 arg3 harg3 arg4 harg4 arg5 harg5 arg6 harg6 arg7 harg7 arg8 harg8 arg9 harg9 arg10 harg10 arg11 harg11 arg1 X2 X3 X4 X9 X10 X11 k⌝)
    ∗ ∃ f, pt c arg8 f ∗ ⌜f = arg8.view.writes (Elt F) G8 (pb1 (F := F) c i arg2 harg2 arg3 harg3 arg4 harg4 arg5 harg5 arg6 harg6 arg7 harg7 arg8 harg8 arg9 harg9 arg10 harg10 arg11 harg11 arg1 v364 X2 X3 X4 X9 X10 X11 k)⌝)

set_option warn.classDefReducibility false in
/-- The loop over the heads, by that invariant. -/
@[sl_loop] noncomputable def loopInv_k0_t1 (c : Dev nD) (i : grid0.Coords) (arg2 : Memref sig .tc .smem S40 .f32) (harg2 : arg2.IsWhole) (arg3 : Memref sig .tc .vmem S1x2048x640 .fp8e4m3) (harg3 : arg3.IsWhole) (arg4 : Memref sig .tc .vmem S1x2048x128 .fp8e4m3) (harg4 : arg4.IsWhole) (arg5 : Memref sig .tc .vmem S1x2048x128 .fp8e4m3) (harg5 : arg5.IsWhole) (arg6 : Memref sig .tc .vmem S1x1x1x2048 .f32) (harg6 : arg6.IsWhole) (arg7 : Memref sig .tc .vmem S1x1x1x2048 .f32) (harg7 : arg7.IsWhole) (arg8 : Memref sig .tc .vmem S1x2048x640 .bf16) (harg8 : arg8.IsWhole) (arg9 : Memref sig .tc .vmem S128x2048 .bf16) (harg9 : arg9.IsWhole) (arg10 : Memref sig .tc .vmem S2048x128 .f32) (harg10 : arg10.IsWhole) (arg11 : Memref sig .tc .vmem S2048x128 .f32) (harg11 : arg11.IsWhole) (arg1 : BitVec 32) (v364 : BitVec 1) (X2 : BufTy.Contents (Elt F) arg2.view.ty) (X3 : BufTy.Contents (Elt F) arg3.view.ty) (X4 : BufTy.Contents (Elt F) arg4.view.ty) (X9 : BufTy.Contents (Elt F) arg9.view.ty) (X10 : BufTy.Contents (Elt F) arg10.view.ty)
    (X11 : BufTy.Contents (Elt F) arg11.view.ty) (G8 : BufTy.Contents (Elt F) arg8.view.ty) :
    LoopInvTy_k0_t1 (F := F) Unit ℕ (UR sig nD τ) ℕ Variants.none c none Set.univ i arg2 harg2 arg3 harg3 arg4 harg4 arg5 harg5 arg6 harg6 arg7 harg7 arg8 harg8 arg9 harg9 arg10 harg10 arg11 harg11 arg1 v364 where
  inv := inv1 (F := F) c i arg2 harg2 arg3 harg3 arg4 harg4 arg5 harg5 arg6 harg6 arg7 harg7 arg8 harg8 arg9 harg9 arg10 harg10 arg11 harg11 arg1 v364 X2 X3 X4 X9 X10 X11 G8
  step k acc := by
    iintro ⟨H2, H3, H4, H9, H10, ⟨%f11, H11, %hf11⟩, %f, H8, %hf⟩
    subst hf; subst hf11
    have h := trip1 (F := F) c i arg2 harg2 arg3 harg3 arg4 harg4 arg5 harg5 arg6 harg6 arg7 harg7 arg8 harg8 arg9 harg9 arg10 harg10 arg11 harg11 arg1 v364 X2 X3 X4 X9 X10 k
      (G11 (F := F) c i arg2 harg2 arg3 harg3 arg4 harg4 arg5 harg5 arg6 harg6 arg7 harg7 arg8 harg8 arg9 harg9 arg10 harg10 arg11 harg11 arg1 X2 X3 X4 X9 X10 X11 k.val)
      (arg8.view.writes (Elt F) G8 (pb1 (F := F) c i arg2 harg2 arg3 harg3 arg4 harg4 arg5 harg5 arg6 harg6 arg7 harg7 arg8 harg8 arg9 harg9 arg10 harg10 arg11 harg11 arg1 v364 X2 X3 X4 X9 X10 X11 k.val))
    rw [← View.writes_append, ← View.writes_append, ← pb11_succ, ← pb1_succ] at h
    iapply (wp_wand_r Idealize.ShloMosaic.frame (wpE (defs₀ (F := F)) Variants.none (c : Thread nD τ) none) Set.univ)
    isplitl [H2 H3 H4 H9 H10 H11 H8]
    · iapply h
      isplitl [H2]; · iexact H2
      isplitl [H3]; · iexact H3
      isplitl [H4]; · iexact H4
      isplitl [H9]; · iexact H9
      isplitl [H10]; · iexact H10
      isplitl [H11]; · iexact H11
      iexact H8
    · iintro %yld ⟨H2, H3, H4, H9, H10, H11, H8⟩
      isplitl [H2]; · iexact H2
      isplitl [H3]; · iexact H3
      isplitl [H4]; · iexact H4
      isplitl [H9]; · iexact H9
      isplitl [H10]; · iexact H10
      isplitl [H11]
      · iexists _
        isplitl [H11]; · iexact H11
        ipureintro; rfl
      iexists _
      isplitl [H8]; · iexact H8
      ipureintro; rfl

/-- What the body reads and writes. -/
abbrev Held (c : Dev nD) (arg2 : Memref sig .tc .smem S40 .f32) (arg3 : Memref sig .tc .vmem S1x2048x640 .fp8e4m3) (arg4 : Memref sig .tc .vmem S1x2048x128 .fp8e4m3) (arg5 : Memref sig .tc .vmem S1x2048x128 .fp8e4m3) (arg6 arg7 : Memref sig .tc .vmem S1x1x1x2048 .f32) (arg8 : Memref sig .tc .vmem S1x2048x640 .bf16) (arg9 : Memref sig .tc .vmem S128x2048 .bf16) (arg10 arg11 : Memref sig .tc .vmem S2048x128 .f32)
    (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X9 : BufTy.Contents (Elt F) arg9.view.ty) (X10 : BufTy.Contents (Elt F) arg10.view.ty)
    (X11 : BufTy.Contents (Elt F) arg11.view.ty) (f : BufTy.Contents (Elt F) arg8.view.ty) : sProp 𝕄G :=
  iprop(pt c arg2 X2 ∗ pt c arg3 X3 ∗ pt c arg4 X4 ∗ pt c arg5 X5 ∗ pt c arg6 X6 ∗ pt c arg7 X7 ∗ pt c arg8 f ∗ pt c arg9 X9 ∗ pt c arg10 X10 ∗ pt c arg11 X11)

/-- The body: the pieces it writes into the transposed values and into the key scales, the head group and the test of the
    value scales it finds; what it then writes into the output window follows by the heads' recursion. -/
@[irreducible] def body (c : Dev nD) (i : grid0.Coords) (arg2 : Memref sig .tc .smem S40 .f32) (harg2 : arg2.IsWhole) (arg3 : Memref sig .tc .vmem S1x2048x640 .fp8e4m3) (harg3 : arg3.IsWhole) (arg4 : Memref sig .tc .vmem S1x2048x128 .fp8e4m3) (harg4 : arg4.IsWhole) (arg5 : Memref sig .tc .vmem S1x2048x128 .fp8e4m3) (harg5 : arg5.IsWhole) (arg6 : Memref sig .tc .vmem S1x1x1x2048 .f32) (harg6 : arg6.IsWhole) (arg7 : Memref sig .tc .vmem S1x1x1x2048 .f32) (harg7 : arg7.IsWhole) (arg8 : Memref sig .tc .vmem S1x2048x640 .bf16) (harg8 : arg8.IsWhole) (arg9 : Memref sig .tc .vmem S128x2048 .bf16) (harg9 : arg9.IsWhole) (arg10 : Memref sig .tc .vmem S2048x128 .f32) (harg10 : arg10.IsWhole) (arg11 : Memref sig .tc .vmem S2048x128 .f32) (harg11 : arg11.IsWhole)
    (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) :
    Σ' (L9 : List (View.Piece (Elt F) S128x2048 .bf16)) (L10 : List (View.Piece (Elt F) S2048x128 .f32)) (a1 : BitVec 32),
    { v : BitVec 1 // ∀ (X9 : BufTy.Contents (Elt F) arg9.view.ty) (X10 : BufTy.Contents (Elt F) arg10.view.ty)
        (X11 : BufTy.Contents (Elt F) arg11.view.ty) (f : BufTy.Contents (Elt F) arg8.view.ty),
      Held (F := F) c arg2 arg3 arg4 arg5 arg6 arg7 arg8 arg9 arg10 arg11 X2 X3 X4 X5 X6 X7 X9 X10 X11 f
      ⊢ wp frame (wpE (defs₀ (F := F)) Variants.none (c : Thread nD τ) none) Set.univ (cc0_gqa_fp8_prefill (F := F) i arg2 harg2 arg3 harg3 arg4 harg4 arg5 harg5 arg6 harg6 arg7 harg7 arg8 harg8 arg9 harg9 arg10 harg10 arg11 harg11)
          (fun _ => Held (F := F) c arg2 arg3 arg4 arg5 arg6 arg7 arg8 arg9 arg10 arg11 X2 X3 X4 X5 X6 X7
            (arg9.view.writes (Elt F) arg9.view.junk L9) (arg10.view.writes (Elt F) arg10.view.junk L10)
            (G11 (F := F) c i arg2 harg2 arg3 harg3 arg4 harg4 arg5 harg5 arg6 harg6 arg7 harg7 arg8 harg8 arg9 harg9 arg10 harg10 arg11 harg11 a1 X2 X3 X4 (arg9.view.writes (Elt F) arg9.view.junk L9) (arg10.view.writes (Elt F) arg10.view.junk L10) X11 k0_t1_loop.trips)
            (arg8.view.writes (Elt F) f (pb1 (F := F) c i arg2 harg2 arg3 harg3 arg4 harg4 arg5 harg5 arg6 harg6 arg7 harg7 arg8 harg8 arg9 harg9 arg10 harg10 arg11 harg11 a1 v X2 X3 X4 (arg9.view.writes (Elt F) arg9.view.junk L9) (arg10.view.writes (Elt F) arg10.view.junk L10) X11 k0_t1_loop.trips))) } := by
  refine ⟨?_, ?_, ?_, ?_, fun X9 X10 X11 f => ?run⟩
  case run =>
    rw [cc0_gqa_fp8_prefill_eq_skeleton]; unfold cc0_gqa_fp8_prefill_skel
    iintro ⟨H2, H3, H4, H5, H6, H7, H8, H9, H10, H11⟩
    sl_exec
    sl_step
    sl_close

end Cert.Proof.KernelIdeal

end
-- ==== Proof.KernelIdealRun.lean ====
/-
  The run of `KernelIdeal`: the pipeline's proof data, the body at a grid point, and the frame — every argument array as it was,
  every counter at zero.
-/
module

public import proofs.«01_k».proof.Proof.KernelIdealBody
public import proofs.«01_k».proof.Proof.Gen.KernelIdeal.Frame

@[expose] public section

set_option maxRecDepth 16384
set_option maxHeartbeats 400000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf RDat)

variable {F : FTy → Type} [FloatOps F] [Named F]

local notation "𝕄G" => MT nD τ sig Unit (Elt F) ℕ (UR sig nD τ) ℕ

/-- A whole buffer's points-to. -/
theorem pt_whole (c : Dev nD) (b : Ref sig .tc) (f : Buf (Elt F) ((c : Thread nD τ).loc b)) :
    (pt (F := F) c (Memref.whole b) f : sProp 𝕄G) = (((c : Thread nD τ).loc b) ↦{fullShare} f) := by
  show (_ ↦[(View.whole b).set]{fullShare} f) = _
  rw [View.set_whole]

/-- `X` is what one run of the body leaves in the output window where it finds the blocks `x2` … `x7` in the input windows. -/
def Left (c : Dev nD) (i : grid0.Coords) (arg2 : Memref sig .tc .smem S40 .f32) (harg2 : arg2.IsWhole) (arg3 : Memref sig .tc .vmem S1x2048x640 .fp8e4m3) (harg3 : arg3.IsWhole) (arg4 : Memref sig .tc .vmem S1x2048x128 .fp8e4m3) (harg4 : arg4.IsWhole) (arg5 : Memref sig .tc .vmem S1x2048x128 .fp8e4m3) (harg5 : arg5.IsWhole) (arg6 : Memref sig .tc .vmem S1x1x1x2048 .f32) (harg6 : arg6.IsWhole) (arg7 : Memref sig .tc .vmem S1x1x1x2048 .f32) (harg7 : arg7.IsWhole) (arg8 : Memref sig .tc .vmem S1x2048x640 .bf16) (harg8 : arg8.IsWhole) (arg9 : Memref sig .tc .vmem S128x2048 .bf16) (harg9 : arg9.IsWhole) (arg10 : Memref sig .tc .vmem S2048x128 .f32) (harg10 : arg10.IsWhole) (arg11 : Memref sig .tc .vmem S2048x128 .f32) (harg11 : arg11.IsWhole)
    (x2 : Vec F S40 .f32) (x3 : Vec F S1x2048x640 .fp8e4m3) (x4 x5 : Vec F S1x2048x128 .fp8e4m3) (x6 x7 : Vec F S1x1x1x2048 .f32)
    (X : Vec F S1x2048x640 .bf16) : Prop :=
  ∃ (X2 : BufTy.Contents (Elt F) arg2.view.ty) (X3 : BufTy.Contents (Elt F) arg3.view.ty) (X4 : BufTy.Contents (Elt F) arg4.view.ty)
    (X5 : BufTy.Contents (Elt F) arg5.view.ty) (X6 : BufTy.Contents (Elt F) arg6.view.ty) (X7 : BufTy.Contents (Elt F) arg7.view.ty)
    (X11 : BufTy.Contents (Elt F) arg11.view.ty) (f : BufTy.Contents (Elt F) arg8.view.ty),
    (arg2.view.read (Elt F) X2 = x2 ∧ arg3.view.read (Elt F) X3 = x3 ∧ arg4.view.read (Elt F) X4 = x4
      ∧ arg5.view.read (Elt F) X5 = x5 ∧ arg6.view.read (Elt F) X6 = x6 ∧ arg7.view.read (Elt F) X7 = x7)
    ∧ X = arg8.view.read (Elt F) (arg8.view.writes (Elt F) f (pb1 (F := F) c i arg2 harg2 arg3 harg3 arg4 harg4 arg5 harg5 arg6 harg6 arg7 harg7 arg8 harg8 arg9 harg9 arg10 harg10 arg11 harg11
        (body (F := F) c i arg2 harg2 arg3 harg3 arg4 harg4 arg5 harg5 arg6 harg6 arg7 harg7 arg8 harg8 arg9 harg9 arg10 harg10 arg11 harg11 X2 X3 X4 X5 X6 X7).2.2.1 (body (F := F) c i arg2 harg2 arg3 harg3 arg4 harg4 arg5 harg5 arg6 harg6 arg7 harg7 arg8 harg8 arg9 harg9 arg10 harg10 arg11 harg11 X2 X3 X4 X5 X6 X7).2.2.2.1 X2 X3 X4
        (arg9.view.writes (Elt F) arg9.view.junk (body (F := F) c i arg2 harg2 arg3 harg3 arg4 harg4 arg5 harg5 arg6 harg6 arg7 harg7 arg8 harg8 arg9 harg9 arg10 harg10 arg11 harg11 X2 X3 X4 X5 X6 X7).1)
        (arg10.view.writes (Elt F) arg10.view.junk (body (F := F) c i arg2 harg2 arg3 harg3 arg4 harg4 arg5 harg5 arg6 harg6 arg7 harg7 arg8 harg8 arg9 harg9 arg10 harg10 arg11 harg11 X2 X3 X4 X5 X6 X7).2.1) X11 k0_t1_loop.trips))

/-- The body over owned windows and scratch buffers. -/
theorem body_owns (c : Dev nD) (i : grid0.Coords) (arg2 : Memref sig .tc .smem S40 .f32) (harg2 : arg2.IsWhole) (arg3 : Memref sig .tc .vmem S1x2048x640 .fp8e4m3) (harg3 : arg3.IsWhole) (arg4 : Memref sig .tc .vmem S1x2048x128 .fp8e4m3) (harg4 : arg4.IsWhole) (arg5 : Memref sig .tc .vmem S1x2048x128 .fp8e4m3) (harg5 : arg5.IsWhole) (arg6 : Memref sig .tc .vmem S1x1x1x2048 .f32) (harg6 : arg6.IsWhole) (arg7 : Memref sig .tc .vmem S1x1x1x2048 .f32) (harg7 : arg7.IsWhole) (arg8 : Memref sig .tc .vmem S1x2048x640 .bf16) (harg8 : arg8.IsWhole) (arg9 : Memref sig .tc .vmem S128x2048 .bf16) (harg9 : arg9.IsWhole) (arg10 : Memref sig .tc .vmem S2048x128 .f32) (harg10 : arg10.IsWhole) (arg11 : Memref sig .tc .vmem S2048x128 .f32) (harg11 : arg11.IsWhole)
    (x2 : Vec F S40 .f32) (x3 : Vec F S1x2048x640 .fp8e4m3) (x4 x5 : Vec F S1x2048x128 .fp8e4m3) (x6 x7 : Vec F S1x1x1x2048 .f32)
    (X : Vec F S1x2048x640 .bf16) :
    iprop(owns (c : Thread nD τ) arg2 fullShare x2 ∗ owns (c : Thread nD τ) arg3 fullShare x3 ∗ owns (c : Thread nD τ) arg4 fullShare x4
      ∗ owns (c : Thread nD τ) arg5 fullShare x5 ∗ owns (c : Thread nD τ) arg6 fullShare x6 ∗ owns (c : Thread nD τ) arg7 fullShare x7
      ∗ owns (c : Thread nD τ) arg8 fullShare X
      ∗ (∃ f, pt (F := F) c arg9 f) ∗ (∃ f, pt (F := F) c arg10 f) ∗ (∃ f, pt (F := F) c arg11 f))
    ⊢ wp frame (wpE (defs₀ (F := F)) Variants.none (c : Thread nD τ) none) Set.univ (cc0_gqa_fp8_prefill (F := F) i arg2 harg2 arg3 harg3 arg4 harg4 arg5 harg5 arg6 harg6 arg7 harg7 arg8 harg8 arg9 harg9 arg10 harg10 arg11 harg11)
      (fun _ => iprop(owns (c : Thread nD τ) arg2 fullShare x2 ∗ owns (c : Thread nD τ) arg3 fullShare x3 ∗ owns (c : Thread nD τ) arg4 fullShare x4
        ∗ owns (c : Thread nD τ) arg5 fullShare x5 ∗ owns (c : Thread nD τ) arg6 fullShare x6 ∗ owns (c : Thread nD τ) arg7 fullShare x7
        ∗ (∃ X, ⌜Left (F := F) c i arg2 harg2 arg3 harg3 arg4 harg4 arg5 harg5 arg6 harg6 arg7 harg7 arg8 harg8 arg9 harg9 arg10 harg10 arg11 harg11 x2 x3 x4 x5 x6 x7 X⌝ ∗ owns (c : Thread nD τ) arg8 fullShare X)
        ∗ (∃ f, pt (F := F) c arg9 f) ∗ (∃ f, pt (F := F) c arg10 f) ∗ (∃ f, pt (F := F) c arg11 f))) := by
  unfold owns
  iintro ⟨⟨%X2, %h2, H2⟩, ⟨%X3, %h3, H3⟩, ⟨%X4, %h4, H4⟩, ⟨%X5, %h5, H5⟩, ⟨%X6, %h6, H6⟩, ⟨%X7, %h7, H7⟩, ⟨%f, -, H8⟩, ⟨%X9, H9⟩, ⟨%X10, H10⟩, ⟨%X11, H11⟩⟩
  iapply (wp_wand_r Idealize.ShloMosaic.frame (wpE (defs₀ (F := F)) Variants.none (c : Thread nD τ) none) Set.univ)
  isplitl [H2 H3 H4 H5 H6 H7 H8 H9 H10 H11]
  · iapply ((body (F := F) c i arg2 harg2 arg3 harg3 arg4 harg4 arg5 harg5 arg6 harg6 arg7 harg7 arg8 harg8 arg9 harg9 arg10 harg10 arg11 harg11 X2 X3 X4 X5 X6 X7).2.2.2.2 X9 X10 X11 f)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  iintro %y ⟨H2, H3, H4, H5, H6, H7, H8, H9, H10, H11⟩
  isplitl [H2]; · iexists _; isplitr; swap; (· iexact H2); ipureintro; exact h2
  isplitl [H3]; · iexists _; isplitr; swap; (· iexact H3); ipureintro; exact h3
  isplitl [H4]; · iexists _; isplitr; swap; (· iexact H4); ipureintro; exact h4
  isplitl [H5]; · iexists _; isplitr; swap; (· iexact H5); ipureintro; exact h5
  isplitl [H6]; · iexists _; isplitr; swap; (· iexact H6); ipureintro; exact h6
  isplitl [H7]; · iexists _; isplitr; swap; (· iexact H7); ipureintro; exact h7
  isplitl [H8]
  · iexists _; isplitr
    swap
    · iexists _; isplitr; swap; (· iexact H8); ipureintro; rfl
    ipureintro
    exact ⟨X2, X3, X4, X5, X6, X7, X11, f, ⟨h2, h3, h4, h5, h6, h7⟩, rfl⟩
  isplitl [H9]; · iexists _; iexact H9
  isplitl [H10]; · iexists _; iexact H10
  iexists _; iexact H11

variable (m : (ℓ : Loc nD τ sig) → Buf (Elt F) ℓ) (ρ : Dev nD → PrngReg)

/-- The proof data of the one pipeline on core `c`, the output window's buffer after the body at `out`: the arrays as the
    region finds them, each input window's buffer at its block, the scratch buffers at something, nothing owed. -/
def dats (out : (c : Dev nD) → (t : Fin cfg0.N) → Vec F S1x2048x640 .bf16) (_ : Fin 1) (c : Dev nD) :
    Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out c t
  Φ _ := Pipeline.ΦA spec0 c
  q _ := fullShare
  owed _ := 0

variable (out : (c : Dev nD) → (t : Fin cfg0.N) → Vec F S1x2048x640 .bf16)

theorem A_eq (c : Dev nD) (w : Fin cfg0.W) : (dats m out 0 c).A w = V m c (Pipeline.arrRef spec0 w) := by dsimp only [dats]
theorem after0_0 (c : Dev nD) (t : Fin cfg0.N) : (dats m out 0 c).after 0 t = iblk m c 0 t := by dsimp only [dats]
theorem after0_1 (c : Dev nD) (t : Fin cfg0.N) : (dats m out 0 c).after 1 t = iblk m c 1 t := by dsimp only [dats]
theorem after0_2 (c : Dev nD) (t : Fin cfg0.N) : (dats m out 0 c).after 2 t = iblk m c 2 t := by dsimp only [dats]
theorem after0_3 (c : Dev nD) (t : Fin cfg0.N) : (dats m out 0 c).after 3 t = iblk m c 3 t := by dsimp only [dats]
theorem after0_4 (c : Dev nD) (t : Fin cfg0.N) : (dats m out 0 c).after 4 t = iblk m c 4 t := by dsimp only [dats]
theorem after0_5 (c : Dev nD) (t : Fin cfg0.N) : (dats m out 0 c).after 5 t = iblk m c 5 t := by dsimp only [dats]
theorem after0_6 (c : Dev nD) (t : Fin cfg0.N) : (dats m out 0 c).after 6 t = out c t := by dsimp only [dats]

theorem before0_0 (c : Dev nD) (t : Fin cfg0.N) (d) : (dats m out 0 c).before 0 t d = iblk m c 0 t := before0_0_of m _ (A_eq m out c 0) (after0_0 m out c) t d
theorem before0_1 (c : Dev nD) (t : Fin cfg0.N) (d) : (dats m out 0 c).before 1 t d = iblk m c 1 t := before0_1_of m _ (A_eq m out c 1) (after0_1 m out c) t d
theorem before0_2 (c : Dev nD) (t : Fin cfg0.N) (d) : (dats m out 0 c).before 2 t d = iblk m c 2 t := before0_2_of m _ (A_eq m out c 2) (after0_2 m out c) t d
theorem before0_3 (c : Dev nD) (t : Fin cfg0.N) (d) : (dats m out 0 c).before 3 t d = iblk m c 3 t := before0_3_of m _ (A_eq m out c 3) (after0_3 m out c) t d
theorem before0_4 (c : Dev nD) (t : Fin cfg0.N) (d) : (dats m out 0 c).before 4 t d = iblk m c 4 t := before0_4_of m _ (A_eq m out c 4) (after0_4 m out c) t d
theorem before0_5 (c : Dev nD) (t : Fin cfg0.N) (d) : (dats m out 0 c).before 5 t d = iblk m c 5 t := before0_5_of m _ (A_eq m out c 5) (after0_5 m out c) t d

/-- What the body leaves in the output window at point `t`. -/
def LeftAt (c : Dev nD) (t : Fin cfg0.N) (X : Vec F S1x2048x640 .bf16) : Prop :=
  Left (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole cc0_scratch0) (Memref.isWhole_whole _) (Memref.whole cc0_scratch1) (Memref.isWhole_whole _) (Memref.whole cc0_scratch2) (Memref.isWhole_whole _)
    (iblk m c 0 t) (iblk m c 1 t) (iblk m c 2 t) (iblk m c 3 t) (iblk m c 4 t) (iblk m c 5 t) X

/-- What the body takes at a point, the output window's buffer as `L`, -/
def bodyPre (c : Dev nD) (t : Fin cfg0.N) (L : sProp 𝕄G) : sProp 𝕄G :=
  iprop((dats m out 0 c).Φ t.castSucc ∗ (dats m out 0 c).owesAt () t.castSucc
    ∗ (∃ d, owns (c : Thread nD τ) (st0_0 t) fullShare ((dats m out 0 c).before 0 t d))
    ∗ (∃ d, owns (c : Thread nD τ) (st0_1 t) fullShare ((dats m out 0 c).before 1 t d))
    ∗ (∃ d, owns (c : Thread nD τ) (st0_2 t) fullShare ((dats m out 0 c).before 2 t d))
    ∗ (∃ d, owns (c : Thread nD τ) (st0_3 t) fullShare ((dats m out 0 c).before 3 t d))
    ∗ (∃ d, owns (c : Thread nD τ) (st0_4 t) fullShare ((dats m out 0 c).before 4 t d))
    ∗ (∃ d, owns (c : Thread nD τ) (st0_5 t) fullShare ((dats m out 0 c).before 5 t d))
    ∗ L)

/-- and what it leaves. -/
def bodyPost (c : Dev nD) (t : Fin cfg0.N) (L : sProp 𝕄G) : sProp 𝕄G :=
  iprop((dats m out 0 c).Φ t.succ ∗ (dats m out 0 c).owesAt () t.succ
    ∗ owns (c : Thread nD τ) (st0_0 t) fullShare ((dats m out 0 c).after 0 t)
    ∗ owns (c : Thread nD τ) (st0_1 t) fullShare ((dats m out 0 c).after 1 t)
    ∗ owns (c : Thread nD τ) (st0_2 t) fullShare ((dats m out 0 c).after 2 t)
    ∗ owns (c : Thread nD τ) (st0_3 t) fullShare ((dats m out 0 c).after 3 t)
    ∗ owns (c : Thread nD τ) (st0_4 t) fullShare ((dats m out 0 c).after 4 t)
    ∗ owns (c : Thread nD τ) (st0_5 t) fullShare ((dats m out 0 c).after 5 t)
    ∗ L)

theorem sound_body (c : Dev nD) (t : Fin cfg0.N) (L L' : sProp 𝕄G)
    (hL : L ⊢ iprop(∃ X, owns (c : Thread nD τ) (st0_6 t) fullShare X))
    (hL' : ∀ X, LeftAt m c t X → owns (c : Thread nD τ) (st0_6 t) fullShare X ⊢ L') :
    bodyPre m out c t L ⊢ wp frame (wpE (defs₀ (F := F)) Variants.none (c : Thread nD τ) none) Set.univ (bodyAt0 t) (fun _ => bodyPost m out c t L') := by
  unfold bodyPre bodyPost bodyAt0
  rw [show (dats m out 0 c).Φ t.succ = (dats m out 0 c).Φ t.castSucc from rfl, after0_0, after0_1, after0_2, after0_3, after0_4, after0_5]
  rw [show (dats m out 0 c).Φ t.castSucc = Pipeline.ΦA spec0 c from rfl]
  unfold Pipeline.ΦA
  rw [scopedRest0_eq]
  unfold Dat.owesAt Pipeline.owesWithin
  rw [show (dats m out 0 c).owed t.castSucc = 0 from rfl, show (dats m out 0 c).owed t.succ = 0 from rfl]
  simp only [before0_0, before0_1, before0_2, before0_3, before0_4, before0_5]
  iintro ⟨⟨⟨⟨%f9, H9⟩, ⟨%f10, H10⟩, ⟨%f11, H11⟩⟩, Hg⟩, HO, ⟨%d0, H0⟩, ⟨%d1, H1⟩, ⟨%d2, H2⟩, ⟨%d3, H3⟩, ⟨%d4, H4⟩, ⟨%d5, H5⟩, H6⟩
  icases hL $$ H6 with ⟨%X, H6⟩
  iapply (wp_wand_r Idealize.ShloMosaic.frame (wpE (defs₀ (F := F)) Variants.none (c : Thread nD τ) none) Set.univ)
  isplitl [H0 H1 H2 H3 H4 H5 H6 H9 H10 H11]
  · iapply (body_owns (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole cc0_scratch0) (Memref.isWhole_whole _) (Memref.whole cc0_scratch1) (Memref.isWhole_whole _) (Memref.whole cc0_scratch2) (Memref.isWhole_whole _)
      (iblk m c 0 t) (iblk m c 1 t) (iblk m c 2 t) (iblk m c 3 t) (iblk m c 4 t) (iblk m c 5 t) X)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H9]; · iexists f9; rw [pt_whole]; exact .rfl
    isplitl [H10]; · iexists f10; rw [pt_whole]; exact .rfl
    iexists f11; rw [pt_whole]; exact .rfl
  iintro %y ⟨H0, H1, H2, H3, H4, H5, ⟨%Y, %hY, H6⟩, ⟨%g9, H9⟩, ⟨%g10, H10⟩, ⟨%g11, H11⟩⟩
  isplitl [H9 H10 H11 Hg]
  · isplitl [H9 H10 H11]
    · isplitl [H9]; · iexists g9; rw [pt_whole]; exact .rfl
      isplitl [H10]; · iexists g10; rw [pt_whole]; exact .rfl
      iexists g11; rw [pt_whole]; exact .rfl
    iexact Hg
  isplitl [HO]; · iexact HO
  isplitl [H0]; · iexact H0
  isplitl [H1]; · iexact H1
  isplitl [H2]; · iexact H2
  isplitl [H3]; · iexact H3
  isplitl [H4]; · iexact H4
  isplitl [H5]; · iexact H5
  iapply (hL' Y hY)
  iexact H6

theorem defs₀_row (t : Fin cfg0.N) :
    defs₀ (F := F) .tc cfg0.body (cfg0.bodyArgs t (cfg0.slots t)) = bodyAt0 t := by
  unfold defs₀; rw [Defs.onTc_tc]

/-- The output window forgotten: the frame reads nothing of it. -/
def fgt (w : Fin cfg0.W) : Bool := match w with
  | ⟨6, _⟩ => true
  | _ => false

/-- The pipeline's body obligation, the output window forgotten. -/
theorem body_obligation_fgt (c : Dev nD) : BodyObligation (dats (F := F) m out 0 c) (defs₀ (F := F)) Variants.none () Set.univ fgt := fun t => by
  rw [bigSep_W0, bigSep_W0, defs₀_row]
  exact triple_restated (sound_body m out c t iprop(∃ X, owns (c : Thread nD τ) (st0_6 t) fullShare X) iprop(∃ X, owns (c : Thread nD τ) (st0_6 t) fullShare X)
    .rfl (fun X _ => by iintro H; iexists X; iexact H)) rfl .rfl fun _ => .rfl

/-- The pipeline's body obligation at the proof data's output contents, where the body leaves those. -/
theorem body_obligation (hout : ∀ c t X, LeftAt m c t X → X = out c t) (c : Dev nD) :
    BodyObligation (dats (F := F) m out 0 c) (defs₀ (F := F)) Variants.none () Set.univ := fun t => by
  rw [bigSep_W0, bigSep_W0, defs₀_row]
  exact triple_restated (sound_body m out c t iprop(∃ d, owns (c : Thread nD τ) (st0_6 t) fullShare ((dats m out 0 c).before 6 t d))
    (owns (c : Thread nD τ) (st0_6 t) fullShare ((dats m out 0 c).after 6 t))
    (by iintro ⟨%d, H⟩; iexists _; iexact H) (fun X hX => by rw [hout c t X hX, after0_6])) rfl .rfl fun _ => .rfl

set_option backward.isDefEq.respectTransparency.types false in
/-- The run, the output array at what the proof data computes. -/
theorem run_main (hout : ∀ c t X, LeftAt m c t X → X = out c t) :
    θ_run defs (onTc (τ := τ) (main (F := F))) (s₀ m ρ) (fun r => Pipeline.FramePost cfgs (dats m out) 0 (V m) r ∧ r.2.sem = fun _ => 0) :=
  Pipeline.θ_run_frame cfgs (dats m out) 0 launch0 defs₀ Variants.none m ρ main
    (hbody := fun c => (body_obligation m out hout c).loose) (hshare := fun c => (dats m out 0 c).share_full fun _ => rfl)
    (howed := fun _ _ => rfl) (V := V m) (hmain := hmain m Variants.none) (hA := A_eq m out) (hΦ := fun _ _ => rfl) (Q' := _) (hQ' := fun _ h => h)

/-- Contents not named. -/
abbrev outF (c : Dev nD) (t : Fin cfg0.N) : Vec F S1x2048x640 .bf16 := Dat.unnamed (cfg := cfg0) 6 t

/-- The proof data of the frame: nothing is said of the output. -/
abbrev datsF : (p : Fin 1) → (c : Dev nD) → Dat τ (Elt F) Unit ℕ (UR sig nD τ) ℕ cfg0 c :=
  dats m outF

set_option backward.isDefEq.respectTransparency.types false in
/-- The run, the output forgotten. -/
theorem run_fgt :
    θ_run defs (onTc (τ := τ) (main (F := F))) (s₀ m ρ) (fun r => RDat.FramePost cfg0 (fun c => (datsF m 0 c).toRForget fgt) (V m) r ∧ r.2.sem = fun _ => 0) :=
  Pipeline.θ_run_frame_forget cfgs (datsF m) 0 launch0 defs₀ Variants.none fgt m ρ main
    (hbody := fun c => (body_obligation_fgt m _ c).loose) (hshare := fun c => (datsF m 0 c).share_full fun _ => rfl)
    (howed := fun _ _ => rfl) (V := V m) (hmain := hmain m Variants.none) (hA := A_eq m outF) (hΦ := fun _ _ => rfl) (Q' := _) (hQ' := fun _ h => h)

/-- THE FRAME: every argument array as launched, every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => ⟨
      (h.1.arr_in c 1 rfl).trans ((A_eq m outF c 1).trans (V_main_arg0 m c)),
      (h.1.arr_in c 2 rfl).trans ((A_eq m outF c 2).trans (V_main_arg1 m c)),
      (h.1.arr_in c 3 rfl).trans ((A_eq m outF c 3).trans (V_main_arg2 m c)),
      (h.1.arr_in c 0 rfl).trans ((A_eq m outF c 0).trans (V_main_arg3 m c)),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c)⟩, h.2⟩) (run_fgt m ρ)

end Cert.Proof.KernelIdeal

end
-- ==== Proof.KernelIdealTiles.lean ====
/-
  The direct computation of `KernelIdeal`'s heads, as a recursion over tiles of keys.
-/
module

public import proofs.«01_k».proof.Proof.KernelIdealLoops

@[expose] public section

set_option maxRecDepth 16384
set_option maxHeartbeats 4000000

noncomputable section

namespace Cert.Proof.KernelIdeal

open Cert.KernelIdeal Cert.KernelIdeal.Gen
open Idealize.ShloMosaic Idealize.ShloMosaic.TcCoe

variable {F : FTy → Type} [FloatOps F] [Named F]

/-- The zero every sum starts from. -/
def zeroB : F .f32 := Scalar.ofBits .f32 0x00000000#32

/-- The exponentials of one tile: 256 keys (rows) against 256 queries (columns). -/
def expT (K q : FVec F S256x128 .fp8e4m3) (C : FVec F S256x128 .f32) : FVec F S256x256 .f32 :=
  exp2 (mulf (matmul dot_S256x128_S256x128_S256x256_1_1_0_0_n_n none K q (constant S256x256 .f32 0x00000000#32))
    (concatenate S256x256 1 [⟨S256x128, C⟩, ⟨S256x128, C⟩] concatenates_S256x128_S256x128_S256x256_d1))

/-- The diagonal tile: keys after the query count zero. -/
def maskT (p : FVec F S256x256 .f32) : FVec F S256x256 .f32 :=
  select (cmpi .sle (iota .tc S256x256 32 [0] iota_S256x256_d0_w32) (iota .tc S256x256 32 [1] iota_S256x256_d1_w32)) p
    (broadcast S256x256 zeroB)

theorem stripe_ok (a : Fin 32) : S256x256.Slices ![8 * a.1, 0] S8x256 := by
  revert a; decide +kernel

/-- Eight rows of a tile. -/
def stripe (p : FVec F S256x256 .f32) (a : Fin 32) : FVec F S8x256 .f32 :=
  extractStridedSlice S8x256 ![8 * a.1, 0] p (stripe_ok a)

/-- The stripes of a tile summed by halving: `a`, `a + 16`, … -/
def tree (p : FVec F S256x256 .f32) : FVec F S8x256 .f32 :=
  let t5 (a : Fin 32) := stripe p a
  let t4 (a : Fin 16) := addf (t5 ⟨a.1, by omega⟩) (t5 ⟨a.1 + 16, by omega⟩)
  let t3 (a : Fin 8) := addf (t4 ⟨a.1, by omega⟩) (t4 ⟨a.1 + 8, by omega⟩)
  let t2 (a : Fin 4) := addf (t3 ⟨a.1, by omega⟩) (t3 ⟨a.1 + 4, by omega⟩)
  let t1 (a : Fin 2) := addf (t2 ⟨a.1, by omega⟩) (t2 ⟨a.1 + 2, by omega⟩)
  addf (t1 0) (t1 1)

/-- The running row sums after `n` whole tiles. -/
def accL (q : FVec F S256x128 .fp8e4m3) (K : ℕ → FVec F S256x128 .fp8e4m3) (C : ℕ → FVec F S256x128 .f32) : ℕ → FVec F S8x256 .f32
  | 0 => broadcast S8x256 zeroB
  | n + 1 => addf (accL q K C n) (tree (expT (K n) q (C n)))

/-- The running value sums after `n` whole tiles. -/
def accO (q : FVec F S256x128 .fp8e4m3) (K : ℕ → FVec F S256x128 .fp8e4m3) (C : ℕ → FVec F S256x128 .f32) (V : ℕ → FVec F S128x256 .bf16) :
    ℕ → FVec F S128x256 .f32
  | 0 => broadcast S128x256 zeroB
  | n + 1 => addf (accO q K C V n) (matmul dot_S128x256_S256x256_S128x256_1_0_0_1_n_n none (V n) (truncf .bf16 (expT (K n) q (C n)) bitsLt_bf16_f32)
      (constant S128x256 .f32 0x00000000#32))

/-- The row sums of block `n`. -/
def rowL (q : FVec F S256x128 .fp8e4m3) (K : ℕ → FVec F S256x128 .fp8e4m3) (C : ℕ → FVec F S256x128 .f32) (n : ℕ) : FVec F S1x256 .f32 :=
  shapeCast S1x256 (multiReduction .add [0] S256 (addf (accL q K C n) (tree (maskT (expT (K n) q (C n))))) 0x00000000#32
    reduces_S8x256_S256 (.inl rfl) rfl) shapeCasts_S256_S1x256

/-- The output of block `n`. -/
def outT (q : FVec F S256x128 .fp8e4m3) (K : ℕ → FVec F S256x128 .fp8e4m3) (C : ℕ → FVec F S256x128 .f32) (V : ℕ → FVec F S128x256 .bf16)
    (n : ℕ) : FVec F S1x256x128 .bf16 :=
  shapeCast S1x256x128 (truncf .bf16 (transpose S256x128 [1, 0] (divf
    (addf (accO q K C V n) (matmul dot_S128x256_S256x256_S128x256_1_0_0_1_n_n none (V n)
      (truncf .bf16 (maskT (expT (K n) q (C n))) bitsLt_bf16_f32) (constant S128x256 .f32 0x00000000#32)))
    (broadcastTo S128x256 (rowL q K C n) broadcasts_S1x256_S128x256)) transposes_S128x256_p1_0_S256x128) bitsLt_bf16_f32) shapeCasts_S256x128_S1x256x128

/-! ### The tiles -/

variable (i : grid0.Coords) (arg2 : Memref sig .tc .smem S40 .f32) (arg3 : Memref sig .tc .vmem S1x2048x640 .fp8e4m3) (arg4 : Memref sig .tc .vmem S1x2048x128 .fp8e4m3)
  (arg9 : Memref sig .tc .vmem S128x2048 .bf16) (arg10 : Memref sig .tc .vmem S2048x128 .f32) (arg11 : Memref sig .tc .vmem S2048x128 .f32)
  (X2 : BufTy.Contents (Elt F) arg2.view.ty) (X3 : BufTy.Contents (Elt F) arg3.view.ty) (X4 : BufTy.Contents (Elt F) arg4.view.ty)
  (X9 : BufTy.Contents (Elt F) arg9.view.ty) (X10 : BufTy.Contents (Elt F) arg10.view.ty) (k : Fin k0_t1_loop.trips)

theorem kT_ok (j : ℕ) : ∀ a, (![0, 256 * (j % 8), 0] : Fin 3 → ℕ) a + S1x256x128.size a ≤ S1x2048x128.size a := by
  intro a; fin_cases a <;> simp [S1x256x128, S1x2048x128] <;> omega
theorem cT_ok (j : ℕ) : ∀ a, (![256 * (j % 8), 0] : Fin 2 → ℕ) a + S256x128.size a ≤ S2048x128.size a := by
  intro a; fin_cases a <;> simp [S256x128, S2048x128] <;> omega
theorem vT_ok (j : ℕ) : ∀ a, (![0, 256 * (j % 8)] : Fin 2 → ℕ) a + S128x256.size a ≤ S128x2048.size a := by
  intro a; fin_cases a <;> simp [S128x256, S128x2048] <;> omega

/-- Tile `j` of the keys, -/
def kT (j : ℕ) : FVec F S256x128 .fp8e4m3 :=
  shapeCast S256x128 (View.readAt (Elt F) arg4.view (Rect.unit (s := S1x2048x128) ![0, 256 * (j % 8), 0] S1x256x128.size (kT_ok j)).toLoadRect X4) shapeCasts_S1x256x128_S256x128
/-- of the head's key scales, -/
def cT (j : ℕ) : FVec F S256x128 .f32 :=
  arg11.view.readCov (direct.sl.H11_1 i arg2 arg10 X2 X10 k) (Rect.unit (s := S2048x128) ![256 * (j % 8), 0] S256x128.size (cT_ok j)).toLoadRect
/-- of the transposed, scaled values. -/
def vT (j : ℕ) : FVec F S128x256 .bf16 :=
  View.readAt (Elt F) arg9.view (Rect.unit (s := S128x2048) ![0, 256 * (j % 8)] S128x256.size (vT_ok j)).toLoadRect X9

/-- Block `n` of the head's queries. -/
def qT : ℕ → FVec F S256x128 .fp8e4m3
  | 0 => direct.sl.v382 arg3 X3 k
  | 1 => direct.sl.v479 arg3 X3 k
  | 2 => direct.sl.v651 arg3 X3 k
  | 3 => direct.sl.v898 arg3 X3 k
  | 4 => direct.sl.v1220 arg3 X3 k
  | 5 => direct.sl.v1617 arg3 X3 k
  | 6 => direct.sl.v2089 arg3 X3 k
  | _ => direct.sl.v2636 arg3 X3 k

/-- The row sums of block `n`. -/
abbrev lT (n : ℕ) : FVec F S1x256 .f32 := rowL (qT arg3 X3 k n) (kT arg4 X4) (cT i arg2 arg10 arg11 X2 X10 k) n
/-- The output of block `n`. -/
abbrev oT (n : ℕ) : FVec F S1x256x128 .bf16 := outT (qT arg3 X3 k n) (kT arg4 X4) (cT i arg2 arg10 arg11 X2 X10 k) (vT arg9 X9) n

/-- The least row sum of the blocks before `n`, and `2^60`, -/
def minT : ℕ → FVec F S1x256 .f32
  | 0 => broadcast S1x256 (FloatOps.ofBits .f32 0x5D800000#32)
  | n + 1 => minimumf (minT n) (lT i arg2 arg3 arg4 arg10 arg11 X2 X3 X4 X10 k n)
/-- the greatest, and `2^-50`. -/
def maxT : ℕ → FVec F S1x256 .f32
  | 0 => broadcast S1x256 (FloatOps.ofBits .f32 0x26800000#32)
  | n + 1 => maximumf (maxT n) (lT i arg2 arg3 arg4 arg10 arg11 X2 X3 X4 X10 k n)

/-- The least row sum of the head is at least `2^-50`. -/
def geT (x : FVec F S1x256 .f32) : BitVec 1 :=
  Scalar.cmpf .oge (k0_pay790 (shapeCast S1x1x1 (multiReduction .minimumf [1, 2] S1 (shapeCast S1x1x256 x shapeCasts_S1x256_S1x1x256) 0x7F800000#32
    reduces_S1x1x256_S1 (.inl rfl) rfl) shapeCasts_S1_S1x1x1)) (FloatOps.ofBits .f32 0x26800000#32)

theorem v476_eq : direct.sl.v476 i arg2 arg3 arg4 arg9 arg10 arg11 X2 X3 X4 X9 X10 k = oT i arg2 arg3 arg4 arg9 arg10 arg11 X2 X3 X4 X9 X10 k 0 := rfl
theorem v648_eq : direct.sl.v648 i arg2 arg3 arg4 arg9 arg10 arg11 X2 X3 X4 X9 X10 k = oT i arg2 arg3 arg4 arg9 arg10 arg11 X2 X3 X4 X9 X10 k 1 := rfl
theorem v895_eq : direct.sl.v895 i arg2 arg3 arg4 arg9 arg10 arg11 X2 X3 X4 X9 X10 k = oT i arg2 arg3 arg4 arg9 arg10 arg11 X2 X3 X4 X9 X10 k 2 := rfl
theorem v1217_eq : direct.sl.v1217 i arg2 arg3 arg4 arg9 arg10 arg11 X2 X3 X4 X9 X10 k = oT i arg2 arg3 arg4 arg9 arg10 arg11 X2 X3 X4 X9 X10 k 3 := rfl
theorem v1614_eq : direct.sl.v1614 i arg2 arg3 arg4 arg9 arg10 arg11 X2 X3 X4 X9 X10 k = oT i arg2 arg3 arg4 arg9 arg10 arg11 X2 X3 X4 X9 X10 k 4 := rfl
theorem v2086_eq : direct.sl.v2086 i arg2 arg3 arg4 arg9 arg10 arg11 X2 X3 X4 X9 X10 k = oT i arg2 arg3 arg4 arg9 arg10 arg11 X2 X3 X4 X9 X10 k 5 := rfl
theorem v2633_eq : direct.sl.v2633 i arg2 arg3 arg4 arg9 arg10 arg11 X2 X3 X4 X9 X10 k = oT i arg2 arg3 arg4 arg9 arg10 arg11 X2 X3 X4 X9 X10 k 6 := rfl
theorem v3255_eq : direct.sl.v3255 i arg2 arg3 arg4 arg9 arg10 arg11 X2 X3 X4 X9 X10 k = oT i arg2 arg3 arg4 arg9 arg10 arg11 X2 X3 X4 X9 X10 k 7 := rfl

theorem v3246_eq : direct.sl.v3246 i arg2 arg3 arg4 arg10 arg11 X2 X3 X4 X10 k = minT i arg2 arg3 arg4 arg10 arg11 X2 X3 X4 X10 k 8 := rfl
theorem v3247_eq : direct.sl.v3247 i arg2 arg3 arg4 arg10 arg11 X2 X3 X4 X10 k = maxT i arg2 arg3 arg4 arg10 arg11 X2 X3 X4 X10 k 8 := rfl
theorem v3260_eq : direct.sl.v3260 i arg2 arg3 arg4 arg10 arg11 X2 X3 X4 X10 k = geT (minT i arg2 arg3 arg4 arg10 arg11 X2 X3 X4 X10 k 8) := rfl

end Cert.Proof.KernelIdeal
end
-- ==== Proof.Attn.lean ====
module

public import Idealize.ShloMosaic.PureOps.Ideal
public import Mathlib.Data.EReal.Inv
public import Mathlib.Data.EReal.Operations
public import Mathlib.Algebra.BigOperators.Group.Finset.Basic
public import Mathlib.Algebra.Order.BigOperators.Group.Finset

@[expose] public section

/-!
# One row of attention on the extended reals

A row has a score `sm s` for each key `s < N` (`⊥` where the key is masked) and a weight `w s`, the key's
value times its scale. `attn N sm w` is the softmax-weighted mean, the weights' exponentials shifted by the
row's greatest score and the division last. The three theorems say that the kernel's two ways of reaching it
agree with it, at every extended-real score:

* `attn_direct` — exponentials that are not shifted at all, when their sum is positive and finite;
* `onlineL_step`, `onlineO_step` — one more tile of keys, the running sums rescaled to the new maximum;
* `attn_exp` — the base-e softmax of scores is the base-2 softmax of scores over `log 2`.
-/

noncomputable section

namespace Cert.Attn

open Idealize.ShloMosaic
open scoped BigOperators

/-- The greatest score among the first `N` keys. -/
def top (N : ℕ) (sm : ℕ → EReal) : EReal := (Finset.range N).sup sm
/-- The sum of the exponentials shifted by `m`. -/
def den (N : ℕ) (sm : ℕ → EReal) (m : EReal) : EReal := ∑ s ∈ Finset.range N, Ideal.exp2 (sm s - m)
/-- The weighted sum of the exponentials shifted by `m`. -/
def num (N : ℕ) (sm w : ℕ → EReal) (m : EReal) : EReal := ∑ s ∈ Finset.range N, Ideal.exp2 (sm s - m) * w s
/-- One row of attention. -/
def attn (N : ℕ) (sm w : ℕ → EReal) : EReal := Ideal.div (num N sm w (top N sm)) (den N sm (top N sm))

theorem top_congr {N : ℕ} {sm sm' : ℕ → EReal} (h : ∀ s < N, sm s = sm' s) : top N sm = top N sm' :=
  Finset.sup_congr rfl fun s hs => h s (Finset.mem_range.1 hs)

theorem attn_congr {N : ℕ} {sm sm' w w' : ℕ → EReal} (h : ∀ s < N, sm s = sm' s) (hw : ∀ s < N, w s = w' s) :
    attn N sm w = attn N sm' w' := by
  unfold attn num den
  rw [top_congr h]
  congr 1
  · exact Finset.sum_congr rfl fun s hs => by rw [h s (Finset.mem_range.1 hs), hw s (Finset.mem_range.1 hs)]
  · exact Finset.sum_congr rfl fun s hs => by rw [h s (Finset.mem_range.1 hs)]

theorem exp2_bot : Ideal.exp2 ⊥ = 0 := rfl
theorem exp2_top : Ideal.exp2 ⊤ = ⊤ := rfl
theorem exp2_coe (r : ℝ) : Ideal.exp2 (r : EReal) = ((2 : ℝ) ^ r : ℝ) := rfl

theorem exp2_nonneg (x : EReal) : 0 ≤ Ideal.exp2 x := by
  induction x with
  | bot => simp [exp2_bot]
  | top => simp [exp2_top]
  | coe r => rw [exp2_coe]; exact_mod_cast (Real.rpow_pos_of_pos (by norm_num) r).le

theorem sub_top (x : EReal) : x - ⊤ = ⊥ := by
  rw [sub_eq_add_neg]; simp
theorem bot_sub (x : EReal) : ⊥ - x = ⊥ := by
  rw [sub_eq_add_neg]; simp

/-- A finite nonnegative factor distributes over a sum. -/
theorem mul_sum_of_nonneg {ι : Type*} (S : Finset ι) (f : ι → EReal) {a : EReal} (h0 : 0 ≤ a) (h1 : a ≠ ⊤) :
    a * ∑ s ∈ S, f s = ∑ s ∈ S, a * f s := by
  classical
  induction S using Finset.induction_on with
  | empty => simp
  | insert x S hx ih => rw [Finset.sum_insert hx, Finset.sum_insert hx, ← ih, EReal.left_distrib_of_nonneg_of_ne_top h0 h1]

/-- Moving the shift from `m` up to `m'` is a factor. -/
theorem exp2_shift {x m m' : EReal} (h : x ≤ m) (h' : m ≤ m') :
    Ideal.exp2 (m - m') * Ideal.exp2 (x - m) = Ideal.exp2 (x - m') := by
  induction m' with
  | top => simp [sub_top, exp2_bot]
  | bot =>
    obtain rfl : m = ⊥ := le_bot_iff.mp h'
    obtain rfl : x = ⊥ := le_bot_iff.mp h
    simp [bot_sub, exp2_bot]
  | coe r' =>
    induction m with
    | top => exact absurd h' (by simp)
    | bot =>
      obtain rfl : x = ⊥ := le_bot_iff.mp h
      simp [bot_sub, exp2_bot]
    | coe r =>
      induction x with
      | top => exact absurd h (by simp)
      | bot => simp [bot_sub, exp2_bot]
      | coe y =>
        rw [← EReal.coe_sub, ← EReal.coe_sub, ← EReal.coe_sub, exp2_coe, exp2_coe, exp2_coe, ← EReal.coe_mul,
          ← Real.rpow_add (by norm_num)]
        congr 2; ring

/-- The rescaling factor is finite. -/
theorem exp2_sub_ne_top {m m' : EReal} (h' : m ≤ m') : Ideal.exp2 (m - m') ≠ ⊤ := by
  induction m' with
  | top => simp [sub_top, exp2_bot]
  | bot =>
    obtain rfl : m = ⊥ := le_bot_iff.mp h'
    simp [bot_sub, exp2_bot]
  | coe r' =>
    induction m with
    | top => exact absurd h' (by simp)
    | bot => simp [bot_sub, exp2_bot]
    | coe r => rw [← EReal.coe_sub, exp2_coe]; exact EReal.coe_ne_top _

theorem top_le_of_le {N : ℕ} {sm : ℕ → EReal} {s : ℕ} (hs : s ∈ Finset.range N) : sm s ≤ top N sm :=
  Finset.le_sup (f := sm) hs

/-- The running weighted sum rescaled to a greater shift. -/
theorem num_shift (N : ℕ) (sm w : ℕ → EReal) {m' : EReal} (h : top N sm ≤ m') :
    Ideal.exp2 (top N sm - m') * num N sm w (top N sm) = num N sm w m' := by
  unfold num
  rw [mul_sum_of_nonneg _ _ (exp2_nonneg _) (exp2_sub_ne_top h)]
  refine Finset.sum_congr rfl fun s hs => ?_
  rw [← mul_assoc, exp2_shift (top_le_of_le hs) h]

theorem den_eq_num (N : ℕ) (sm : ℕ → EReal) (m : EReal) : den N sm m = num N sm (fun _ => 1) m := by
  simp [den, num]

/-- The running sum rescaled to a greater shift. -/
theorem den_shift (N : ℕ) (sm : ℕ → EReal) {m' : EReal} (h : top N sm ≤ m') :
    Ideal.exp2 (top N sm - m') * den N sm (top N sm) = den N sm m' := by
  simp only [den_eq_num]; exact num_shift N sm _ h

/-- The greatest score of `N + n` keys. -/
theorem top_add (N n : ℕ) (sm : ℕ → EReal) : top (N + n) sm = max (top N sm) (top n fun s => sm (N + s)) := by
  apply le_antisymm
  · refine Finset.sup_le fun s hs => ?_
    rw [Finset.mem_range] at hs
    rcases lt_or_ge s N with h | h
    · exact le_max_of_le_left (top_le_of_le (Finset.mem_range.mpr h))
    · refine le_max_of_le_right ?_
      have := top_le_of_le (N := n) (sm := fun s => sm (N + s)) (s := s - N) (Finset.mem_range.mpr (by omega))
      simpa [Nat.add_sub_cancel' h] using this
  · refine max_le (Finset.sup_le fun s hs => ?_) (Finset.sup_le fun s hs => ?_)
    · exact top_le_of_le (Finset.mem_range.mpr (by rw [Finset.mem_range] at hs; omega))
    · exact top_le_of_le (s := N + s) (Finset.mem_range.mpr (by rw [Finset.mem_range] at hs; omega))

theorem num_add (N n : ℕ) (sm w : ℕ → EReal) (m : EReal) :
    num (N + n) sm w m = num N sm w m + num n (fun s => sm (N + s)) (fun s => w (N + s)) m := by
  unfold num; rw [Finset.sum_range_add]

theorem den_add (N n : ℕ) (sm : ℕ → EReal) (m : EReal) :
    den (N + n) sm m = den N sm m + den n (fun s => sm (N + s)) m := by
  unfold den; rw [Finset.sum_range_add]

/-- One step of the running weighted sum: rescaled to the new maximum, the tile's added. -/
theorem onlineO_step (N n : ℕ) (sm w : ℕ → EReal) :
    Ideal.exp2 (top N sm - top (N + n) sm) * num N sm w (top N sm)
      + num n (fun s => sm (N + s)) (fun s => w (N + s)) (top (N + n) sm) = num (N + n) sm w (top (N + n) sm) := by
  rw [num_shift N sm w (by rw [top_add]; exact le_max_left _ _), num_add]

/-- One step of the running sum. -/
theorem onlineL_step (N n : ℕ) (sm : ℕ → EReal) :
    Ideal.exp2 (top N sm - top (N + n) sm) * den N sm (top N sm)
      + den n (fun s => sm (N + s)) (top (N + n) sm) = den (N + n) sm (top (N + n) sm) := by
  rw [den_shift N sm (by rw [top_add]; exact le_max_left _ _), den_add]

/-- A common positive finite factor of dividend and divisor cancels. -/
theorem div_mul_left {c : ℝ} (hc : 0 < c) (x y : EReal) : Ideal.div (c * x) (c * y) = Ideal.div x y := by
  have hc' : (c : EReal) ≠ 0 := by exact_mod_cast hc.ne'
  unfold Ideal.div
  by_cases hy : y = 0
  · subst hy
    rw [mul_zero, if_pos rfl, if_pos rfl]
    have : (0 < (c : EReal) * x) ↔ 0 < x := by
      constructor
      · intro h
        by_contra hx
        have := mul_nonpos_of_nonneg_of_nonpos (a := (c : EReal)) (b := x) (by exact_mod_cast hc.le) (not_lt.mp hx)
        exact absurd h (not_lt.mpr this)
      · intro h; exact EReal.mul_pos (by exact_mod_cast hc) h
    simp only [this]
  · rw [if_neg hy, if_neg (mul_ne_zero hc' hy), EReal.mul_inv]
    rw [show (c : EReal) * x * ((c : EReal)⁻¹ * y⁻¹) = ((c : EReal) * (c : EReal)⁻¹) * (x * y⁻¹) by
      simp only [mul_assoc, mul_comm, mul_left_comm]]
    rw [← EReal.coe_inv, ← EReal.coe_mul, mul_inv_cancel₀ hc.ne', EReal.coe_one, one_mul]

/-- Unshifted exponentials: when their sum is positive and finite, the quotient is the row's attention. -/
theorem attn_direct (N : ℕ) (sm w : ℕ → EReal) (h0 : 0 < ∑ s ∈ Finset.range N, Ideal.exp2 (sm s))
    (h1 : ∑ s ∈ Finset.range N, Ideal.exp2 (sm s) < ⊤) :
    Ideal.div (∑ s ∈ Finset.range N, Ideal.exp2 (sm s) * w s) (∑ s ∈ Finset.range N, Ideal.exp2 (sm s)) = attn N sm w := by
  have hle : ∀ s ∈ Finset.range N, sm s ≠ ⊤ := fun s hs e => by
    have := Finset.single_le_sum (f := fun s => Ideal.exp2 (sm s)) (fun i _ => exp2_nonneg _) hs
    simp only [e, exp2_top] at this
    exact absurd h1 (not_lt.mpr this)
  have hT : top N sm ≠ ⊤ := by
    refine ne_of_lt ((Finset.sup_lt_iff ?_).mpr fun s hs => lt_top_iff_ne_top.mpr (hle s hs))
    exact bot_lt_top
  have hB : top N sm ≠ ⊥ := fun e => by
    refine absurd h0 (not_lt.mpr (le_of_eq ?_))
    refine Finset.sum_eq_zero fun s hs => ?_
    have : sm s = ⊥ := le_bot_iff.mp (e ▸ top_le_of_le hs)
    rw [this, exp2_bot]
  obtain ⟨μ, hμ⟩ : ∃ μ : ℝ, top N sm = μ := ⟨_, (EReal.coe_toReal hT hB).symm⟩
  have hc : (0 : ℝ) < (2 : ℝ) ^ μ := Real.rpow_pos_of_pos (by norm_num) μ
  have key : ∀ x : EReal, Ideal.exp2 x = (((2 : ℝ) ^ μ : ℝ) : EReal) * Ideal.exp2 (x - μ) := fun x => by
    induction x with
    | bot => simp [bot_sub, exp2_bot]
    | top => rw [EReal.top_sub_coe, exp2_top, EReal.coe_mul_top_of_pos hc]
    | coe r =>
      rw [← EReal.coe_sub, exp2_coe, exp2_coe, ← EReal.coe_mul, ← Real.rpow_add (by norm_num)]
      congr 2; ring
  have hn : ∀ w : ℕ → EReal, ∑ s ∈ Finset.range N, Ideal.exp2 (sm s) * w s = (((2 : ℝ) ^ μ : ℝ) : EReal) * num N sm w (top N sm) := fun w => by
    unfold num
    rw [mul_sum_of_nonneg _ _ (by exact_mod_cast hc.le) (EReal.coe_ne_top _)]
    refine Finset.sum_congr rfl fun s _ => ?_
    rw [hμ, ← mul_assoc, ← key]
  have hd : ∑ s ∈ Finset.range N, Ideal.exp2 (sm s) = (((2 : ℝ) ^ μ : ℝ) : EReal) * den N sm (top N sm) := by
    rw [den_eq_num, ← hn]; simp
  rw [hn w, hd, div_mul_left hc]; rfl

/-- Masked keys past the last one count for nothing. -/
theorem attn_extend {N N' : ℕ} (h : N ≤ N') (sm w : ℕ → EReal) (hm : ∀ s, N ≤ s → sm s = ⊥) :
    attn N' sm w = attn N sm w := by
  obtain ⟨n, rfl⟩ := Nat.exists_eq_add_of_le h
  have ht : top (N + n) sm = top N sm := by
    rw [top_add]
    refine max_eq_left (Finset.sup_le fun s _ => ?_)
    rw [hm _ (Nat.le_add_right _ _)]; exact bot_le
  have hn : ∀ w, num (N + n) sm w (top N sm) = num N sm w (top N sm) := fun w => by
    rw [num_add]
    have : num n (fun s => sm (N + s)) (fun s => w (N + s)) (top N sm) = 0 := by
      refine Finset.sum_eq_zero fun s _ => ?_
      simp [hm _ (Nat.le_add_right N s), bot_sub, exp2_bot]
    rw [this, add_zero]
  unfold attn
  rw [ht, hn, den_eq_num, hn, ← den_eq_num]

theorem log_two_inv_pos : (0 : ℝ) < (Real.log 2)⁻¹ := inv_pos.mpr (Real.log_pos (by norm_num))

/-- The base-2 exponential of `y / log 2` is the exponential of `y`. -/
theorem exp2_mul (y : EReal) : Ideal.exp2 ((((Real.log 2)⁻¹ : ℝ) : EReal) * y) = Ideal.exp y := by
  induction y with
  | bot => rw [EReal.coe_mul_bot_of_pos log_two_inv_pos]; rfl
  | top => rw [EReal.coe_mul_top_of_pos log_two_inv_pos]; rfl
  | coe r =>
    rw [← EReal.coe_mul, exp2_coe]
    show _ = ((Real.exp r : ℝ) : EReal)
    rw [Real.rpow_def_of_pos (by norm_num)]
    congr 2
    rw [← mul_assoc, mul_inv_cancel₀ (Real.log_pos (by norm_num)).ne', one_mul]

theorem mul_sub_coe {c : ℝ} (hc : 0 < c) (x y : EReal) : (c : EReal) * (x - y) = c * x - c * y := by
  rw [sub_eq_add_neg, sub_eq_add_neg, EReal.left_distrib_of_nonneg_of_ne_top (by exact_mod_cast hc.le) (EReal.coe_ne_top _),
    mul_neg]

theorem mul_le_mul_coe {c : ℝ} (hc : 0 < c) {x y : EReal} (h : x ≤ y) : (c : EReal) * x ≤ c * y :=
  mul_le_mul_of_nonneg_left h (by exact_mod_cast hc.le)

/-- The greatest of the scaled scores is the greatest score, scaled. -/
theorem top_mul {N : ℕ} (hN : 0 < N) (sr : ℕ → EReal) {c : ℝ} (hc : 0 < c) :
    top N (fun s => c * sr s) = c * top N sr := by
  apply le_antisymm
  · exact Finset.sup_le fun s hs => mul_le_mul_coe hc (top_le_of_le hs)
  · obtain ⟨s, hs, he⟩ := Finset.exists_mem_eq_sup (Finset.range N) ⟨0, Finset.mem_range.mpr hN⟩ sr
    unfold top
    rw [he]
    exact Finset.le_sup (f := fun s => (c : EReal) * sr s) hs

/-- The base-e softmax of scores is the base-2 softmax of the scores over `log 2`. -/
theorem attn_exp {N : ℕ} (hN : 0 < N) (sr w : ℕ → EReal) :
    Ideal.div (∑ s ∈ Finset.range N, Ideal.exp (sr s - top N sr) * w s) (∑ s ∈ Finset.range N, Ideal.exp (sr s - top N sr))
      = attn N (fun s => (((Real.log 2)⁻¹ : ℝ) : EReal) * sr s) w := by
  unfold attn num den
  rw [top_mul hN _ log_two_inv_pos]
  simp only [← mul_sub_coe log_two_inv_pos, exp2_mul]

end Cert.Attn

end
-- ==== Proof.KernelIdealDirect.lean ====
/-
  The direct computation of one block of `KernelIdeal`, on the extended reals.
-/
module

public import proofs.«01_k».proof.Proof.KernelIdealTiles
public import proofs.«01_k».proof.Proof.Attn
public import Idealize.ShloMosaic.Lib.Pointwise
public import Idealize.ShloMosaic.Lib.WordCmp
public import Idealize.ShloMosaic.Lib.Pipeline.ValueKit

@[expose] public section

set_option maxRecDepth 16384
set_option maxHeartbeats 1000000

noncomputable section

namespace Cert.Proof.KernelIdeal

open Cert.KernelIdeal Cert.KernelIdeal.Gen Cert.Attn
open Idealize.ShloMosaic Idealize.ShloMosaic.TcCoe
open scoped BigOperators

/-- The masked scores of a row whose last key is `T`. -/
def masked (T : ℕ) (S : ℕ → EReal) (s : ℕ) : EReal := if s ≤ T then S s else ⊥

theorem exp2_masked (T : ℕ) (S : ℕ → EReal) (s : ℕ) :
    Ideal.exp2 (masked T S s) = if s ≤ T then Ideal.exp2 (S s) else 0 := by
  unfold masked; split
  · rfl
  · exact exp2_bot

theorem stripe_at (p : FVec Ideal S256x256 .f32) (a : Fin 32) (r : Fin 8) (t : Fin 256) :
    stripe p a (ix2 r t) = p (ix2 ⟨8 * a.1 + r.1, by omega⟩ t) := by
  pointwise [stripe]

theorem halves (f : ℕ → EReal) :
    f 0 + f 16 + (f 8 + f 24) + (f 4 + f 20 + (f 12 + f 28)) + (f 2 + f 18 + (f 10 + f 26) + (f 6 + f 22 + (f 14 + f 30)))
      + (f 1 + f 17 + (f 9 + f 25) + (f 5 + f 21 + (f 13 + f 29)) + (f 3 + f 19 + (f 11 + f 27) + (f 7 + f 23 + (f 15 + f 31))))
      = ∑ a ∈ Finset.range 32, f a := by
  simp only [Finset.sum_range_succ, Finset.sum_range_zero, zero_add]
  ac_rfl

/-- The stripes' sum, a row at a time. -/
theorem tree_at (p : FVec Ideal S256x256 .f32) (r : Fin 8) (t : Fin 256) :
    tree p (ix2 r t) = ∑ a : Fin 32, p (ix2 ⟨8 * a.1 + r.1, by omega⟩ t) := by
  have e : ∀ a, p (ix2 ⟨8 * a.1 + r.1, by omega⟩ t) = stripe p a (ix2 r t) := fun a => (stripe_at p a r t).symm
  simp only [e]
  generalize hf : (fun a => stripe p a (ix2 r t)) = f
  have hf' : ∀ a, stripe p a (ix2 r t) = f a := fun a => congrFun hf a
  pointwise [tree, hf']
  refine (halves fun a => f (Fin.ofNat 32 a)).trans ?_
  rw [Finset.sum_range]
  refine Finset.sum_congr rfl fun a _ => congrArg f (Fin.ext ?_)
  simp [Nat.mod_eq_of_lt a.2]

theorem expT_at (K q : FVec Ideal S256x128 .fp8e4m3) (C : FVec Ideal S256x128 .f32) (c : EReal) (s t : Fin 256)
    (hC : ∀ l : Fin 128, C (ix2 s l) = c) :
    expT K q C (ix2 s t) = Ideal.exp2 ((∑ e : Fin 128, K (ix2 s e) * q (ix2 t e)) * c) := by
  pointwise [expT, hC]
  rw [dite_eq_ite, ite_self]
  rfl

theorem maskT_at (p : FVec Ideal S256x256 .f32) (s t : Fin 256) : maskT p (ix2 s t) = if s.1 ≤ t.1 then p (ix2 s t) else 0 := by
  pointwise [maskT, zeroB]
  word_cmp

theorem rowL_at (q : FVec Ideal S256x128 .fp8e4m3) (K : ℕ → FVec Ideal S256x128 .fp8e4m3) (C : ℕ → FVec Ideal S256x128 .f32) (n : ℕ) (t : Fin 256) :
    rowL q K C n (ix2 0 t) = ∑ r : Fin 8, (accL q K C n (ix2 r t) + tree (maskT (expT (K n) q (C n))) (ix2 r t)) := by
  pointwise [rowL]

theorem outT_at (q : FVec Ideal S256x128 .fp8e4m3) (K : ℕ → FVec Ideal S256x128 .fp8e4m3) (C : ℕ → FVec Ideal S256x128 .f32) (V : ℕ → FVec Ideal S128x256 .bf16) (n : ℕ) (t : Fin 256) (d : Fin 128) :
    outT q K C V n (ix3 0 t d) = Ideal.div (accO q K C V n (ix2 d t) + ∑ s : Fin 256, V n (ix2 d s) * maskT (expT (K n) q (C n)) (ix2 s t)) (rowL q K C n (ix2 0 t)) := by
  pointwise [outT]

theorem sum_block (n : ℕ) (f : ℕ → EReal) :
    ∑ s ∈ Finset.range (256 * (n + 1)), f s = ∑ s ∈ Finset.range (256 * n), f s + ∑ s : Fin 256, f (256 * n + s.1) := by
  rw [show 256 * (n + 1) = 256 * n + 256 by omega, Finset.sum_range_add, Finset.sum_range (fun s => f (256 * n + s))]

theorem sum_stripes (f : ℕ → EReal) : ∑ r : Fin 8, ∑ a : Fin 32, f (8 * a.1 + r.1) = ∑ s : Fin 256, f s.1 := by
  rw [Finset.sum_comm, Fin.sum_univ_tiles 32 8 rfl fun s : Fin 256 => f s.1]
  refine Finset.sum_congr rfl fun a _ => Finset.sum_congr rfl fun r _ => congrArg f ?_
  show 8 * a.1 + r.1 = a.1 * 8 + r.1
  omega

/-! ### One row of one block

`q` is the block's queries and `t` the row; `kk s e`, `cc s`, `w d s` are the keys, their scales and the values, key by key. -/

section
variable (q : FVec Ideal S256x128 .fp8e4m3) (K : ℕ → FVec Ideal S256x128 .fp8e4m3) (C : ℕ → FVec Ideal S256x128 .f32)
  (V : ℕ → FVec Ideal S128x256 .bf16) (kk : ℕ → Fin 128 → EReal) (cc : ℕ → EReal) (w : Fin 128 → ℕ → EReal) (N : ℕ)
  (hK : ∀ j < N, ∀ (s : Fin 256) (e : Fin 128), K j (ix2 s e) = kk (256 * j + s.1) e)
  (hC : ∀ j < N, ∀ (s : Fin 256) (l : Fin 128), C j (ix2 s l) = cc (256 * j + s.1))
  (hV : ∀ j < N, ∀ (d : Fin 128) (s : Fin 256), V j (ix2 d s) = w d (256 * j + s.1))

/-- The score of key `s`. -/
def score (kk : ℕ → Fin 128 → EReal) (cc : ℕ → EReal) (qq : Fin 128 → EReal) (s : ℕ) : EReal := (∑ e, kk s e * qq e) * cc s

include hK hC in
theorem expT_score (t : Fin 256) (j : ℕ) (hj : j < N) (s : Fin 256) :
    expT (K j) q (C j) (ix2 s t) = Ideal.exp2 (score kk cc (fun e => q (ix2 t e)) (256 * j + s.1)) := by
  rw [expT_at _ _ _ _ _ _ (hC j hj s), score]
  simp only [hK j hj]

include hK hC in
theorem maskT_score (t : Fin 256) (j : ℕ) (hj : j < N) (s : Fin 256) :
    maskT (expT (K j) q (C j)) (ix2 s t) = Ideal.exp2 (masked (256 * j + t.1) (score kk cc (fun e => q (ix2 t e))) (256 * j + s.1)) := by
  rw [maskT_at, expT_score q K C kk cc N hK hC t j hj, exp2_masked]
  simp only [Nat.add_le_add_iff_left]

include hK hC in
theorem accL_sum (t : Fin 256) : ∀ n ≤ N, ∑ r : Fin 8, accL q K C n (ix2 r t)
      = ∑ s ∈ Finset.range (256 * n), Ideal.exp2 (score kk cc (fun e => q (ix2 t e)) s) := by
  intro n
  induction n with
  | zero => intro _; simp [accL, zeroB, broadcast]
  | succ n ih =>
    intro hn
    rw [sum_block, ← ih (by omega)]
    have e : ∀ r, accL q K C (n + 1) (ix2 r t) = accL q K C n (ix2 r t)
        + ∑ a : Fin 32, Ideal.exp2 (score kk cc (fun e => q (ix2 t e)) (256 * n + (8 * a.1 + r.1))) := fun r => by
      show accL q K C n (ix2 r t) + tree (expT (K n) q (C n)) (ix2 r t) = _
      rw [tree_at]
      congr 1
      exact Finset.sum_congr rfl fun a _ => expT_score q K C kk cc N hK hC t n (by omega) _
    simp only [e, Finset.sum_add_distrib]
    rw [sum_stripes fun s => Ideal.exp2 (score kk cc (fun e => q (ix2 t e)) (256 * n + s))]

include hK hC hV in
theorem accO_sum (t : Fin 256) (d : Fin 128) : ∀ n ≤ N, accO q K C V n (ix2 d t)
      = ∑ s ∈ Finset.range (256 * n), Ideal.exp2 (score kk cc (fun e => q (ix2 t e)) s) * w d s := by
  intro n
  induction n with
  | zero => intro _; simp [accO, zeroB, broadcast]
  | succ n ih =>
    intro hn
    rw [sum_block, ← ih (by omega)]
    have e : accO q K C V (n + 1) (ix2 d t) = accO q K C V n (ix2 d t) + ∑ s : Fin 256, V n (ix2 d s) * expT (K n) q (C n) (ix2 s t) := by
      rw [accO]; pointwise
    rw [e]
    congr 1
    exact Finset.sum_congr rfl fun s _ => by rw [expT_score q K C kk cc N hK hC t n (by omega), hV n (by omega), mul_comm]

theorem sum_masked (T : ℕ) (S w : ℕ → EReal) (n : ℕ) (hn : n ≤ T + 1) :
    ∑ s ∈ Finset.range n, Ideal.exp2 (S s) * w s = ∑ s ∈ Finset.range n, Ideal.exp2 (masked T S s) * w s :=
  Finset.sum_congr rfl fun s hs => by rw [masked, if_pos (by have := Finset.mem_range.1 hs; omega)]

theorem sum_masked_one (T : ℕ) (S : ℕ → EReal) (n : ℕ) (hn : n ≤ T + 1) :
    ∑ s ∈ Finset.range n, Ideal.exp2 (S s) = ∑ s ∈ Finset.range n, Ideal.exp2 (masked T S s) :=
  Finset.sum_congr rfl fun s hs => by rw [masked, if_pos (by have := Finset.mem_range.1 hs; omega)]

include hK hC in
theorem rowL_sum (t : Fin 256) (n : ℕ) (hn : n < N) :
    rowL q K C n (ix2 0 t) = ∑ s ∈ Finset.range (256 * (n + 1)), Ideal.exp2 (masked (256 * n + t.1) (score kk cc (fun e => q (ix2 t e))) s) := by
  rw [rowL_at, sum_block, Finset.sum_add_distrib, accL_sum q K C kk cc N hK hC t n (by omega), sum_masked_one (256 * n + t.1) _ _ (by omega)]
  congr 1
  rw [← sum_stripes fun s => Ideal.exp2 (masked (256 * n + t.1) (score kk cc (fun e => q (ix2 t e))) (256 * n + s))]
  refine Finset.sum_congr rfl fun r _ => ?_
  rw [tree_at]
  exact Finset.sum_congr rfl fun a _ => maskT_score q K C kk cc N hK hC t n hn _

include hK hC hV in
/-- Where the row's sum is positive and finite the block's output is the attention of the masked scores. -/
theorem outT_attn (t : Fin 256) (d : Fin 128) (n : ℕ) (hn : n < N) (h0 : 0 < rowL q K C n (ix2 0 t)) (h1 : rowL q K C n (ix2 0 t) < ⊤) :
    outT q K C V n (ix3 0 t d) = attn (256 * (n + 1)) (masked (256 * n + t.1) (score kk cc (fun e => q (ix2 t e)))) (w d) := by
  rw [rowL_sum q K C kk cc N hK hC t n hn] at h0 h1
  rw [← attn_direct _ _ _ h0 h1, outT_at, rowL_sum q K C kk cc N hK hC t n hn, accO_sum q K C V kk cc w N hK hC hV t d n (by omega),
    sum_masked (256 * n + t.1) _ _ _ (by omega),
    sum_block n fun s => Ideal.exp2 (masked (256 * n + t.1) (score kk cc (fun e => q (ix2 t e))) s) * w d s]
  refine congrArg₂ Ideal.div (congrArg₂ (· + ·) rfl ?_) rfl
  exact Finset.sum_congr rfl fun s _ => by rw [maskT_score q K C kk cc N hK hC t n hn, hV n hn, mul_comm]

end

end Cert.Proof.KernelIdeal
end
-- ==== Proof.Spec.lean ====
/-
  One row of causal attention, `Spec.row`: what both programs compute, over the entries of the row and of its keys.
-/
module

public import proofs.«01_k».proof.Proof.Attn

@[expose] public section

noncomputable section

namespace Cert.Spec

open Idealize.ShloMosaic Cert.Attn

/-- The constant the kernel's scores are scaled by: the head's scale `1/√128` times `1/log 2`. -/
def fac : EReal := (((Real.sqrt 128)⁻¹ * (Real.log 2)⁻¹ : ℝ) : EReal)

/-- The values of one query row over its keys `0 … 2047`: the attention of the causally masked
scores, in units of `log 2`. `q e`, `k s e` and `v s` are the entries of the query row, of the keys
and of one lane of the values; `qs`, `ks s` and `vs s` are their scales. -/
def row (t : ℕ) (q : Fin 128 → EReal) (k : Fin 2048 → Fin 128 → EReal) (v : Fin 2048 → EReal) (qs : EReal)
    (ks vs : Fin 2048 → EReal) : EReal :=
  attn 2048
    (fun s => if s ≤ t then (∑ e, k (Fin.ofNat 2048 s) e * q e) * (ks (Fin.ofNat 2048 s) * fac * qs) else ⊥)
    (fun s => v (Fin.ofNat 2048 s) * vs (Fin.ofNat 2048 s))

theorem sum_fin (n : ℕ) [NeZero n] (f : Fin n → EReal) : ∑ s, f s = ∑ s ∈ Finset.range n, f (Fin.ofNat n s) := by
  rw [Finset.sum_range]
  refine Finset.sum_congr rfl fun s _ => ?_
  congr 1
  exact Fin.ext (by simp [Nat.mod_eq_of_lt s.2])

theorem fold_max (n : ℕ) [NeZero n] (f : Fin n → EReal) :
    Finset.univ.fold max ⊥ f = top n fun s => f (Fin.ofNat n s) := by
  show Finset.univ.sup f = _
  refine le_antisymm (Finset.sup_le fun s _ => ?_) (Finset.sup_le fun s _ => Finset.le_sup (f := f) (Finset.mem_univ _))
  have e : Fin.ofNat n s.1 = s := Fin.ext (by simp [Nat.mod_eq_of_lt s.2])
  have := Finset.le_sup (f := fun s => f (Fin.ofNat n s)) (Finset.mem_range.2 s.2)
  simpa only [e, top] using this

theorem ofBits_neg_inf : Ideal.ofBits .f32 0xFF800000#32 = (⊥ : EReal) := by
  simp [Ideal.ofBits, Ideal.ieee]

theorem scale_eq : Ideal.pow (Ideal.ofBits .f32 0x43000000#32) (Ideal.ofBits .f32 0xBF000000#32)
    = (((Real.sqrt 128)⁻¹ : ℝ) : EReal) := by
  have a : Ideal.ofBits .f32 0x43000000#32 = ((128 : ℝ) : EReal) := by
    simp [Ideal.ofBits, Ideal.ieee, -EReal.coe_mul]; norm_num
  have b : Ideal.ofBits .f32 0xBF000000#32 = ((-(1/2) : ℝ) : EReal) := by
    simp [Ideal.ofBits, Ideal.ieee, -EReal.coe_mul]; norm_num
  rw [a, b]
  show (((128 : ℝ) ^ (-(1/2) : ℝ) : ℝ) : EReal) = _
  rw [Real.rpow_neg (by norm_num), Real.sqrt_eq_rpow]

/-- The natural softmax of a masked row, normalised after the value product, is `row`. -/
theorem row_natural (t : ℕ) (q : Fin 128 → EReal) (k : Fin 2048 → Fin 128 → EReal) (v : Fin 2048 → EReal) (qs : EReal)
    (ks vs : Fin 2048 → EReal) (sr : Fin 2048 → EReal)
    (hsr : ∀ s, sr s = if s.1 ≤ t then (∑ e, k s e * q e) * (qs * (((Real.sqrt 128)⁻¹ : ℝ) : EReal)) * ks s else ⊥) :
    Ideal.div (∑ s, Ideal.exp (sr s - Finset.univ.fold max ⊥ sr) * vs s * v s) (∑ s, Ideal.exp (sr s - Finset.univ.fold max ⊥ sr))
      = row t q k v qs ks vs := by
  rw [sum_fin, sum_fin, fold_max]
  have e := attn_exp (N := 2048) (by norm_num) (fun s => sr (Fin.ofNat 2048 s)) (fun s => v (Fin.ofNat 2048 s) * vs (Fin.ofNat 2048 s))
  simp only [mul_assoc, mul_comm (vs _) (v _)] at e ⊢
  rw [e, row]
  refine attn_congr ?_ fun _ _ => rfl
  intro s hs
  have m : (Fin.ofNat 2048 s).1 = s := by simp [Nat.mod_eq_of_lt hs]
  rw [hsr, m]
  split
  · rw [fac, EReal.coe_mul]; ac_rfl
  · exact EReal.coe_mul_bot_of_pos log_two_inv_pos

end Cert.Spec
end
-- ==== Proof.KernelIdealOnline.lean ====
/-
  The online softmax of one block of `KernelIdeal`, on the extended reals.
-/
module

public import proofs.«01_k».proof.Proof.KernelIdealDirect
public import proofs.«01_k».proof.Proof.Spec

@[expose] public section

set_option maxRecDepth 16384
set_option maxHeartbeats 1000000

noncomputable section

namespace Cert.Proof.KernelIdeal

open Cert.KernelIdeal Cert.KernelIdeal.Gen Cert.Attn
open Idealize.ShloMosaic Idealize.ShloMosaic.TcCoe
open scoped BigOperators

theorem t3_trips : ∀ i : Fin k0_t2_loop.trips, (k0_t3_loop i).trips = i.val + 1 := by decide +kernel
theorem t4_trips : ∀ i : Fin k0_t2_loop.trips, (k0_t4_loop i).trips = 0 := by decide +kernel
theorem t2_word : ∀ i : Fin k0_t2_loop.trips, Scalar.muli (Scf.iv 0#32 1#32 i) 256#32 = BitVec.ofNat 32 (256 * i.val) := by decide +kernel
theorem t3_word : ∀ (i : Fin k0_t2_loop.trips) (j : Fin (k0_t3_loop i).trips), Scalar.muli (Scf.iv 0#32 1#32 j) 256#32 = BitVec.ofNat 32 (256 * j.val) := by
  decide +kernel
theorem t2_lt (i : Fin k0_t2_loop.trips) : i.val < 8 := i.isLt
theorem t3_lt (i : Fin k0_t2_loop.trips) (j : Fin (k0_t3_loop i).trips) : j.val < 8 := by
  have := t3_trips i; have := j.isLt; have := t2_lt i; omega

theorem add_word (a b : ℕ) : IntOp.addi (BitVec.ofNat 32 a) (BitVec.ofNat 32 b) = BitVec.ofNat 32 (a + b) := BitVec.ofNat_add a b |>.symm
theorem select_le (a b : Fin 4096) (x y : EReal) :
    Scalar.select (IntOp.cmpi .sle (BitVec.ofNat 32 a.1) (BitVec.ofNat 32 b.1)) x y = if a.1 ≤ b.1 then x else y := by
  word_cmp

section
variable (i : Fin k0_t2_loop.trips) (q : Vec Ideal S1x256x128 .fp8e4m3) (j : Fin (k0_t3_loop i).trips)
  (m l : FVec Ideal S1x256 .f32) (o : FVec Ideal S128x256 .f32) (K : Vec Ideal S1x256x128 .fp8e4m3) (C : Vec Ideal S256x128 .f32)
  (V : Vec Ideal S128x256 .bf16) (t : Fin 256) (d : Fin 128)

theorem pay6_at (c : EReal) (s : Fin 256) (hC : ∀ l : Fin 128, C (ix2 s l) = c) :
    k0_pay6 i q j K C (ix2 s t)
      = masked (256 * i.val + t.1) (fun _ => (∑ e : Fin 128, K (ix3 0 s e) * q (ix3 0 t e)) * c) (256 * j.val + s.1) := by
  have hi := t2_lt i
  have hj := t3_lt i j
  pointwise [k0_pay6, k0_pay2, hC, t2_word, t3_word, masked]
  rw [Spec.ofBits_neg_inf, dite_eq_ite, ite_self, add_word, add_word]
  exact select_le ⟨256 * j.val + s.1, by omega⟩ ⟨256 * i.val + t.1, by omega⟩ _ _

theorem pay7_at : k0_pay7 i q j m K C (ix2 0 t) = max (m (ix2 0 t)) (Finset.univ.fold max ⊥ fun s : Fin 256 => k0_pay6 i q j K C (ix2 s t)) := by
  pointwise [k0_pay7]
  rw [Spec.ofBits_neg_inf]

theorem pay8_at (s : Fin 256) : k0_pay8 i q j m K C (ix2 s t) = Ideal.exp2 (k0_pay6 i q j K C (ix2 s t) - k0_pay7 i q j m K C (ix2 0 t)) := by
  pointwise [k0_pay8]
  rfl

theorem pay10_at : k0_pay10 i q j m l K C (ix2 0 t)
    = l (ix2 0 t) * Ideal.exp2 (m (ix2 0 t) - k0_pay7 i q j m K C (ix2 0 t)) + ∑ s : Fin 256, k0_pay8 i q j m K C (ix2 s t) := by
  pointwise [k0_pay10, k0_pay9]
  rfl

theorem pay11_at : k0_pay11 i q j m o K C V (ix2 d t)
    = o (ix2 d t) * Ideal.exp2 (m (ix2 0 t) - k0_pay7 i q j m K C (ix2 0 t)) + ∑ s : Fin 256, V (ix2 d s) * k0_pay8 i q j m K C (ix2 s t) := by
  pointwise [k0_pay11, k0_pay9]
  rfl

theorem pay18_at : k0_pay18 l o (ix3 0 t d) = Ideal.div (o (ix2 d t)) (l (ix2 0 t)) := by
  pointwise [k0_pay18]

theorem pay3_at : (k0_pay3 : FVec Ideal S1x256 .f32) (ix2 0 t) = ⊥ := by
  pointwise [k0_pay3]
  exact Spec.ofBits_neg_inf
theorem pay4_at : (k0_pay4 : FVec Ideal S1x256 .f32) (ix2 0 t) = 0 := by
  pointwise [k0_pay4]
theorem pay5_at : (k0_pay5 : FVec Ideal S128x256 .f32) (ix2 d t) = 0 := by
  pointwise [k0_pay5]

/-- One more tile of keys: the running maximum, sum and value sum of a row. -/
theorem online_at (S w : ℕ → EReal) (c : Fin 256 → EReal) (hC : ∀ (s : Fin 256) (l : Fin 128), C (ix2 s l) = c s)
    (hS : ∀ s : Fin 256, (∑ e : Fin 128, K (ix3 0 s e) * q (ix3 0 t e)) * c s = S (256 * j.val + s.1))
    (hV : ∀ s : Fin 256, V (ix2 d s) = w (256 * j.val + s.1))
    (hm : m (ix2 0 t) = top (256 * j.val) (masked (256 * i.val + t.1) S))
    (hl : l (ix2 0 t) = den (256 * j.val) (masked (256 * i.val + t.1) S) (top (256 * j.val) (masked (256 * i.val + t.1) S)))
    (ho : o (ix2 d t) = num (256 * j.val) (masked (256 * i.val + t.1) S) w (top (256 * j.val) (masked (256 * i.val + t.1) S))) :
    k0_pay7 i q j m K C (ix2 0 t) = top (256 * (j.val + 1)) (masked (256 * i.val + t.1) S)
    ∧ k0_pay10 i q j m l K C (ix2 0 t)
      = den (256 * (j.val + 1)) (masked (256 * i.val + t.1) S) (top (256 * (j.val + 1)) (masked (256 * i.val + t.1) S))
    ∧ k0_pay11 i q j m o K C V (ix2 d t)
      = num (256 * (j.val + 1)) (masked (256 * i.val + t.1) S) w (top (256 * (j.val + 1)) (masked (256 * i.val + t.1) S)) := by
  rw [show 256 * (j.val + 1) = 256 * j.val + 256 by omega]
  have h6 : ∀ s : Fin 256, k0_pay6 i q j K C (ix2 s t) = masked (256 * i.val + t.1) S (256 * j.val + s.1) := fun s => by
    rw [pay6_at i q j K C t (c s) s (hC s), hS]; rfl
  have h7 : k0_pay7 i q j m K C (ix2 0 t) = top (256 * j.val + 256) (masked (256 * i.val + t.1) S) := by
    rw [pay7_at, Spec.fold_max, top_add, hm]
    refine congrArg (max _) (top_congr fun s hs => ?_)
    rw [h6]
    simp [Nat.mod_eq_of_lt hs]
  refine ⟨h7, ?_, ?_⟩
  · rw [pay10_at, ← onlineL_step, hl, hm, h7, mul_comm]
    refine congrArg₂ (· + ·) rfl ?_
    rw [den, Finset.sum_range]
    exact Finset.sum_congr rfl fun s _ => by rw [pay8_at, h6, h7]
  · rw [pay11_at, ← onlineO_step, ho, hm, h7, mul_comm]
    refine congrArg₂ (· + ·) rfl ?_
    rw [num, Finset.sum_range]
    exact Finset.sum_congr rfl fun s _ => by rw [pay8_at, h6, h7, hV, mul_comm]

end

/-! ### What the loads read -/

theorem read_keys {sp : Space} {e : EltTy} (v : View sig .tc sp S1x2048x128 e) (X : v.ty.Contents (Elt Ideal)) (N : ℕ) (off : Fin 3 → ℕ) (hoff : off = ![0, N, 0])
    (h : ∀ a, off a + S1x256x128.size a ≤ S1x2048x128.size a) (hN : N + 256 ≤ 2048) (s : Fin 256) (l : Fin 128) :
    (View.readAt (Elt Ideal) v (Rect.unit (s := S1x2048x128) off S1x256x128.size h).toLoadRect X : S1x256x128.Idx → Elt Ideal e) (ix3 0 s l)
      = v.read (Elt Ideal) X (ix3 0 ⟨N + s.1, by omega⟩ l) := by
  subst hoff
  pointwise [View.readAt_eq_ld]

theorem read_rows {sp : Space} {e : EltTy} (v : View sig .tc sp S2048x128 e) (X : v.ty.Contents (Elt Ideal)) (N : ℕ) (off : Fin 2 → ℕ) (hoff : off = ![N, 0])
    (h : ∀ a, off a + S256x128.size a ≤ S2048x128.size a) (hN : N + 256 ≤ 2048) (s : Fin 256) (l : Fin 128) :
    (View.readAt (Elt Ideal) v (Rect.unit (s := S2048x128) off S256x128.size h).toLoadRect X : S256x128.Idx → Elt Ideal e) (ix2 s l)
      = v.read (Elt Ideal) X (ix2 ⟨N + s.1, by omega⟩ l) := by
  subst hoff
  pointwise [View.readAt_eq_ld]

theorem read_cols {sp : Space} {e : EltTy} (v : View sig .tc sp S128x2048 e) (X : v.ty.Contents (Elt Ideal)) (N : ℕ) (off : Fin 2 → ℕ) (hoff : off = ![0, N])
    (h : ∀ a, off a + S128x256.size a ≤ S128x2048.size a) (hN : N + 256 ≤ 2048) (d : Fin 128) (s : Fin 256) :
    (View.readAt (Elt Ideal) v (Rect.unit (s := S128x2048) off S128x256.size h).toLoadRect X : S128x256.Idx → Elt Ideal e) (ix2 d s)
      = v.read (Elt Ideal) X (ix2 d ⟨N + s.1, by omega⟩) := by
  subst hoff
  pointwise [View.readAt_eq_ld]

theorem read_block {sp : Space} {e : EltTy} (v : View sig .tc sp S1x2048x640 e) (X : v.ty.Contents (Elt Ideal)) (N M : ℕ) (off : Fin 3 → ℕ) (hoff : off = ![0, N, M])
    (h : ∀ a, off a + S1x256x128.size a ≤ S1x2048x640.size a) (hN : N + 256 ≤ 2048) (hM : M + 128 ≤ 640) (s : Fin 256) (l : Fin 128) :
    (View.readAt (Elt Ideal) v (Rect.unit (s := S1x2048x640) off S1x256x128.size h).toLoadRect X : S1x256x128.Idx → Elt Ideal e) (ix3 0 s l)
      = v.read (Elt Ideal) X (ix3 0 ⟨N + s.1, by omega⟩ ⟨M + l.1, by omega⟩) := by
  subst hoff
  pointwise [View.readAt_eq_ld]

end Cert.Proof.KernelIdeal
end
-- ==== Proof.KernelIdealScratch.lean ====
/-
  What `KernelIdeal`'s kernel body leaves in its scratch buffers: the transposed, scaled values, and the key scales.
-/
module

public import proofs.«01_k».proof.Proof.KernelIdealOnline
public import proofs.«01_k».proof.Proof.KernelIdealBody
public import Idealize.ShloMosaic.Lib.Pipeline.ReadBack
public import Idealize.ShloMosaic.Lib.Pipeline.ValueKit.Tiles

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic Idealize.ShloMosaic.ValueKit

section Pieces

variable {F : FTy → Type} [FloatOps F] [Named F]
variable (arg5 : Memref sig .tc .vmem S1x2048x128 .fp8e4m3) (arg6 arg7 : Memref sig .tc .vmem S1x1x1x2048 .f32)
  (X5 : BufTy.Contents (Elt F) arg5.view.ty) (X6 : BufTy.Contents (Elt F) arg6.view.ty) (X7 : BufTy.Contents (Elt F) arg7.view.ty)

theorem v128_ok (j : ℕ) : ∀ a, (![0, 128 * (j % 16), 0] : Fin 3 → ℕ) a + S1x128x128.size a ≤ S1x2048x128.size a := by
  intro a; fin_cases a <;> simp [S1x128x128, S1x2048x128] <;> omega
theorem s128_ok (j : ℕ) : ∀ a, (![0, 0, 0, 128 * (j % 16)] : Fin 4 → ℕ) a + S1x1x1x128.size a ≤ S1x1x1x2048.size a := by
  intro a; fin_cases a <;> simp [S1x1x1x128, S1x1x1x2048] <;> omega
theorem vt128_ok (j : ℕ) : ∀ a, (![0, 128 * (j % 16)] : Fin 2 → ℕ) a + S128x128.size a ≤ S128x2048.size a := by
  intro a; fin_cases a <;> simp [S128x128, S128x2048] <;> omega
theorem cb128_ok (j : ℕ) : ∀ a, (![128 * (j % 16), 0] : Fin 2 → ℕ) a + S128x128.size a ≤ S2048x128.size a := by
  intro a; fin_cases a <;> simp [S128x128, S2048x128] <;> omega

/-- The first `n` pieces of the transposed, scaled values, -/
def vtPieces : ℕ → List (View.Piece (Elt F) S128x2048 .bf16)
  | 0 => []
  | n + 1 => ⟨Rect.unit (s := S128x2048) ![0, 128 * (n % 16)] S128x128.size (vt128_ok n),
      k0_pay792 (View.readAt (Elt F) arg5.view (Rect.unit (s := S1x2048x128) ![0, 128 * (n % 16), 0] S1x128x128.size (v128_ok n)).toLoadRect X5)
        (View.readAt (Elt F) arg7.view (Rect.unit (s := S1x1x1x2048) ![0, 0, 0, 128 * (n % 16)] S1x1x1x128.size (s128_ok n)).toLoadRect X7)⟩ :: vtPieces n

/-- and of the key scales. -/
def cbPieces : ℕ → List (View.Piece (Elt F) S2048x128 .f32)
  | 0 => []
  | n + 1 => ⟨Rect.unit (s := S2048x128) ![128 * (n % 16), 0] S128x128.size (cb128_ok n),
      k0_pay793 (View.readAt (Elt F) arg6.view (Rect.unit (s := S1x1x1x2048) ![0, 0, 0, 128 * (n % 16)] S1x1x1x128.size (s128_ok n)).toLoadRect X6)⟩ :: cbPieces n

theorem H9_eq : body.sl.H9_16 arg5 arg7 X5 X7 = vtPieces arg5 arg7 X5 X7 16 := rfl
theorem H10_eq : body.sl.H10_16 arg6 X6 = cbPieces arg6 X6 16 := rfl

end Pieces

variable (arg5 : Memref sig .tc .vmem S1x2048x128 .fp8e4m3) (arg6 arg7 : Memref sig .tc .vmem S1x1x1x2048 .f32)
  (X5 : BufTy.Contents (Elt Ideal) arg5.view.ty) (X6 : BufTy.Contents (Elt Ideal) arg6.view.ty) (X7 : BufTy.Contents (Elt Ideal) arg7.view.ty)

theorem vt_at (n : ℕ) (d s : Fin 128) :
    (k0_pay792 (F := Ideal) (View.readAt (Elt Ideal) arg5.view (Rect.unit (s := S1x2048x128) ![0, 128 * (n % 16), 0] S1x128x128.size (v128_ok n)).toLoadRect X5)
        (View.readAt (Elt Ideal) arg7.view (Rect.unit (s := S1x1x1x2048) ![0, 0, 0, 128 * (n % 16)] S1x1x1x128.size (s128_ok n)).toLoadRect X7) : S128x128.Idx → Ideal .bf16) (ix2 d s)
      = (arg5.view.read (Elt Ideal) X5 (ix3 0 ⟨128 * (n % 16) + s.1, by omega⟩ d) * arg7.view.read (Elt Ideal) X7 (ix4 0 0 0 ⟨128 * (n % 16) + s.1, by omega⟩) : EReal) := by
  pointwise [k0_pay792, View.readAt_eq_ld]

theorem cb_at (n : ℕ) (s l : Fin 128) :
    (k0_pay793 (F := Ideal) (View.readAt (Elt Ideal) arg6.view (Rect.unit (s := S1x1x1x2048) ![0, 0, 0, 128 * (n % 16)] S1x1x1x128.size (s128_ok n)).toLoadRect X6) : S128x128.Idx → Ideal .f32) (ix2 s l)
      = (arg6.view.read (Elt Ideal) X6 (ix4 0 0 0 ⟨128 * (n % 16) + s.1, by omega⟩) * Spec.fac : EReal) := by
  pointwise [k0_pay793, View.readAt_eq_ld]
  exact congrArg (_ * ·) (IdealRules.named_const.ideal_named_scalar _ _ _ _ rfl)

/-- The transposed, scaled values. -/
def VT (y : S128x2048.Idx) : EReal :=
  arg5.view.read (Elt Ideal) X5 (ix3 0 (y 1) (y 0)) * arg7.view.read (Elt Ideal) X7 (ix4 0 0 0 (y 1))

/-- The key scales, times the factor of the score. -/
def CB (y : S2048x128.Idx) : EReal := arg6.view.read (Elt Ideal) X6 (ix4 0 0 0 (y 0)) * Spec.fac

theorem vt_pieces (n : ℕ) : View.PiecesOf (Val := Elt Ideal) (VT arg5 arg7 X5 X7) (vtPieces (F := Ideal) arg5 arg7 X5 X7 n) := by
  induction n with
  | zero => trivial
  | succ n ih =>
    refine ⟨fun x => ?_, ih⟩
    obtain ⟨d, s, rfl⟩ : ∃ d s, x = (ix2 d s : S128x128.Idx) := ⟨x 0, x 1, by funext a; fin_cases a <;> rfl⟩
    refine (vt_at arg5 arg7 X5 X7 n d s).trans ?_
    have h0 : ((Rect.unit (s := S128x2048) ![0, 128 * (n % 16)] S128x128.size (vt128_ok n)).emb (ix2 d s)) 0 = d := by
      apply Fin.ext; rw [rect_emb_unit_val]; simp [ix2]
    have h1 : ((Rect.unit (s := S128x2048) ![0, 128 * (n % 16)] S128x128.size (vt128_ok n)).emb (ix2 d s)) 1 = (⟨128 * (n % 16) + s.1, by omega⟩ : Fin 2048) := by
      apply Fin.ext; rw [rect_emb_unit_val]; simp [ix2]
    unfold VT
    rw [h0, h1]

theorem cb_pieces (n : ℕ) : View.PiecesOf (Val := Elt Ideal) (CB arg6 X6) (cbPieces (F := Ideal) arg6 X6 n) := by
  induction n with
  | zero => trivial
  | succ n ih =>
    refine ⟨fun x => ?_, ih⟩
    obtain ⟨s, l, rfl⟩ : ∃ d s, x = (ix2 d s : S128x128.Idx) := ⟨x 0, x 1, by funext a; fin_cases a <;> rfl⟩
    refine (cb_at arg6 X6 n s l).trans ?_
    have h0 : ((Rect.unit (s := S2048x128) ![128 * (n % 16), 0] S128x128.size (cb128_ok n)).emb (ix2 s l)) 0 = (⟨128 * (n % 16) + s.1, by omega⟩ : Fin 2048) := by
      apply Fin.ext; rw [rect_emb_unit_val]; simp [ix2]
    unfold CB
    rw [h0]

theorem vt_cover (n : ℕ) (hn : n ≤ 16) (y : S128x2048.Idx) (hy : (y 1).1 < 128 * n) : ∃ p ∈ vtPieces (F := Ideal) arg5 arg7 X5 X7 n, y ∈ p.1.set := by
  induction n with
  | zero => omega
  | succ n ih =>
    by_cases h : (y 1).1 < 128 * n
    · obtain ⟨p, hp, hm⟩ := ih (by omega) h
      exact ⟨p, List.mem_cons_of_mem _ hp, hm⟩
    · refine ⟨_, List.mem_cons_self, (Rect.mem_set_unit (inb := vt128_ok n)).mpr fun a => ?_⟩
      have h0 := (y 0).2
      have hm : n % 16 = n := Nat.mod_eq_of_lt (by omega)
      fin_cases a
      · simpa [S128x128] using h0
      · simp [S128x128, hm]; omega

theorem cb_cover (n : ℕ) (hn : n ≤ 16) (y : S2048x128.Idx) (hy : (y 0).1 < 128 * n) : ∃ p ∈ cbPieces (F := Ideal) arg6 X6 n, y ∈ p.1.set := by
  induction n with
  | zero => omega
  | succ n ih =>
    by_cases h : (y 0).1 < 128 * n
    · obtain ⟨p, hp, hm⟩ := ih (by omega) h
      exact ⟨p, List.mem_cons_of_mem _ hp, hm⟩
    · refine ⟨_, List.mem_cons_self, (Rect.mem_set_unit (inb := cb128_ok n)).mpr fun a => ?_⟩
      have h0 := (y 1).2
      have hm : n % 16 = n := Nat.mod_eq_of_lt (by omega)
      fin_cases a
      · simp [S128x128, hm]; omega
      · simpa [S128x128] using h0

variable (arg9 : Memref sig .tc .vmem S128x2048 .bf16) (arg10 : Memref sig .tc .vmem S2048x128 .f32)

/-- What the body leaves in the buffer of transposed values, -/
theorem read9 (d : Fin 128) (s : Fin 2048) : arg9.view.read (Elt Ideal) (arg9.view.writes (Elt Ideal) arg9.view.junk (body.sl.H9_16 arg5 arg7 X5 X7)) (ix2 d s)
    = (arg5.view.read (Elt Ideal) X5 (ix3 0 s d) * arg7.view.read (Elt Ideal) X7 (ix4 0 0 0 s) : EReal) := by
  rw [View.read_writes_junk_apply_eq_canon, H9_eq, ← List.append_nil (vtPieces arg5 arg7 X5 X7 16)]
  exact View.canon_append_of_piecesOf (VT arg5 arg7 X5 X7) [] _ (vt_pieces arg5 arg7 X5 X7 16) (ix2 d s) (vt_cover arg5 arg7 X5 X7 16 le_rfl _ s.2)

/-- and in the buffer of key scales. -/
theorem read10 (s : Fin 2048) (l : Fin 128) : arg10.view.read (Elt Ideal) (arg10.view.writes (Elt Ideal) arg10.view.junk (body.sl.H10_16 arg6 X6)) (ix2 s l)
    = (arg6.view.read (Elt Ideal) X6 (ix4 0 0 0 s) * Spec.fac : EReal) := by
  rw [View.read_writes_junk_apply_eq_canon, H10_eq, ← List.append_nil (cbPieces arg6 X6 16)]
  exact View.canon_append_of_piecesOf (CB arg6 X6) [] _ (cb_pieces arg6 X6 16) (ix2 s l) (cb_cover arg6 X6 16 le_rfl _ s.2)

end Cert.Proof.KernelIdeal
end
-- ==== Proof.KernelIdealSlow.lean ====
/-
  The recomputation of a head: the online softmax of each of its blocks of rows, and the piece each leaves in the output window.
-/
module

public import proofs.«01_k».proof.Proof.KernelIdealScratch

@[expose] public section

set_option maxRecDepth 16384
set_option maxHeartbeats 4000000

noncomputable section

namespace Cert.Proof.KernelIdeal

open Cert.KernelIdeal Cert.KernelIdeal.Gen Cert.Attn
open Idealize.ShloMosaic Idealize.ShloMosaic.TcCoe Idealize.ShloMosaic.Tactic Idealize.ShloMosaic.ValueKit
open scoped BigOperators

section Steps

variable {F : FTy → Type} [FloatOps F] [Named F]

/-- One tile of keys. -/
theorem trip3_eq (c : Dev nD) (i : grid0.Coords) (arg2 : Memref sig .tc .smem S40 .f32) (harg2 : arg2.IsWhole) (arg3 : Memref sig .tc .vmem S1x2048x640 .fp8e4m3) (harg3 : arg3.IsWhole) (arg4 : Memref sig .tc .vmem S1x2048x128 .fp8e4m3) (harg4 : arg4.IsWhole) (arg5 : Memref sig .tc .vmem S1x2048x128 .fp8e4m3) (harg5 : arg5.IsWhole) (arg6 : Memref sig .tc .vmem S1x1x1x2048 .f32) (harg6 : arg6.IsWhole) (arg7 : Memref sig .tc .vmem S1x1x1x2048 .f32) (harg7 : arg7.IsWhole) (arg8 : Memref sig .tc .vmem S1x2048x640 .bf16) (harg8 : arg8.IsWhole) (arg9 : Memref sig .tc .vmem S128x2048 .bf16) (harg9 : arg9.IsWhole) (arg10 : Memref sig .tc .vmem S2048x128 .f32) (harg10 : arg10.IsWhole) (arg11 : Memref sig .tc .vmem S2048x128 .f32) (harg11 : arg11.IsWhole) (k : Fin k0_t2_loop.trips) (q : Vec F S1x256x128 .fp8e4m3)
    (X4 : BufTy.Contents (Elt F) arg4.view.ty) (X9 : BufTy.Contents (Elt F) arg9.view.ty) (X11 : BufTy.Contents (Elt F) arg11.view.ty) (j : Fin (k0_t3_loop k).trips) (acc : FVec F S1x256 .f32 × FVec F S1x256 .f32 × FVec F S128x256 .f32) :
    tripR_k0_t3 (F := F) Variants.none c none i arg2 harg2 arg3 harg3 arg4 harg4 arg5 harg5 arg6 harg6 arg7 harg7 arg8 harg8 arg9 harg9 arg10 harg10 arg11 harg11 k q X4 X9 X11 j acc =
      (k0_pay7 k q j acc.1 (View.readAt (Elt F) arg4.view (Rect.unit (s := S1x2048x128) (k0_off11 k j) S1x256x128.size (k0_off11_inb k j)).toLoadRect X4)
        (View.readAt (Elt F) arg11.view (Rect.unit (s := S2048x128) (k0_off12 k j) S256x128.size (k0_off12_inb k j)).toLoadRect X11),
       k0_pay10 k q j acc.1 acc.2.1 (View.readAt (Elt F) arg4.view (Rect.unit (s := S1x2048x128) (k0_off11 k j) S1x256x128.size (k0_off11_inb k j)).toLoadRect X4)
        (View.readAt (Elt F) arg11.view (Rect.unit (s := S2048x128) (k0_off12 k j) S256x128.size (k0_off12_inb k j)).toLoadRect X11),
       k0_pay11 k q j acc.1 acc.2.2 (View.readAt (Elt F) arg4.view (Rect.unit (s := S1x2048x128) (k0_off11 k j) S1x256x128.size (k0_off11_inb k j)).toLoadRect X4)
        (View.readAt (Elt F) arg11.view (Rect.unit (s := S2048x128) (k0_off12 k j) S256x128.size (k0_off12_inb k j)).toLoadRect X11)
        (View.readAt (Elt F) arg9.view (Rect.unit (s := S128x2048) (k0_off13 k j) S128x256.size (k0_off13_inb k j)).toLoadRect X9)) := by
  unfold tripR_k0_t3 trip_k0_t3
  rfl

/-- Block `k` of the head's queries. -/
abbrev qB (arg3 : Memref sig .tc .vmem S1x2048x640 .fp8e4m3) (X3 : BufTy.Contents (Elt F) arg3.view.ty) (k0_t1 : Fin k0_t1_loop.trips) (k : Fin k0_t2_loop.trips) : Vec F S1x256x128 .fp8e4m3 :=
  View.readAt (Elt F) arg3.view (Rect.unit (s := S1x2048x640) (k0_off10 k0_t1 k) S1x256x128.size (k0_off10_inb k0_t1 k)).toLoadRect X3

/-- The running maximum, sums and value sums of block `k` after `n` tiles of keys. -/
abbrev stB (c : Dev nD) (i : grid0.Coords) (arg2 : Memref sig .tc .smem S40 .f32) (harg2 : arg2.IsWhole) (arg3 : Memref sig .tc .vmem S1x2048x640 .fp8e4m3) (harg3 : arg3.IsWhole) (arg4 : Memref sig .tc .vmem S1x2048x128 .fp8e4m3) (harg4 : arg4.IsWhole) (arg5 : Memref sig .tc .vmem S1x2048x128 .fp8e4m3) (harg5 : arg5.IsWhole) (arg6 : Memref sig .tc .vmem S1x1x1x2048 .f32) (harg6 : arg6.IsWhole) (arg7 : Memref sig .tc .vmem S1x1x1x2048 .f32) (harg7 : arg7.IsWhole) (arg8 : Memref sig .tc .vmem S1x2048x640 .bf16) (harg8 : arg8.IsWhole) (arg9 : Memref sig .tc .vmem S128x2048 .bf16) (harg9 : arg9.IsWhole) (arg10 : Memref sig .tc .vmem S2048x128 .f32) (harg10 : arg10.IsWhole) (arg11 : Memref sig .tc .vmem S2048x128 .f32) (harg11 : arg11.IsWhole) (k0_t1 : Fin k0_t1_loop.trips) (X3 : BufTy.Contents (Elt F) arg3.view.ty) (X4 : BufTy.Contents (Elt F) arg4.view.ty) (X9 : BufTy.Contents (Elt F) arg9.view.ty) (X11 : BufTy.Contents (Elt F) arg11.view.ty) (k : Fin k0_t2_loop.trips) (n : ℕ) : FVec F S1x256 .f32 × FVec F S1x256 .f32 × FVec F S128x256 .f32 :=
  st_k0_t3 (F := F) Variants.none c none i arg2 harg2 arg3 harg3 arg4 harg4 arg5 harg5 arg6 harg6 arg7 harg7 arg8 harg8 arg9 harg9 arg10 harg10 arg11 harg11 k (qB arg3 X3 k0_t1 k) X4 X9 X11 (k0_pay3, k0_pay4, k0_pay5) n

/-- The piece block `k` leaves. -/
theorem trip2_eq (c : Dev nD) (i : grid0.Coords) (arg2 : Memref sig .tc .smem S40 .f32) (harg2 : arg2.IsWhole) (arg3 : Memref sig .tc .vmem S1x2048x640 .fp8e4m3) (harg3 : arg3.IsWhole) (arg4 : Memref sig .tc .vmem S1x2048x128 .fp8e4m3) (harg4 : arg4.IsWhole) (arg5 : Memref sig .tc .vmem S1x2048x128 .fp8e4m3) (harg5 : arg5.IsWhole) (arg6 : Memref sig .tc .vmem S1x1x1x2048 .f32) (harg6 : arg6.IsWhole) (arg7 : Memref sig .tc .vmem S1x1x1x2048 .f32) (harg7 : arg7.IsWhole) (arg8 : Memref sig .tc .vmem S1x2048x640 .bf16) (harg8 : arg8.IsWhole) (arg9 : Memref sig .tc .vmem S128x2048 .bf16) (harg9 : arg9.IsWhole) (arg10 : Memref sig .tc .vmem S2048x128 .f32) (harg10 : arg10.IsWhole) (arg11 : Memref sig .tc .vmem S2048x128 .f32) (harg11 : arg11.IsWhole) (k0_t1 : Fin k0_t1_loop.trips) (X3 : BufTy.Contents (Elt F) arg3.view.ty) (X4 : BufTy.Contents (Elt F) arg4.view.ty) (X9 : BufTy.Contents (Elt F) arg9.view.ty) (X11 : BufTy.Contents (Elt F) arg11.view.ty) (k : Fin k0_t2_loop.trips) :
    (trip2 (F := F) c i arg2 harg2 arg3 harg3 arg4 harg4 arg5 harg5 arg6 harg6 arg7 harg7 arg8 harg8 arg9 harg9 arg10 harg10 arg11 harg11 k0_t1 X3 X4 X9 X11 k).1
      = [⟨Rect.unit (s := S1x2048x640) (k0_off10 k0_t1 k) S1x256x128.size (k0_off10_inb k0_t1 k),
          k0_pay18 (stB c i arg2 harg2 arg3 harg3 arg4 harg4 arg5 harg5 arg6 harg6 arg7 harg7 arg8 harg8 arg9 harg9 arg10 harg10 arg11 harg11 k0_t1 X3 X4 X9 X11 k (k0_t3_loop k).trips).2.1 (stB c i arg2 harg2 arg3 harg3 arg4 harg4 arg5 harg5 arg6 harg6 arg7 harg7 arg8 harg8 arg9 harg9 arg10 harg10 arg11 harg11 k0_t1 X3 X4 X9 X11 k (k0_t3_loop k).trips).2.2⟩] := by
  unfold trip2
  dsimp only
  have h : Scf.trips (k0_t4_loop k).lb (k0_t4_loop k).ub (k0_t4_loop k).st = 0 := t4_trips k
  rw [h]
  rfl

end Steps

section Values

variable (c : Dev nD) (i : grid0.Coords) (arg2 : Memref sig .tc .smem S40 .f32) (harg2 : arg2.IsWhole) (arg3 : Memref sig .tc .vmem S1x2048x640 .fp8e4m3) (harg3 : arg3.IsWhole) (arg4 : Memref sig .tc .vmem S1x2048x128 .fp8e4m3) (harg4 : arg4.IsWhole) (arg5 : Memref sig .tc .vmem S1x2048x128 .fp8e4m3) (harg5 : arg5.IsWhole) (arg6 : Memref sig .tc .vmem S1x1x1x2048 .f32) (harg6 : arg6.IsWhole) (arg7 : Memref sig .tc .vmem S1x1x1x2048 .f32) (harg7 : arg7.IsWhole) (arg8 : Memref sig .tc .vmem S1x2048x640 .bf16) (harg8 : arg8.IsWhole) (arg9 : Memref sig .tc .vmem S128x2048 .bf16) (harg9 : arg9.IsWhole) (arg10 : Memref sig .tc .vmem S2048x128 .f32) (harg10 : arg10.IsWhole) (arg11 : Memref sig .tc .vmem S2048x128 .f32) (harg11 : arg11.IsWhole) (k0_t1 : Fin k0_t1_loop.trips) (X3 : BufTy.Contents (Elt Ideal) arg3.view.ty) (X4 : BufTy.Contents (Elt Ideal) arg4.view.ty) (X9 : BufTy.Contents (Elt Ideal) arg9.view.ty) (X11 : BufTy.Contents (Elt Ideal) arg11.view.ty) (k : Fin k0_t2_loop.trips)

/-- After `n` tiles: the maximum, the sums and the value sums of the first `256 n` keys. -/
theorem stB_at (kk : ℕ → Fin 128 → EReal) (cc : ℕ → EReal) (w : ℕ → EReal) (d : Fin 128) (t : Fin 256)
    (hK : ∀ (s : Fin 2048) (e : Fin 128), arg4.view.read (Elt Ideal) X4 (ix3 0 s e) = kk s.1 e)
    (hC : ∀ (s : Fin 2048) (l : Fin 128), arg11.view.read (Elt Ideal) X11 (ix2 s l) = cc s.1)
    (hV : ∀ s : Fin 2048, arg9.view.read (Elt Ideal) X9 (ix2 d s) = w s.1) (n : ℕ) (hn : n ≤ k.val + 1) :
    let M := masked (256 * k.val + t.1) (score kk cc fun e => (qB (F := Ideal) arg3 X3 k0_t1 k : S1x256x128.Idx → EReal) (ix3 0 t e))
    (stB (F := Ideal) c i arg2 harg2 arg3 harg3 arg4 harg4 arg5 harg5 arg6 harg6 arg7 harg7 arg8 harg8 arg9 harg9 arg10 harg10 arg11 harg11 k0_t1 X3 X4 X9 X11 k n).1 (ix2 0 t) = top (256 * n) M
    ∧ (stB (F := Ideal) c i arg2 harg2 arg3 harg3 arg4 harg4 arg5 harg5 arg6 harg6 arg7 harg7 arg8 harg8 arg9 harg9 arg10 harg10 arg11 harg11 k0_t1 X3 X4 X9 X11 k n).2.1 (ix2 0 t) = den (256 * n) M (top (256 * n) M)
    ∧ (stB (F := Ideal) c i arg2 harg2 arg3 harg3 arg4 harg4 arg5 harg5 arg6 harg6 arg7 harg7 arg8 harg8 arg9 harg9 arg10 harg10 arg11 harg11 k0_t1 X3 X4 X9 X11 k n).2.2 (ix2 d t) = num (256 * n) M w (top (256 * n) M) := by
  intro M
  induction n with
  | zero =>
    refine ⟨(pay3_at t).trans ?_, (pay4_at t).trans ?_, (pay5_at t d).trans ?_⟩ <;> simp [top, den, num]
  | succ n ih =>
    obtain ⟨hm, hl, ho⟩ := ih (by omega)
    have ht := t3_trips k
    have hk := t2_lt k
    have hj : n < (k0_t3_loop k).trips := by omega
    have e : stB (F := Ideal) c i arg2 harg2 arg3 harg3 arg4 harg4 arg5 harg5 arg6 harg6 arg7 harg7 arg8 harg8 arg9 harg9 arg10 harg10 arg11 harg11 k0_t1 X3 X4 X9 X11 k (n + 1) = _ :=
      (st_k0_t3_succ (F := Ideal) Variants.none c none i arg2 harg2 arg3 harg3 arg4 harg4 arg5 harg5 arg6 harg6 arg7 harg7 arg8 harg8 arg9 harg9 arg10 harg10 arg11 harg11 k (qB arg3 X3 k0_t1 k) X4 X9 X11 (k0_pay3, k0_pay4, k0_pay5) ⟨n, hj⟩).trans
        (trip3_eq c i arg2 harg2 arg3 harg3 arg4 harg4 arg5 harg5 arg6 harg6 arg7 harg7 arg8 harg8 arg9 harg9 arg10 harg10 arg11 harg11 k _ X4 X9 X11 ⟨n, hj⟩ _)
    rw [e]
    refine online_at k _ ⟨n, hj⟩ _ _ _ _ _ _ t d (score kk cc fun e => (qB (F := Ideal) arg3 X3 k0_t1 k : S1x256x128.Idx → EReal) (ix3 0 t e)) w (fun s => cc (256 * n + s.1)) ?_ ?_ ?_ hm hl ho
    · intro s l
      rw [read_rows arg11.view X11 (256 * n) _ (k0_off12_eq k ⟨n, hj⟩) _ (by omega) s l, hC]
    · intro s
      unfold score
      refine congrArg (· * _) (Finset.sum_congr rfl fun e _ => ?_)
      rw [read_keys arg4.view X4 (256 * n) _ (k0_off11_eq k ⟨n, hj⟩) _ (by omega) s e, hK]
    · intro s
      rw [read_cols arg9.view X9 (256 * n) _ (k0_off13_eq k ⟨n, hj⟩) _ (by omega) d s, hV]

/-- The piece of block `k`, at row `t` and lane `d`. -/
theorem slow_at (kk : ℕ → Fin 128 → EReal) (cc : ℕ → EReal) (w : ℕ → EReal) (d : Fin 128) (t : Fin 256)
    (hK : ∀ (s : Fin 2048) (e : Fin 128), arg4.view.read (Elt Ideal) X4 (ix3 0 s e) = kk s.1 e)
    (hC : ∀ (s : Fin 2048) (l : Fin 128), arg11.view.read (Elt Ideal) X11 (ix2 s l) = cc s.1)
    (hV : ∀ s : Fin 2048, arg9.view.read (Elt Ideal) X9 (ix2 d s) = w s.1) :
    (k0_pay18 (F := Ideal) (stB c i arg2 harg2 arg3 harg3 arg4 harg4 arg5 harg5 arg6 harg6 arg7 harg7 arg8 harg8 arg9 harg9 arg10 harg10 arg11 harg11 k0_t1 X3 X4 X9 X11 k (k0_t3_loop k).trips).2.1 (stB c i arg2 harg2 arg3 harg3 arg4 harg4 arg5 harg5 arg6 harg6 arg7 harg7 arg8 harg8 arg9 harg9 arg10 harg10 arg11 harg11 k0_t1 X3 X4 X9 X11 k (k0_t3_loop k).trips).2.2
        : S1x256x128.Idx → EReal) (ix3 0 t d)
      = attn (256 * (k.val + 1)) (masked (256 * k.val + t.1) (score kk cc fun e => (qB (F := Ideal) arg3 X3 k0_t1 k : S1x256x128.Idx → EReal) (ix3 0 t e))) w := by
  have h := stB_at c i arg2 harg2 arg3 harg3 arg4 harg4 arg5 harg5 arg6 harg6 arg7 harg7 arg8 harg8 arg9 harg9 arg10 harg10 arg11 harg11 k0_t1 X3 X4 X9 X11 k kk cc w d t hK hC hV (k0_t3_loop k).trips (t3_trips k).le
  refine (pay18_at _ _ t d).trans ?_
  rw [h.2.1, h.2.2, t3_trips]
  rfl

end Values

end Cert.Proof.KernelIdeal
end
-- ==== Proof.KernelIdealFast.lean ====
/-
  The direct computation of a head on the extended reals: what its test of the row sums says of them, and the piece each block leaves in the output window.
-/
module

public import proofs.«01_k».proof.Proof.KernelIdealSlow

@[expose] public section

set_option maxRecDepth 16384
set_option maxHeartbeats 400000

noncomputable section

namespace Cert.Proof.KernelIdeal

open Cert.KernelIdeal Cert.KernelIdeal.Gen Cert.Attn
open Idealize.ShloMosaic Idealize.ShloMosaic.TcCoe Idealize.ShloMosaic.Tactic Idealize.ShloMosaic.ValueKit
open scoped BigOperators

theorem oge_eq (a b : Ideal .f32) (h : Scalar.cmpf (F := Ideal) .oge a b = 1#1) : (b : EReal) ≤ a := by
  by_contra hc
  have e : Scalar.cmpf (F := Ideal) .oge a b = BitVec.ofBool (decide ((b : EReal) ≤ a)) := rfl
  rw [e, decide_eq_false hc] at h
  exact absurd h (by decide)

theorem ole_eq (a b : Ideal .f32) (h : Scalar.cmpf (F := Ideal) .ole a b = 1#1) : (a : EReal) ≤ b := by
  by_contra hc
  have e : Scalar.cmpf (F := Ideal) .ole a b = BitVec.ofBool (decide ((a : EReal) ≤ b)) := rfl
  rw [e, decide_eq_false hc] at h
  exact absurd h (by decide)

theorem geT_le (x : FVec Ideal S1x256 .f32) (h : geT x = 1#1) (t : Fin 256) : (Ideal.ofBits .f32 0x26800000#32 : EReal) ≤ x (ix2 0 t) := by
  refine le_trans (oge_eq _ _ h) ?_
  pointwise [k0_pay790]
  exact (Finset.fold_min_le _).2 (.inr ⟨(0, t), Finset.mem_univ _, le_rfl⟩)

theorem pay1_le (x : FVec Ideal S1x256 .f32) (h : Scalar.cmpf (F := Ideal) .ole (k0_pay1 (k0_pay791 x)) (Scalar.ofBits .f32 0x5D800000#32) = 1#1) (t : Fin 256) :
    x (ix2 0 t) ≤ (Ideal.ofBits .f32 0x5D800000#32 : EReal) := by
  refine le_trans ?_ (ole_eq _ _ h)
  pointwise [k0_pay1, k0_pay791]
  exact (Finset.le_fold_max _).2 (.inr ⟨(0, t), Finset.mem_univ _, le_rfl⟩)

theorem redo_not (a b v : BitVec 1) (h : ¬ Scalar.cmpi .ne (Scalar.extui (Scalar.xori (Scalar.andi (Scalar.andi a b) v) 1#1) : BitVec 32) 0#32 = 1#1) :
    a = 1#1 ∧ b = 1#1 := by
  revert h; revert a b v; decide +kernel

theorem low_pos : (0 : EReal) < Ideal.ofBits .f32 0x26800000#32 := by
  simp [Ideal.ofBits, Ideal.ieee, -EReal.coe_mul]
theorem high_lt : Ideal.ofBits .f32 0x5D800000#32 < (⊤ : EReal) := by
  simp [Ideal.ofBits, Ideal.ieee, -EReal.coe_mul]

theorem cast_at {α : Type} (X : S1x256x128.Idx → α) (s : Fin 256) (l : Fin 128) :
    shapeCast S256x128 X shapeCasts_S1x256x128_S256x128 (ix2 s l) = X (ix3 0 s l) := by
  pointwise []

theorem fill_at {sp : Space} (v : View sig .tc sp S2048x128 .f32) (Z : S2048x128.Idx → Elt Ideal .f32) (N : ℕ) (off : Fin 2 → ℕ) (hoff : off = ![N, 0])
    (inb : ∀ a, (![0, 0] : Fin 2 → ℕ) a + S2048x128.size a ≤ S2048x128.size a)
    (h : ∀ a, off a + S256x128.size a ≤ S2048x128.size a) (hN : N + 256 ≤ 2048) (s : Fin 256) (l : Fin 128) :
    (v.readCov (Val := Elt Ideal) [⟨Rect.unit (s := S2048x128) ![0, 0] S2048x128.size inb, Z⟩] (Rect.unit (s := S2048x128) off S256x128.size h).toLoadRect : S256x128.Idx → Elt Ideal .f32) (ix2 s l)
      = Z (ix2 ⟨N + s.1, by omega⟩ l) := by
  rw [View.readCov_fill v inb Z [] _ (by intro a; fin_cases a <;> rfl)]
  subst hoff
  pointwise []

section Values

variable (c : Dev nD) (i : grid0.Coords) (arg2 : Memref sig .tc .smem S40 .f32) (harg2 : arg2.IsWhole) (arg3 : Memref sig .tc .vmem S1x2048x640 .fp8e4m3) (harg3 : arg3.IsWhole) (arg4 : Memref sig .tc .vmem S1x2048x128 .fp8e4m3) (harg4 : arg4.IsWhole) (arg5 : Memref sig .tc .vmem S1x2048x128 .fp8e4m3) (harg5 : arg5.IsWhole) (arg6 : Memref sig .tc .vmem S1x1x1x2048 .f32) (harg6 : arg6.IsWhole) (arg7 : Memref sig .tc .vmem S1x1x1x2048 .f32) (harg7 : arg7.IsWhole) (arg8 : Memref sig .tc .vmem S1x2048x640 .bf16) (harg8 : arg8.IsWhole) (arg9 : Memref sig .tc .vmem S128x2048 .bf16) (harg9 : arg9.IsWhole) (arg10 : Memref sig .tc .vmem S2048x128 .f32) (harg10 : arg10.IsWhole) (arg11 : Memref sig .tc .vmem S2048x128 .f32) (harg11 : arg11.IsWhole) (arg1 : BitVec 32) (X2 : BufTy.Contents (Elt Ideal) arg2.view.ty) (X3 : BufTy.Contents (Elt Ideal) arg3.view.ty) (X4 : BufTy.Contents (Elt Ideal) arg4.view.ty) (X9 : BufTy.Contents (Elt Ideal) arg9.view.ty) (X10 : BufTy.Contents (Elt Ideal) arg10.view.ty) (k : Fin k0_t1_loop.trips)

theorem minT_le (n m : ℕ) (h : m < n) (t : Fin 256) :
    (minT (F := Ideal) i arg2 arg3 arg4 arg10 arg11 X2 X3 X4 X10 k n (ix2 0 t) : EReal) ≤ lT i arg2 arg3 arg4 arg10 arg11 X2 X3 X4 X10 k m (ix2 0 t) := by
  induction n with
  | zero => omega
  | succ n ih =>
    have e : (minT (F := Ideal) i arg2 arg3 arg4 arg10 arg11 X2 X3 X4 X10 k (n + 1) (ix2 0 t) : EReal)
      = min (minT (F := Ideal) i arg2 arg3 arg4 arg10 arg11 X2 X3 X4 X10 k n (ix2 0 t) : EReal) (lT i arg2 arg3 arg4 arg10 arg11 X2 X3 X4 X10 k n (ix2 0 t)) := rfl
    rw [e]
    rcases Nat.lt_succ_iff_lt_or_eq.1 h with h | rfl
    · exact (min_le_left _ _).trans (ih h)
    · exact min_le_right _ _

theorem le_maxT (n m : ℕ) (h : m < n) (t : Fin 256) :
    (lT (F := Ideal) i arg2 arg3 arg4 arg10 arg11 X2 X3 X4 X10 k m (ix2 0 t) : EReal) ≤ maxT i arg2 arg3 arg4 arg10 arg11 X2 X3 X4 X10 k n (ix2 0 t) := by
  induction n with
  | zero => omega
  | succ n ih =>
    have e : (maxT (F := Ideal) i arg2 arg3 arg4 arg10 arg11 X2 X3 X4 X10 k (n + 1) (ix2 0 t) : EReal)
      = max (maxT (F := Ideal) i arg2 arg3 arg4 arg10 arg11 X2 X3 X4 X10 k n (ix2 0 t) : EReal) (lT i arg2 arg3 arg4 arg10 arg11 X2 X3 X4 X10 k n (ix2 0 t)) := rfl
    rw [e]
    rcases Nat.lt_succ_iff_lt_or_eq.1 h with h | rfl
    · exact (ih h).trans (le_max_left _ _)
    · exact le_max_right _ _

/-- The test of a head's row sums, opened. -/
theorem redo_eq (v : BitVec 1) : RedoAt (F := Ideal) c i arg2 harg2 arg3 harg3 arg4 harg4 arg5 harg5 arg6 harg6 arg7 harg7 arg8 harg8 arg9 harg9 arg10 harg10 arg11 harg11 arg1 v X2 X3 X4 X9 X10 k ↔
    Redo (geT (minT (F := Ideal) i arg2 arg3 arg4 arg10 arg11 X2 X3 X4 X10 k 8)) (k0_pay791 (maxT i arg2 arg3 arg4 arg10 arg11 X2 X3 X4 X10 k 8)) v := by
  unfold RedoAt direct
  exact Iff.rfl

/-- Where a head is not recomputed, every row sum is positive and finite. -/
theorem sums_of_not_redo (v : BitVec 1) (h : ¬ RedoAt (F := Ideal) c i arg2 harg2 arg3 harg3 arg4 harg4 arg5 harg5 arg6 harg6 arg7 harg7 arg8 harg8 arg9 harg9 arg10 harg10 arg11 harg11 arg1 v X2 X3 X4 X9 X10 k) (n : ℕ) (hn : n < 8) (t : Fin 256) :
    (0 : EReal) < lT (F := Ideal) i arg2 arg3 arg4 arg10 arg11 X2 X3 X4 X10 k n (ix2 0 t) ∧ (lT (F := Ideal) i arg2 arg3 arg4 arg10 arg11 X2 X3 X4 X10 k n (ix2 0 t) : EReal) < ⊤ := by
  rw [redo_eq] at h
  obtain ⟨h0, h1⟩ := redo_not _ _ _ h
  exact ⟨lt_of_lt_of_le low_pos ((geT_le _ h0 t).trans (minT_le i arg2 arg3 arg4 arg10 arg11 X2 X3 X4 X10 k 8 n hn t)),
    lt_of_le_of_lt ((le_maxT i arg2 arg3 arg4 arg10 arg11 X2 X3 X4 X10 k 8 n hn t).trans (pay1_le _ h1 t)) high_lt⟩

/-- The head's key scales: the key scales times the head's query scale. -/
theorem v377_at (s : Fin 2048) (l : Fin 128) (h : 5 * (i 1).val + k.val < 40) :
    (direct.sl.v377 (F := Ideal) i arg2 arg10 X2 X10 k : S2048x128.Idx → EReal) (ix2 s l)
      = arg10.view.read (Elt Ideal) X10 (ix2 s l) * arg2.view.read (Elt Ideal) X2 (ix1 ⟨5 * (i 1).val + k.val, h⟩) := by
  have e : ∀ (off : Fin 1 → ℕ) (ho : off = ![5 * (i 1).val + k.val]) (hb : ∀ a, off a + S1.size a ≤ S40.size a),
      (View.readAt (Elt Ideal) arg2.view (Rect.unit (s := S40) off S1.size hb).toLoadRect X2 : S1.Idx → EReal) (ix1 0)
        = arg2.view.read (Elt Ideal) X2 (ix1 ⟨5 * (i 1).val + k.val, h⟩) := by
    intro off ho hb
    subst ho
    pointwise [View.readAt_eq_ld]
  have e' : direct.sl.r i arg2 X2 k = arg2.view.read (Elt Ideal) X2 (ix1 ⟨5 * (i 1).val + k.val, h⟩) :=
    (congrArg (View.readAt (Elt Ideal) arg2.view (Rect.unit (s := S40) (k0_off1 i k) S1.size (k0_off1_inb i k)).toLoadRect X2)
      (funext fun a => Fin.ext (by fin_cases a; rfl))).trans (e _ (k0_off1_eq i k) (k0_off1_inb i k))
  rw [← e']
  unfold direct.sl.v377 direct.sl.v374 direct.sl.v373
  pointwise [View.readAt_eq_ld]

theorem kT_at (j : ℕ) (hj : j < 8) (s : Fin 256) (e : Fin 128) :
    kT (F := Ideal) arg4 X4 j (ix2 s e) = arg4.view.read (Elt Ideal) X4 (ix3 0 ⟨256 * j + s.1, by omega⟩ e) := by
  have h : j % 8 = j := Nat.mod_eq_of_lt hj
  exact (cast_at _ s e).trans (read_keys arg4.view X4 (256 * j) ![0, 256 * (j % 8), 0] (by rw [h]) (kT_ok j) (by omega) s e)

theorem cT_at (j : ℕ) (hj : j < 8) (s : Fin 256) (l : Fin 128) :
    cT (F := Ideal) i arg2 arg10 arg11 X2 X10 k j (ix2 s l) = direct.sl.v377 (F := Ideal) i arg2 arg10 X2 X10 k (ix2 ⟨256 * j + s.1, by omega⟩ l) := by
  have h : j % 8 = j := Nat.mod_eq_of_lt hj
  exact fill_at arg11.view (direct.sl.v377 (F := Ideal) i arg2 arg10 X2 X10 k) (256 * j) ![256 * (j % 8), 0] (by rw [h]) inb_S2048x128_S2048x128_0_0 (cT_ok j) (by omega) s l

theorem vT_at (j : ℕ) (hj : j < 8) (d : Fin 128) (s : Fin 256) :
    vT (F := Ideal) arg9 X9 j (ix2 d s) = arg9.view.read (Elt Ideal) X9 (ix2 d ⟨256 * j + s.1, by omega⟩) := by
  have h : j % 8 = j := Nat.mod_eq_of_lt hj
  exact read_cols arg9.view X9 (256 * j) ![0, 256 * (j % 8)] (by rw [h]) (vT_ok j) (by omega) d s

theorem q_at (N M : ℕ) (off : Fin 3 → ℕ) (hoff : off = ![0, N, M])
    (h : ∀ a, off a + S1x256x128.size a ≤ S1x2048x640.size a) (hN : N + 256 ≤ 2048) (hM : M + 128 ≤ 640) (s : Fin 256) (l : Fin 128) :
    (shapeCast S256x128 (View.readAt (Elt Ideal) arg3.view (Rect.unit (s := S1x2048x640) off S1x256x128.size h).toLoadRect X3) shapeCasts_S1x256x128_S256x128 : S256x128.Idx → EReal) (ix2 s l)
      = arg3.view.read (Elt Ideal) X3 (ix3 0 ⟨N + s.1, by omega⟩ ⟨M + l.1, by omega⟩) := by
  exact (cast_at _ s l).trans (read_block arg3.view X3 N M off hoff h hN hM s l)

theorem t1_lt (k : Fin k0_t1_loop.trips) : k.val < 5 := k.isLt

theorem qT_at (n : ℕ) (hn : n < 8) (t : Fin 256) (e : Fin 128) :
    qT (F := Ideal) arg3 X3 k n (ix2 t e) = arg3.view.read (Elt Ideal) X3 (ix3 0 ⟨256 * n + t.1, by omega⟩ ⟨128 * k.val + e.1, by have := t1_lt k; omega⟩) := by
  have hk := t1_lt k
  interval_cases n
  · exact q_at arg3 X3 (256 * 0) (128 * k.val) _ (k0_off2_eq k) (k0_off2_inb k) (by omega) (by omega) t e
  · exact q_at arg3 X3 (256 * 1) (128 * k.val) _ (k0_off3_eq k) (k0_off3_inb k) (by omega) (by omega) t e
  · exact q_at arg3 X3 (256 * 2) (128 * k.val) _ (k0_off4_eq k) (k0_off4_inb k) (by omega) (by omega) t e
  · exact q_at arg3 X3 (256 * 3) (128 * k.val) _ (k0_off5_eq k) (k0_off5_inb k) (by omega) (by omega) t e
  · exact q_at arg3 X3 (256 * 4) (128 * k.val) _ (k0_off6_eq k) (k0_off6_inb k) (by omega) (by omega) t e
  · exact q_at arg3 X3 (256 * 5) (128 * k.val) _ (k0_off7_eq k) (k0_off7_inb k) (by omega) (by omega) t e
  · exact q_at arg3 X3 (256 * 6) (128 * k.val) _ (k0_off8_eq k) (k0_off8_inb k) (by omega) (by omega) t e
  · exact q_at arg3 X3 (256 * 7) (128 * k.val) _ (k0_off9_eq k) (k0_off9_inb k) (by omega) (by omega) t e

/-- The piece of block `n`, at row `t` and lane `d`, where the head is not recomputed. -/
theorem fast_at (kk : ℕ → Fin 128 → EReal) (cc : ℕ → EReal) (w : Fin 128 → ℕ → EReal) (t : Fin 256) (d : Fin 128)
    (hK : ∀ (s : Fin 2048) (e : Fin 128), arg4.view.read (Elt Ideal) X4 (ix3 0 s e) = kk s.1 e)
    (hC : ∀ (s : Fin 2048) (l : Fin 128), direct.sl.v377 (F := Ideal) i arg2 arg10 X2 X10 k (ix2 s l) = cc s.1)
    (hV : ∀ (d : Fin 128) (s : Fin 2048), arg9.view.read (Elt Ideal) X9 (ix2 d s) = w d s.1)
    (v : BitVec 1) (h : ¬ RedoAt (F := Ideal) c i arg2 harg2 arg3 harg3 arg4 harg4 arg5 harg5 arg6 harg6 arg7 harg7 arg8 harg8 arg9 harg9 arg10 harg10 arg11 harg11 arg1 v X2 X3 X4 X9 X10 k) (n : ℕ) (hn : n < 8) :
    (oT (F := Ideal) i arg2 arg3 arg4 arg9 arg10 arg11 X2 X3 X4 X9 X10 k n (ix3 0 t d) : EReal)
      = attn (256 * (n + 1)) (masked (256 * n + t.1) (score kk cc fun e => qT (F := Ideal) arg3 X3 k n (ix2 t e))) (w d) := by
  obtain ⟨h0, h1⟩ := sums_of_not_redo c i arg2 harg2 arg3 harg3 arg4 harg4 arg5 harg5 arg6 harg6 arg7 harg7 arg8 harg8 arg9 harg9 arg10 harg10 arg11 harg11 arg1 X2 X3 X4 X9 X10 k v h n hn t
  refine outT_attn _ _ _ _ kk cc w 8 ?_ ?_ ?_ t d n hn h0 h1
  · intro j hj s e
    rw [kT_at arg4 X4 j hj, hK]
  · intro j hj s l
    rw [cT_at i arg2 arg10 arg11 X2 X10 k j hj, hC]
  · intro j hj d s
    rw [vT_at arg9 X9 j hj, hV]

end Values

end Cert.Proof.KernelIdeal
end
-- ==== Proof.KernelIdealOut.lean ====
/-
  What `KernelIdeal`'s kernel body leaves in the output window: at every row and lane, one row of attention over the blocks in the input windows.
-/
module

public import proofs.«01_k».proof.Proof.KernelIdealFast

@[expose] public section

set_option maxRecDepth 16384
set_option maxHeartbeats 400000

noncomputable section

namespace Cert.Proof.KernelIdeal

open Cert.KernelIdeal Cert.KernelIdeal.Gen Cert.Attn
open Idealize.ShloMosaic Idealize.ShloMosaic.TcCoe Idealize.ShloMosaic.Tactic Idealize.ShloMosaic.ValueKit
open scoped BigOperators

/-- Row `t` of head `g` of key head `h`, at lane `d`, of the blocks in the input windows. -/
def rowK (h : Fin 8) (x2 : Vec Ideal S40 .f32) (x3 : Vec Ideal S1x2048x640 .fp8e4m3) (x4 x5 : Vec Ideal S1x2048x128 .fp8e4m3) (x6 x7 : Vec Ideal S1x1x1x2048 .f32) (t : Fin 2048) (g : Fin 5) (d : Fin 128) : EReal :=
  Spec.row t.1 (fun e => x3 (ix3 0 t ⟨128 * g.1 + e.1, by omega⟩)) (fun s e => x4 (ix3 0 s e)) (fun s => x5 (ix3 0 s d))
    (x2 (ix1 ⟨5 * h.1 + g.1, by omega⟩)) (fun s => x6 (ix4 0 0 0 s)) (fun s => x7 (ix4 0 0 0 s))

/-- The output window: lane `128 g + d` is lane `d` of head `g`. -/
def OUT (h : Fin 8) (x2 : Vec Ideal S40 .f32) (x3 : Vec Ideal S1x2048x640 .fp8e4m3) (x4 x5 : Vec Ideal S1x2048x128 .fp8e4m3) (x6 x7 : Vec Ideal S1x1x1x2048 .f32) (y : S1x2048x640.Idx) : EReal :=
  rowK h x2 x3 x4 x5 x6 x7 (y 1) ⟨(y 2).1 / 128, by have := (y 2).2; change (y 2).1 < 640 at this; omega⟩ ⟨(y 2).1 % 128, by omega⟩

/-- A block of rows of one head, as a rectangle of the output window. -/
theorem mem_block (N M : ℕ) (off : Fin 3 → ℕ) (hoff : off = ![0, N, M]) (h : ∀ a, off a + S1x256x128.size a ≤ S1x2048x640.size a) (y : S1x2048x640.Idx) :
    y ∈ (Rect.unit (s := S1x2048x640) off S1x256x128.size h).set ↔ (N ≤ (y 1).1 ∧ (y 1).1 < N + 256) ∧ M ≤ (y 2).1 ∧ (y 2).1 < M + 128 := by
  rw [Rect.mem_set_unit]
  subst hoff
  constructor
  · intro hy
    exact ⟨hy 1, hy 2⟩
  · rintro ⟨h1, h2⟩ a
    have h0 := (y 0).2
    fin_cases a
    · exact ⟨Nat.zero_le _, h0⟩
    · exact h1
    · exact h2

/-- The output window at a block's row and lane. -/
theorem OUT_emb (i : Fin 8) (x2 : Vec Ideal S40 .f32) (x3 : Vec Ideal S1x2048x640 .fp8e4m3) (x4 x5 : Vec Ideal S1x2048x128 .fp8e4m3) (x6 x7 : Vec Ideal S1x1x1x2048 .f32) (n : ℕ) (hn : n < 8) (k : ℕ) (hk : k < 5) (off : Fin 3 → ℕ) (hoff : off = ![0, 256 * n, 128 * k])
    (h : ∀ a, off a + S1x256x128.size a ≤ S1x2048x640.size a) (t : Fin 256) (d : Fin 128) :
    OUT i x2 x3 x4 x5 x6 x7 ((Rect.unit (s := S1x2048x640) off S1x256x128.size h).emb (ix3 0 t d)) = rowK i x2 x3 x4 x5 x6 x7 ⟨256 * n + t.1, by omega⟩ ⟨k, hk⟩ d := by
  subst hoff
  have e1 : ((Rect.unit (s := S1x2048x640) ![0, 256 * n, 128 * k] S1x256x128.size h).emb (ix3 0 t d)) 1 = (⟨256 * n + t.1, by omega⟩ : Fin 2048) := by
    apply Fin.ext; rw [rect_emb_unit_val]; rfl
  have e2 : (((Rect.unit (s := S1x2048x640) ![0, 256 * n, 128 * k] S1x256x128.size h).emb (ix3 0 t d)) 2 : Fin 640).1 = 128 * k + d.1 := by
    exact rect_emb_unit_val _ _ _ _ _
  unfold OUT
  rw [e1]
  congr 1
  · apply Fin.ext; show _ / 128 = k; rw [e2]; omega
  · apply Fin.ext; show _ % 128 = d.1; rw [e2]; omega

/-- Key `s`, its scale with the score's factor and the row's own scale `q`, and its scaled value at lane `d`. -/
def keyF (x4 : Vec Ideal S1x2048x128 .fp8e4m3) (s : ℕ) (e : Fin 128) : EReal := x4 (ix3 0 (Fin.ofNat 2048 s) e)
def scaleF (x6 : Vec Ideal S1x1x1x2048 .f32) (q : EReal) (s : ℕ) : EReal := x6 (ix4 0 0 0 (Fin.ofNat 2048 s)) * Spec.fac * q
def valueF (x5 : Vec Ideal S1x2048x128 .fp8e4m3) (x7 : Vec Ideal S1x1x1x2048 .f32) (d : Fin 128) (s : ℕ) : EReal :=
  x5 (ix3 0 (Fin.ofNat 2048 s) d) * x7 (ix4 0 0 0 (Fin.ofNat 2048 s))

/-- The keys a block reads are the ones its rows see. -/
theorem attn_row (i : Fin 8) (x2 : Vec Ideal S40 .f32) (x3 : Vec Ideal S1x2048x640 .fp8e4m3) (x4 x5 : Vec Ideal S1x2048x128 .fp8e4m3) (x6 x7 : Vec Ideal S1x1x1x2048 .f32) (n : ℕ) (hn : n < 8) (k : ℕ) (hk : k < 5) (t : Fin 256) (d : Fin 128) (q : Fin 128 → EReal)
    (hq : ∀ e : Fin 128, q e = x3 (ix3 0 ⟨256 * n + t.1, by omega⟩ ⟨128 * k + e.1, by omega⟩)) :
    attn (256 * (n + 1)) (masked (256 * n + t.1) (score (keyF x4) (scaleF x6 (x2 (ix1 ⟨5 * i.1 + k, by omega⟩))) q)) (valueF x5 x7 d)
      = rowK i x2 x3 x4 x5 x6 x7 ⟨256 * n + t.1, by omega⟩ ⟨k, hk⟩ d := by
  obtain rfl : q = fun e : Fin 128 => x3 (ix3 0 ⟨256 * n + t.1, by omega⟩ ⟨128 * k + e.1, by omega⟩) := funext hq
  exact (attn_extend (N := 256 * (n + 1)) (N' := 2048) (by omega) _ _ fun s hs => if_neg (by omega)).symm

theorem ofNat_val (s : Fin 2048) : Fin.ofNat 2048 s.1 = s := Fin.ext (Nat.mod_eq_of_lt s.2)

/-- The eight blocks of a head's lanes, the last rows first. -/
def blocks (k : Fin k0_t1_loop.trips) (O : ℕ → Vec Ideal S1x256x128 .bf16) : OutPieces Ideal :=
  [⟨Rect.unit (s := S1x2048x640) (k0_off9 k) S1x256x128.size (k0_off9_inb k), O 7⟩, ⟨Rect.unit (s := S1x2048x640) (k0_off8 k) S1x256x128.size (k0_off8_inb k), O 6⟩, ⟨Rect.unit (s := S1x2048x640) (k0_off7 k) S1x256x128.size (k0_off7_inb k), O 5⟩, ⟨Rect.unit (s := S1x2048x640) (k0_off6 k) S1x256x128.size (k0_off6_inb k), O 4⟩, ⟨Rect.unit (s := S1x2048x640) (k0_off5 k) S1x256x128.size (k0_off5_inb k), O 3⟩, ⟨Rect.unit (s := S1x2048x640) (k0_off4 k) S1x256x128.size (k0_off4_inb k), O 2⟩, ⟨Rect.unit (s := S1x2048x640) (k0_off3 k) S1x256x128.size (k0_off3_inb k), O 1⟩, ⟨Rect.unit (s := S1x2048x640) (k0_off2 k) S1x256x128.size (k0_off2_inb k), O 0⟩]

theorem blocks_of (k : Fin k0_t1_loop.trips) (O : ℕ → Vec Ideal S1x256x128 .bf16) (G : S1x2048x640.Idx → EReal)
    (P : ∀ n < 8, ∀ off : Fin 3 → ℕ, off = ![0, 256 * n, 128 * k.val] → ∀ (hb : ∀ a, off a + S1x256x128.size a ≤ S1x2048x640.size a) (x : S1x256x128.Idx),
      (O n x : EReal) = G ((Rect.unit (s := S1x2048x640) off S1x256x128.size hb).emb x)) :
    View.PiecesOf (Val := Elt Ideal) (e := .bf16) G (blocks k O) := by
  unfold blocks
  exact ⟨P 7 (by omega) _ (k0_off9_eq k) (k0_off9_inb k), P 6 (by omega) _ (k0_off8_eq k) (k0_off8_inb k), P 5 (by omega) _ (k0_off7_eq k) (k0_off7_inb k), P 4 (by omega) _ (k0_off6_eq k) (k0_off6_inb k), P 3 (by omega) _ (k0_off5_eq k) (k0_off5_inb k), P 2 (by omega) _ (k0_off4_eq k) (k0_off4_inb k), P 1 (by omega) _ (k0_off3_eq k) (k0_off3_inb k), P 0 (by omega) _ (k0_off2_eq k) (k0_off2_inb k), trivial⟩

theorem blocks_cover (k : Fin k0_t1_loop.trips) (O : ℕ → Vec Ideal S1x256x128 .bf16) (y : S1x2048x640.Idx) (hy : (y 2).1 / 128 = k.val) :
    ∃ p ∈ blocks k O, y ∈ p.1.set := by
  unfold blocks
  have h1 : (y 1).1 < 2048 := (y 1).2
  obtain h | h | h | h | h | h | h | h : (y 1).1 / 256 = 0 ∨ (y 1).1 / 256 = 1 ∨ (y 1).1 / 256 = 2 ∨ (y 1).1 / 256 = 3 ∨ (y 1).1 / 256 = 4 ∨ (y 1).1 / 256 = 5
      ∨ (y 1).1 / 256 = 6 ∨ (y 1).1 / 256 = 7 := by omega
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), (mem_block (0) (128 * k.val) _ (k0_off2_eq k) (k0_off2_inb k) y).2 (by omega)⟩
  · exact ⟨_, List.mem_cons_of_mem _ (List.mem_cons_of_mem _ (List.mem_cons_of_mem _ (List.mem_cons_of_mem _ (List.mem_cons_of_mem _ (List.mem_cons_of_mem _ (List.mem_cons_self)))))), (mem_block (256) (128 * k.val) _ (k0_off3_eq k) (k0_off3_inb k) y).2 (by omega)⟩
  · exact ⟨_, List.mem_cons_of_mem _ (List.mem_cons_of_mem _ (List.mem_cons_of_mem _ (List.mem_cons_of_mem _ (List.mem_cons_of_mem _ (List.mem_cons_self))))), (mem_block (512) (128 * k.val) _ (k0_off4_eq k) (k0_off4_inb k) y).2 (by omega)⟩
  · exact ⟨_, List.mem_cons_of_mem _ (List.mem_cons_of_mem _ (List.mem_cons_of_mem _ (List.mem_cons_of_mem _ (List.mem_cons_self)))), (mem_block (768) (128 * k.val) _ (k0_off5_eq k) (k0_off5_inb k) y).2 (by omega)⟩
  · exact ⟨_, List.mem_cons_of_mem _ (List.mem_cons_of_mem _ (List.mem_cons_of_mem _ (List.mem_cons_self))), (mem_block (1024) (128 * k.val) _ (k0_off6_eq k) (k0_off6_inb k) y).2 (by omega)⟩
  · exact ⟨_, List.mem_cons_of_mem _ (List.mem_cons_of_mem _ (List.mem_cons_self)), (mem_block (1280) (128 * k.val) _ (k0_off7_eq k) (k0_off7_inb k) y).2 (by omega)⟩
  · exact ⟨_, List.mem_cons_of_mem _ (List.mem_cons_self), (mem_block (1536) (128 * k.val) _ (k0_off8_eq k) (k0_off8_inb k) y).2 (by omega)⟩
  · exact ⟨_, List.mem_cons_self, (mem_block (1792) (128 * k.val) _ (k0_off9_eq k) (k0_off9_inb k) y).2 (by omega)⟩

theorem blocks_lanes (k : Fin k0_t1_loop.trips) (O : ℕ → Vec Ideal S1x256x128 .bf16) (y : S1x2048x640.Idx) : ∀ p ∈ blocks k O, y ∈ p.1.set → (y 2).1 / 128 = k.val := by
  unfold blocks
  intro p hp hy
  simp only [List.mem_cons, List.not_mem_nil, or_false] at hp
  rcases hp with rfl | rfl | rfl | rfl | rfl | rfl | rfl | rfl
  · have := (mem_block 1792 (128 * k.val) _ (k0_off9_eq k) (k0_off9_inb k) y).1 hy; omega
  · have := (mem_block 1536 (128 * k.val) _ (k0_off8_eq k) (k0_off8_inb k) y).1 hy; omega
  · have := (mem_block 1280 (128 * k.val) _ (k0_off7_eq k) (k0_off7_inb k) y).1 hy; omega
  · have := (mem_block 1024 (128 * k.val) _ (k0_off6_eq k) (k0_off6_inb k) y).1 hy; omega
  · have := (mem_block 768 (128 * k.val) _ (k0_off5_eq k) (k0_off5_inb k) y).1 hy; omega
  · have := (mem_block 512 (128 * k.val) _ (k0_off4_eq k) (k0_off4_inb k) y).1 hy; omega
  · have := (mem_block 256 (128 * k.val) _ (k0_off3_eq k) (k0_off3_inb k) y).1 hy; omega
  · have := (mem_block 0 (128 * k.val) _ (k0_off2_eq k) (k0_off2_inb k) y).1 hy; omega

section Body

variable (c : Dev nD) (i : grid0.Coords) (arg2 : Memref sig .tc .smem S40 .f32) (harg2 : arg2.IsWhole) (arg3 : Memref sig .tc .vmem S1x2048x640 .fp8e4m3) (harg3 : arg3.IsWhole) (arg4 : Memref sig .tc .vmem S1x2048x128 .fp8e4m3) (harg4 : arg4.IsWhole) (arg5 : Memref sig .tc .vmem S1x2048x128 .fp8e4m3) (harg5 : arg5.IsWhole) (arg6 : Memref sig .tc .vmem S1x1x1x2048 .f32) (harg6 : arg6.IsWhole) (arg7 : Memref sig .tc .vmem S1x1x1x2048 .f32) (harg7 : arg7.IsWhole) (arg8 : Memref sig .tc .vmem S1x2048x640 .bf16) (harg8 : arg8.IsWhole) (arg9 : Memref sig .tc .vmem S128x2048 .bf16) (harg9 : arg9.IsWhole) (arg10 : Memref sig .tc .vmem S2048x128 .f32) (harg10 : arg10.IsWhole) (arg11 : Memref sig .tc .vmem S2048x128 .f32) (harg11 : arg11.IsWhole) (arg1 : BitVec 32) (v : BitVec 1) (X2 : BufTy.Contents (Elt Ideal) arg2.view.ty) (X3 : BufTy.Contents (Elt Ideal) arg3.view.ty) (X4 : BufTy.Contents (Elt Ideal) arg4.view.ty) (X9 : BufTy.Contents (Elt Ideal) arg9.view.ty) (X10 : BufTy.Contents (Elt Ideal) arg10.view.ty) (X11 : BufTy.Contents (Elt Ideal) arg11.view.ty) (k : Fin k0_t1_loop.trips)
  (x2 : Vec Ideal S40 .f32) (x3 : Vec Ideal S1x2048x640 .fp8e4m3) (x4 x5 : Vec Ideal S1x2048x128 .fp8e4m3) (x6 x7 : Vec Ideal S1x1x1x2048 .f32)

/-- The buffers read: the inputs as they are, the values scaled and transposed, the key scales times the score's factor. -/
structure Reads : Prop where
  h2 : arg2.view.read (Elt Ideal) X2 = x2
  h3 : arg3.view.read (Elt Ideal) X3 = x3
  h4 : arg4.view.read (Elt Ideal) X4 = x4
  h9 : ∀ (d : Fin 128) (s : Fin 2048), arg9.view.read (Elt Ideal) X9 (ix2 d s) = (x5 (ix3 0 s d) * x7 (ix4 0 0 0 s) : EReal)
  h10 : ∀ (s : Fin 2048) (l : Fin 128), arg10.view.read (Elt Ideal) X10 (ix2 s l) = (x6 (ix4 0 0 0 s) * Spec.fac : EReal)

variable (R : Reads arg2 arg3 arg4 arg9 arg10 X2 X3 X4 X9 X10 x2 x3 x4 x5 x6 x7)
include R

theorem keys_at (s : Fin 2048) (e : Fin 128) : arg4.view.read (Elt Ideal) X4 (ix3 0 s e) = keyF x4 s.1 e := by
  rw [keyF, R.h4, ofNat_val]

theorem scales_at (s : Fin 2048) (l : Fin 128) : (direct.sl.v377 (F := Ideal) i arg2 arg10 X2 X10 k : S2048x128.Idx → EReal) (ix2 s l)
    = scaleF x6 (x2 (ix1 ⟨5 * (i 1).val + k.val, by have := (i 1).2; change (i 1).1 < 8 at this; have := t1_lt k; omega⟩)) s.1 := by
  rw [scaleF, v377_at i arg2 arg10 X2 X10 k s l (by have := (i 1).2; change (i 1).1 < 8 at this; have := t1_lt k; omega), R.h2, R.h10, ofNat_val]

theorem values_at (d : Fin 128) (s : Fin 2048) : arg9.view.read (Elt Ideal) X9 (ix2 d s) = valueF x5 x7 d s.1 := by
  rw [valueF, R.h9, ofNat_val]

/-- A piece of the direct computation, where the head is not recomputed. -/
theorem direct_piece (h : ¬ RedoAt (F := Ideal) c i arg2 harg2 arg3 harg3 arg4 harg4 arg5 harg5 arg6 harg6 arg7 harg7 arg8 harg8 arg9 harg9 arg10 harg10 arg11 harg11 arg1 v X2 X3 X4 X9 X10 k) (n : ℕ) (hn : n < 8) (off : Fin 3 → ℕ) (hoff : off = ![0, 256 * n, 128 * k.val])
    (hb : ∀ a, off a + S1x256x128.size a ≤ S1x2048x640.size a) (x : S1x256x128.Idx) :
    (oT (F := Ideal) i arg2 arg3 arg4 arg9 arg10 arg11 X2 X3 X4 X9 X10 k n x : EReal)
      = OUT (i 1) x2 x3 x4 x5 x6 x7 ((Rect.unit (s := S1x2048x640) off S1x256x128.size hb).emb x) := by
  obtain ⟨t, d, rfl⟩ : ∃ (t : Fin 256) (d : Fin 128), x = (ix3 0 t d : S1x256x128.Idx) :=
    ⟨x 1, x 2, by funext a; fin_cases a; exacts [Fin.ext (by have := (x 0).2; change (x 0).1 < 1 at this; show (x 0).1 = 0; omega), rfl, rfl]⟩
  refine Eq.trans ?_ (OUT_emb (i 1) x2 x3 x4 x5 x6 x7 n hn k.val (t1_lt k) off hoff hb t d).symm
  refine (fast_at c i arg2 harg2 arg3 harg3 arg4 harg4 arg5 harg5 arg6 harg6 arg7 harg7 arg8 harg8 arg9 harg9 arg10 harg10 arg11 harg11 arg1 X2 X3 X4 X9 X10 k (keyF x4) (scaleF x6 (x2 (ix1 ⟨5 * (i 1).val + k.val, by have := (i 1).2; change (i 1).1 < 8 at this; have := t1_lt k; omega⟩))) (valueF x5 x7) t d
    (keys_at _ _ _ _ _ _ _ _ _ _ _ _ _ _ _ _ R) (scales_at i _ _ _ _ _ _ _ _ _ _ k _ _ _ _ _ _ R) (values_at _ _ _ _ _ _ _ _ _ _ _ _ _ _ _ _ R) v h n hn).trans ?_
  refine attn_row (i 1) x2 x3 x4 x5 x6 x7 n hn k.val (t1_lt k) t d _ fun e => ?_
  rw [qT_at arg3 X3 k n hn t e, R.h3]

/-- A piece of the recomputation. -/
theorem redo_piece (h11 : ∀ (s : Fin 2048) (l : Fin 128), arg11.view.read (Elt Ideal) X11 (ix2 s l) = (direct.sl.v377 (F := Ideal) i arg2 arg10 X2 X10 k : S2048x128.Idx → EReal) (ix2 s l))
    (n : Fin k0_t2_loop.trips) (x : S1x256x128.Idx) :
    (k0_pay18 (F := Ideal) (stB c i arg2 harg2 arg3 harg3 arg4 harg4 arg5 harg5 arg6 harg6 arg7 harg7 arg8 harg8 arg9 harg9 arg10 harg10 arg11 harg11 k X3 X4 X9 X11 n (k0_t3_loop n).trips).2.1 (stB c i arg2 harg2 arg3 harg3 arg4 harg4 arg5 harg5 arg6 harg6 arg7 harg7 arg8 harg8 arg9 harg9 arg10 harg10 arg11 harg11 k X3 X4 X9 X11 n (k0_t3_loop n).trips).2.2
        : S1x256x128.Idx → EReal) x
      = OUT (i 1) x2 x3 x4 x5 x6 x7 ((Rect.unit (s := S1x2048x640) (k0_off10 k n) S1x256x128.size (k0_off10_inb k n)).emb x) := by
  obtain ⟨t, d, rfl⟩ : ∃ (t : Fin 256) (d : Fin 128), x = (ix3 0 t d : S1x256x128.Idx) :=
    ⟨x 1, x 2, by funext a; fin_cases a; exacts [Fin.ext (by have := (x 0).2; change (x 0).1 < 1 at this; show (x 0).1 = 0; omega), rfl, rfl]⟩
  have hk := t1_lt k
  have hn := t2_lt n
  refine Eq.trans ?_ (OUT_emb (i 1) x2 x3 x4 x5 x6 x7 n.val hn k.val hk _ (k0_off10_eq k n) _ t d).symm
  refine (slow_at c i arg2 harg2 arg3 harg3 arg4 harg4 arg5 harg5 arg6 harg6 arg7 harg7 arg8 harg8 arg9 harg9 arg10 harg10 arg11 harg11 k X3 X4 X9 X11 n (keyF x4) (scaleF x6 (x2 (ix1 ⟨5 * (i 1).val + k.val, by have := (i 1).2; change (i 1).1 < 8 at this; have := t1_lt k; omega⟩))) (valueF x5 x7 d) d t
    (keys_at _ _ _ _ _ _ _ _ _ _ _ _ _ _ _ _ R) (fun s l => (h11 s l).trans (scales_at i _ _ _ _ _ _ _ _ _ _ k _ _ _ _ _ _ R s l)) (values_at _ _ _ _ _ _ _ _ _ _ _ _ _ _ _ _ R d)).trans ?_
  refine attn_row (i 1) x2 x3 x4 x5 x6 x7 n.val hn k.val hk t d _ fun e => ?_
  rw [← R.h3]
  exact read_block arg3.view X3 (256 * n.val) (128 * k.val) _ (k0_off10_eq k n) _ (by omega) (by omega) t e

omit R in
theorem pieces8_eq : pieces8 (F := Ideal) c i arg2 harg2 arg3 harg3 arg4 harg4 arg5 harg5 arg6 harg6 arg7 harg7 arg8 harg8 arg9 harg9 arg10 harg10 arg11 harg11 arg1 X2 X3 X4 X9 X10 k = blocks k (oT (F := Ideal) i arg2 arg3 arg4 arg9 arg10 arg11 X2 X3 X4 X9 X10 k) := by
  unfold pieces8 direct
  rfl

omit R in
theorem pieces11_eq : pieces11 (F := Ideal) c i arg2 harg2 arg3 harg3 arg4 harg4 arg5 harg5 arg6 harg6 arg7 harg7 arg8 harg8 arg9 harg9 arg10 harg10 arg11 harg11 arg1 X2 X3 X4 X9 X10 k =
    [⟨Rect.unit (s := S2048x128) ![0, 0] S2048x128.size inb_S2048x128_S2048x128_0_0, direct.sl.v377 (F := Ideal) i arg2 arg10 X2 X10 k⟩] := by
  unfold pieces11 direct
  rfl

/-- Every piece of the direct computation is a block of the output, where the head is not recomputed; -/
theorem direct_pieces (h : ¬ RedoAt (F := Ideal) c i arg2 harg2 arg3 harg3 arg4 harg4 arg5 harg5 arg6 harg6 arg7 harg7 arg8 harg8 arg9 harg9 arg10 harg10 arg11 harg11 arg1 v X2 X3 X4 X9 X10 k) :
    View.PiecesOf (Val := Elt Ideal) (OUT (i 1) x2 x3 x4 x5 x6 x7) (pieces8 (F := Ideal) c i arg2 harg2 arg3 harg3 arg4 harg4 arg5 harg5 arg6 harg6 arg7 harg7 arg8 harg8 arg9 harg9 arg10 harg10 arg11 harg11 arg1 X2 X3 X4 X9 X10 k) := by
  rw [pieces8_eq]
  exact blocks_of k _ _ (direct_piece c i arg2 harg2 arg3 harg3 arg4 harg4 arg5 harg5 arg6 harg6 arg7 harg7 arg8 harg8 arg9 harg9 arg10 harg10 arg11 harg11 arg1 v X2 X3 X4 X9 X10 k x2 x3 x4 x5 x6 x7 R h)

/-- so is every piece of the recomputation. -/
theorem redo_pieces (h11 : ∀ (s : Fin 2048) (l : Fin 128), arg11.view.read (Elt Ideal) X11 (ix2 s l) = (direct.sl.v377 (F := Ideal) i arg2 arg10 X2 X10 k : S2048x128.Idx → EReal) (ix2 s l))
    (n : ℕ) (hn : n ≤ 8) :
    View.PiecesOf (Val := Elt Ideal) (OUT (i 1) x2 x3 x4 x5 x6 x7) (pb2 (F := Ideal) c i arg2 harg2 arg3 harg3 arg4 harg4 arg5 harg5 arg6 harg6 arg7 harg7 arg8 harg8 arg9 harg9 arg10 harg10 arg11 harg11 k X3 X4 X9 X11 n) := by
  induction n with
  | zero => trivial
  | succ n ih =>
    rw [pb2_succ c i arg2 harg2 arg3 harg3 arg4 harg4 arg5 harg5 arg6 harg6 arg7 harg7 arg8 harg8 arg9 harg9 arg10 harg10 arg11 harg11 k X3 X4 X9 X11 ⟨n, hn⟩, trip2_eq]
    exact ⟨redo_piece c i arg2 harg2 arg3 harg3 arg4 harg4 arg5 harg5 arg6 harg6 arg7 harg7 arg8 harg8 arg9 harg9 arg10 harg10 arg11 harg11 X2 X3 X4 X9 X10 X11 k x2 x3 x4 x5 x6 x7 R h11 ⟨n, hn⟩, ih (by omega)⟩

omit R

/-- The pieces of the direct computation cover the head's lanes; -/
theorem direct_cover (y : S1x2048x640.Idx) (hy : (y 2).1 / 128 = k.val) :
    ∃ p ∈ pieces8 (F := Ideal) c i arg2 harg2 arg3 harg3 arg4 harg4 arg5 harg5 arg6 harg6 arg7 harg7 arg8 harg8 arg9 harg9 arg10 harg10 arg11 harg11 arg1 X2 X3 X4 X9 X10 k, y ∈ p.1.set := by
  rw [pieces8_eq]
  exact blocks_cover k _ y hy

/-- so do those of the recomputation. -/
theorem redo_cover (y : S1x2048x640.Idx) (hy : (y 2).1 / 128 = k.val) (n : ℕ) (hn : n ≤ 8) (h : (y 1).1 < 256 * n) :
    ∃ p ∈ pb2 (F := Ideal) c i arg2 harg2 arg3 harg3 arg4 harg4 arg5 harg5 arg6 harg6 arg7 harg7 arg8 harg8 arg9 harg9 arg10 harg10 arg11 harg11 k X3 X4 X9 X11 n, y ∈ p.1.set := by
  induction n with
  | zero => omega
  | succ n ih =>
    rw [pb2_succ c i arg2 harg2 arg3 harg3 arg4 harg4 arg5 harg5 arg6 harg6 arg7 harg7 arg8 harg8 arg9 harg9 arg10 harg10 arg11 harg11 k X3 X4 X9 X11 ⟨n, hn⟩, trip2_eq]
    by_cases h' : (y 1).1 < 256 * n
    · obtain ⟨p, hp, hm⟩ := ih (by omega) h'
      exact ⟨p, List.mem_append_right _ hp, hm⟩
    · exact ⟨_, List.mem_append_left _ List.mem_cons_self, (mem_block (256 * n) (128 * k.val) _ (k0_off10_eq k ⟨n, hn⟩) (k0_off10_inb k ⟨n, hn⟩) y).2 (by omega)⟩

/-- No piece of a head lies outside its lanes. -/
theorem direct_lanes (y : S1x2048x640.Idx) : ∀ p ∈ pieces8 (F := Ideal) c i arg2 harg2 arg3 harg3 arg4 harg4 arg5 harg5 arg6 harg6 arg7 harg7 arg8 harg8 arg9 harg9 arg10 harg10 arg11 harg11 arg1 X2 X3 X4 X9 X10 k, y ∈ p.1.set → (y 2).1 / 128 = k.val := by
  rw [pieces8_eq]
  exact blocks_lanes k _ y

theorem redo_lanes (y : S1x2048x640.Idx) (n : ℕ) (hn : n ≤ 8) : ∀ p ∈ pb2 (F := Ideal) c i arg2 harg2 arg3 harg3 arg4 harg4 arg5 harg5 arg6 harg6 arg7 harg7 arg8 harg8 arg9 harg9 arg10 harg10 arg11 harg11 k X3 X4 X9 X11 n, y ∈ p.1.set → (y 2).1 / 128 = k.val := by
  induction n with
  | zero => intro p hp; exact absurd hp List.not_mem_nil
  | succ n ih =>
    rw [pb2_succ c i arg2 harg2 arg3 harg3 arg4 harg4 arg5 harg5 arg6 harg6 arg7 harg7 arg8 harg8 arg9 harg9 arg10 harg10 arg11 harg11 k X3 X4 X9 X11 ⟨n, hn⟩, trip2_eq]
    intro p hp hy
    rcases List.mem_append.1 hp with hp | hp
    · obtain rfl := List.mem_singleton.1 hp
      have := (mem_block (256 * n) (128 * k.val) _ (k0_off10_eq k ⟨n, hn⟩) (k0_off10_inb k ⟨n, hn⟩) y).1 hy
      omega
    · exact ih (by omega) p hp hy

theorem head_lanes (y : S1x2048x640.Idx) : ∀ p ∈ headPieces (F := Ideal) c i arg2 harg2 arg3 harg3 arg4 harg4 arg5 harg5 arg6 harg6 arg7 harg7 arg8 harg8 arg9 harg9 arg10 harg10 arg11 harg11 arg1 v X2 X3 X4 X9 X10 X11 k, y ∈ p.1.set → (y 2).1 / 128 = k.val := by
  intro p hp hy
  unfold headPieces at hp
  rcases List.mem_append.1 hp with hp | hp
  · by_cases h : RedoAt (F := Ideal) c i arg2 harg2 arg3 harg3 arg4 harg4 arg5 harg5 arg6 harg6 arg7 harg7 arg8 harg8 arg9 harg9 arg10 harg10 arg11 harg11 arg1 v X2 X3 X4 X9 X10 k
    · rw [if_pos h] at hp
      exact redo_lanes c i arg2 harg2 arg3 harg3 arg4 harg4 arg5 harg5 arg6 harg6 arg7 harg7 arg8 harg8 arg9 harg9 arg10 harg10 arg11 harg11 X3 X4 X9 X11 k y _ le_rfl p hp hy
    · rw [if_neg h] at hp
      exact absurd hp List.not_mem_nil
  · exact direct_lanes c i arg2 harg2 arg3 harg3 arg4 harg4 arg5 harg5 arg6 harg6 arg7 harg7 arg8 harg8 arg9 harg9 arg10 harg10 arg11 harg11 arg1 X2 X3 X4 X9 X10 k y p hp hy

/-- The scaled key scales once head `k` has written them. -/
theorem read11 (s : Fin 2048) (l : Fin 128) :
    arg11.view.read (Elt Ideal) (G11 (F := Ideal) c i arg2 harg2 arg3 harg3 arg4 harg4 arg5 harg5 arg6 harg6 arg7 harg7 arg8 harg8 arg9 harg9 arg10 harg10 arg11 harg11 arg1 X2 X3 X4 X9 X10 X11 (k.val + 1)) (ix2 s l)
      = (direct.sl.v377 (F := Ideal) i arg2 arg10 X2 X10 k : S2048x128.Idx → EReal) (ix2 s l) := by
  unfold G11
  rw [pb11_succ, pieces11_eq, View.read_writes_apply_eq_canon _ _ _ _ ⟨_, List.mem_append_left _ List.mem_cons_self, ?_⟩]
  · exact congrFun (View.canon_cons_unit_lit _ _ _ (by intro a; fin_cases a <;> rfl)) _
  · refine (Rect.mem_set_unit (inb := inb_S2048x128_S2048x128_0_0)).2 fun a => ?_
    fin_cases a
    · exact ⟨Nat.zero_le _, by simpa using s.2⟩
    · exact ⟨Nat.zero_le _, by simpa using l.2⟩

include R

/-- What one head leaves in its lanes, whatever was there. -/
theorem head_canon (h11 : ∀ (s : Fin 2048) (l : Fin 128), arg11.view.read (Elt Ideal) X11 (ix2 s l) = (direct.sl.v377 (F := Ideal) i arg2 arg10 X2 X10 k : S2048x128.Idx → EReal) (ix2 s l))
    (L : OutPieces Ideal) (y : S1x2048x640.Idx) (hy : (y 2).1 / 128 = k.val) :
    View.canon (headPieces (F := Ideal) c i arg2 harg2 arg3 harg3 arg4 harg4 arg5 harg5 arg6 harg6 arg7 harg7 arg8 harg8 arg9 harg9 arg10 harg10 arg11 harg11 arg1 v X2 X3 X4 X9 X10 X11 k ++ L) y = OUT (i 1) x2 x3 x4 x5 x6 x7 y := by
  unfold headPieces
  by_cases h : RedoAt (F := Ideal) c i arg2 harg2 arg3 harg3 arg4 harg4 arg5 harg5 arg6 harg6 arg7 harg7 arg8 harg8 arg9 harg9 arg10 harg10 arg11 harg11 arg1 v X2 X3 X4 X9 X10 k
  · rw [if_pos h, List.append_assoc]
    exact View.canon_append_of_piecesOf _ _ _ (redo_pieces c i arg2 harg2 arg3 harg3 arg4 harg4 arg5 harg5 arg6 harg6 arg7 harg7 arg8 harg8 arg9 harg9 arg10 harg10 arg11 harg11 X2 X3 X4 X9 X10 X11 k x2 x3 x4 x5 x6 x7 R h11 8 le_rfl) y
      (redo_cover c i arg2 harg2 arg3 harg3 arg4 harg4 arg5 harg5 arg6 harg6 arg7 harg7 arg8 harg8 arg9 harg9 arg10 harg10 arg11 harg11 X3 X4 X9 X11 k y hy 8 le_rfl (y 1).2)
  · rw [if_neg h, List.nil_append]
    exact View.canon_append_of_piecesOf _ _ _ (direct_pieces c i arg2 harg2 arg3 harg3 arg4 harg4 arg5 harg5 arg6 harg6 arg7 harg7 arg8 harg8 arg9 harg9 arg10 harg10 arg11 harg11 arg1 v X2 X3 X4 X9 X10 k x2 x3 x4 x5 x6 x7 R h) y
      (direct_cover c i arg2 harg2 arg3 harg3 arg4 harg4 arg5 harg5 arg6 harg6 arg7 harg7 arg8 harg8 arg9 harg9 arg10 harg10 arg11 harg11 arg1 X2 X3 X4 X9 X10 k y hy)

omit R in
theorem canon_append_of_not_mem (L' L : OutPieces Ideal) (y : S1x2048x640.Idx) (h : ∀ p ∈ L', y ∉ p.1.set) : View.canon (L' ++ L) y = View.canon L y := by
  induction L' with
  | nil => rfl
  | cons p L' ih =>
    exact (View.canon_cons_of_not_mem p (L' ++ L) (h p List.mem_cons_self)).trans (ih fun q hq => h q (List.mem_cons_of_mem _ hq))

/-- What the heads before `n` leave in their lanes. -/
theorem heads_canon (n : ℕ) (hn : n ≤ 5) (y : S1x2048x640.Idx) (hy : (y 2).1 < 128 * n) :
    View.canon (pb1 (F := Ideal) c i arg2 harg2 arg3 harg3 arg4 harg4 arg5 harg5 arg6 harg6 arg7 harg7 arg8 harg8 arg9 harg9 arg10 harg10 arg11 harg11 arg1 v X2 X3 X4 X9 X10 X11 n) y = OUT (i 1) x2 x3 x4 x5 x6 x7 y := by
  induction n with
  | zero => omega
  | succ n ih =>
    rw [pb1_succ c i arg2 harg2 arg3 harg3 arg4 harg4 arg5 harg5 arg6 harg6 arg7 harg7 arg8 harg8 arg9 harg9 arg10 harg10 arg11 harg11 arg1 v X2 X3 X4 X9 X10 X11 ⟨n, hn⟩]
    by_cases h : (y 2).1 < 128 * n
    · refine (canon_append_of_not_mem _ _ y fun p hp hm => ?_).trans (ih (by omega) h)
      have := head_lanes c i arg2 harg2 arg3 harg3 arg4 harg4 arg5 harg5 arg6 harg6 arg7 harg7 arg8 harg8 arg9 harg9 arg10 harg10 arg11 harg11 arg1 v X2 X3 X4 X9 X10 _ ⟨n, hn⟩ y p hp hm
      dsimp only at this
      omega
    · exact head_canon c i arg2 harg2 arg3 harg3 arg4 harg4 arg5 harg5 arg6 harg6 arg7 harg7 arg8 harg8 arg9 harg9 arg10 harg10 arg11 harg11 arg1 v X2 X3 X4 X9 X10 _ ⟨n, hn⟩ x2 x3 x4 x5 x6 x7 R (read11 c i arg2 harg2 arg3 harg3 arg4 harg4 arg5 harg5 arg6 harg6 arg7 harg7 arg8 harg8 arg9 harg9 arg10 harg10 arg11 harg11 arg1 X2 X3 X4 X9 X10 X11 ⟨n, hn⟩) _ y (by show _ = n; omega)

omit R in
theorem heads_cover (n : ℕ) (hn : n ≤ 5) (y : S1x2048x640.Idx) (hy : (y 2).1 < 128 * n) :
    ∃ p ∈ pb1 (F := Ideal) c i arg2 harg2 arg3 harg3 arg4 harg4 arg5 harg5 arg6 harg6 arg7 harg7 arg8 harg8 arg9 harg9 arg10 harg10 arg11 harg11 arg1 v X2 X3 X4 X9 X10 X11 n, y ∈ p.1.set := by
  induction n with
  | zero => omega
  | succ n ih =>
    rw [pb1_succ c i arg2 harg2 arg3 harg3 arg4 harg4 arg5 harg5 arg6 harg6 arg7 harg7 arg8 harg8 arg9 harg9 arg10 harg10 arg11 harg11 arg1 v X2 X3 X4 X9 X10 X11 ⟨n, hn⟩]
    by_cases h : (y 2).1 < 128 * n
    · obtain ⟨p, hp, hm⟩ := ih (by omega) h
      exact ⟨p, List.mem_append_right _ hp, hm⟩
    · obtain ⟨p, hp, hm⟩ := direct_cover c i arg2 harg2 arg3 harg3 arg4 harg4 arg5 harg5 arg6 harg6 arg7 harg7 arg8 harg8 arg9 harg9 arg10 harg10 arg11 harg11 arg1 X2 X3 X4 X9 X10 ⟨n, hn⟩ y (by show _ = n; omega)
      exact ⟨p, List.mem_append_left _ (List.mem_append_right _ hp), hm⟩

/-- What the whole loop leaves in the output window. -/
theorem loop_read (f : BufTy.Contents (Elt Ideal) arg8.view.ty) (y : S1x2048x640.Idx) :
    arg8.view.read (Elt Ideal) (arg8.view.writes (Elt Ideal) f (pb1 (F := Ideal) c i arg2 harg2 arg3 harg3 arg4 harg4 arg5 harg5 arg6 harg6 arg7 harg7 arg8 harg8 arg9 harg9 arg10 harg10 arg11 harg11 arg1 v X2 X3 X4 X9 X10 X11 k0_t1_loop.trips)) y = OUT (i 1) x2 x3 x4 x5 x6 x7 y := by
  have h : (y 2).1 < 128 * 5 := (y 2).2
  have hc := heads_cover c i arg2 harg2 arg3 harg3 arg4 harg4 arg5 harg5 arg6 harg6 arg7 harg7 arg8 harg8 arg9 harg9 arg10 harg10 arg11 harg11 arg1 v X2 X3 X4 X9 X10 X11 5 le_rfl y h
  exact (View.read_writes_apply_eq_canon arg8.view f y _ hc).trans (heads_canon c i arg2 harg2 arg3 harg3 arg4 harg4 arg5 harg5 arg6 harg6 arg7 harg7 arg8 harg8 arg9 harg9 arg10 harg10 arg11 harg11 arg1 v X2 X3 X4 X9 X10 X11 x2 x3 x4 x5 x6 x7 R 5 le_rfl y h)

end Body

end Cert.Proof.KernelIdeal
end
-- ==== Proof.Result.lean ====
/-
  The result both programs compute, index by index: lane `640 h + 128 g + d` of the result holds lane `d` of head `g` of key head `h`.
-/
module

public import proofs.«01_k».proof.Proof.Spec
public import Idealize.ShloMosaic.Lib.Pointwise

@[expose] public section

set_option maxRecDepth 16384
set_option maxHeartbeats 400000

noncomputable section

namespace Cert.Proof

open Idealize.ShloMosaic

/-- One row of attention at every index of the result, over the six argument arrays. -/
def result (a0 : Vec Ideal ⟨3, ![12, 2048, 5120]⟩ .fp8e4m3) (a1 a2 : Vec Ideal ⟨3, ![12, 2048, 1024]⟩ .fp8e4m3) (a3 : Vec Ideal ⟨1, ![40]⟩ .f32)
    (a4 a5 : Vec Ideal ⟨3, ![12, 2048, 8]⟩ .f32) (b : Fin 12) (t : Fin 2048) (h : Fin 8) (g : Fin 5) (d : Fin 128) : EReal :=
  Spec.row t.1 (fun e => a0 (ix3 b t ⟨h.1 * 640 + g.1 * 128 + e.1, by omega⟩)) (fun s e => a1 (ix3 b s ⟨h.1 * 128 + e.1, by omega⟩))
    (fun s => a2 (ix3 b s ⟨h.1 * 128 + d.1, by omega⟩)) (a3 (ix1 ⟨h.1 * 5 + g.1, by omega⟩)) (fun s => a4 (ix3 b s h)) (fun s => a5 (ix3 b s h))

/-- The same as an array. -/
def resultArr (a0 : Vec Ideal ⟨3, ![12, 2048, 5120]⟩ .fp8e4m3) (a1 a2 : Vec Ideal ⟨3, ![12, 2048, 1024]⟩ .fp8e4m3) (a3 : Vec Ideal ⟨1, ![40]⟩ .f32)
    (a4 a5 : Vec Ideal ⟨3, ![12, 2048, 8]⟩ .f32) (y : (⟨3, ![12, 2048, 5120]⟩ : Shape).Idx) : EReal :=
  result a0 a1 a2 a3 a4 a5 (y 0) (y 1) ⟨(y 2).1 / 640, by have := (y 2).2; change (y 2).1 < 5120 at this; omega⟩
    ⟨(y 2).1 % 640 / 128, by omega⟩ ⟨(y 2).1 % 128, by omega⟩

end Cert.Proof

end
-- ==== Proof.KernelIdealValue.lean ====
/-
  The result array of `KernelIdeal` after its run: `resultArr` of the argument arrays. The body leaves `OUT` of the blocks in the
  input windows (`KernelIdealOut`); a block is a part of an argument array, the last two through a transposition on the host.
-/
module

public import proofs.«01_k».proof.Proof.KernelIdealOut
public import proofs.«01_k».proof.Proof.KernelIdealRun
public import proofs.«01_k».proof.Proof.Result
public import Idealize.ShloMosaic.Lib.Pipeline.ValueKit
public import Idealize.ShloMosaic.Lib.Pointwise

@[expose] public section

set_option maxRecDepth 16384
set_option maxHeartbeats 400000

noncomputable section

namespace Cert.Proof.KernelIdeal

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable (m : (ℓ : Loc nD τ sig) → Buf (Elt Ideal) ℓ) (ρ : Dev nD → PrngReg)

/-- The output window's contents after the body at point `t`. -/
def outI (c : Dev nD) (t : Fin cfg0.N) : Vec Ideal S1x2048x640 .bf16 :=
  OUT (grid0.coords t 1) (iblk m c 0 t) (iblk m c 1 t) (iblk m c 2 t) (iblk m c 3 t) (iblk m c 4 t) (iblk m c 5 t)

/-- The pieces the body's head leaves in the first two scratch buffers. -/
theorem body_9 (c : Dev nD) (i : grid0.Coords) (arg2 : Memref sig .tc .smem S40 .f32) (harg2 : arg2.IsWhole) (arg3 : Memref sig .tc .vmem S1x2048x640 .fp8e4m3) (harg3 : arg3.IsWhole) (arg4 : Memref sig .tc .vmem S1x2048x128 .fp8e4m3) (harg4 : arg4.IsWhole) (arg5 : Memref sig .tc .vmem S1x2048x128 .fp8e4m3) (harg5 : arg5.IsWhole) (arg6 : Memref sig .tc .vmem S1x1x1x2048 .f32) (harg6 : arg6.IsWhole) (arg7 : Memref sig .tc .vmem S1x1x1x2048 .f32) (harg7 : arg7.IsWhole) (arg8 : Memref sig .tc .vmem S1x2048x640 .bf16) (harg8 : arg8.IsWhole) (arg9 : Memref sig .tc .vmem S128x2048 .bf16) (harg9 : arg9.IsWhole) (arg10 : Memref sig .tc .vmem S2048x128 .f32) (harg10 : arg10.IsWhole) (arg11 : Memref sig .tc .vmem S2048x128 .f32) (harg11 : arg11.IsWhole) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) :
    (body (F := Ideal) c i arg2 harg2 arg3 harg3 arg4 harg4 arg5 harg5 arg6 harg6 arg7 harg7 arg8 harg8 arg9 harg9 arg10 harg10 arg11 harg11 X2 X3 X4 X5 X6 X7).1 = body.sl.H9_16 arg5 arg7 X5 X7 := by
  unfold body
  rfl

theorem body_10 (c : Dev nD) (i : grid0.Coords) (arg2 : Memref sig .tc .smem S40 .f32) (harg2 : arg2.IsWhole) (arg3 : Memref sig .tc .vmem S1x2048x640 .fp8e4m3) (harg3 : arg3.IsWhole) (arg4 : Memref sig .tc .vmem S1x2048x128 .fp8e4m3) (harg4 : arg4.IsWhole) (arg5 : Memref sig .tc .vmem S1x2048x128 .fp8e4m3) (harg5 : arg5.IsWhole) (arg6 : Memref sig .tc .vmem S1x1x1x2048 .f32) (harg6 : arg6.IsWhole) (arg7 : Memref sig .tc .vmem S1x1x1x2048 .f32) (harg7 : arg7.IsWhole) (arg8 : Memref sig .tc .vmem S1x2048x640 .bf16) (harg8 : arg8.IsWhole) (arg9 : Memref sig .tc .vmem S128x2048 .bf16) (harg9 : arg9.IsWhole) (arg10 : Memref sig .tc .vmem S2048x128 .f32) (harg10 : arg10.IsWhole) (arg11 : Memref sig .tc .vmem S2048x128 .f32) (harg11 : arg11.IsWhole) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) :
    (body (F := Ideal) c i arg2 harg2 arg3 harg3 arg4 harg4 arg5 harg5 arg6 harg6 arg7 harg7 arg8 harg8 arg9 harg9 arg10 harg10 arg11 harg11 X2 X3 X4 X5 X6 X7).2.1 = body.sl.H10_16 arg6 X6 := by
  unfold body
  rfl

theorem left_eq (c : Dev nD) (t : Fin cfg0.N) (X : Vec Ideal S1x2048x640 .bf16) (h : LeftAt m c t X) : X = outI m c t := by
  unfold LeftAt Left at h
  obtain ⟨X2, X3, X4, X5, X6, X7, X11, f, ⟨h2, h3, h4, h5, h6, h7⟩, rfl⟩ := h
  funext y
  refine loop_read c _ _ _ _ _ _ _ _ _ _ _ _ _ _ _ _ _ _ _ _ _ _ _ X2 X3 X4 _ _ X11 _ _ _ _ _ _ ⟨h2, h3, h4, fun d s => ?_, fun s l => ?_⟩ f y
  · rw [← h5, ← h7, body_9]
    exact read9 _ _ X5 X7 _ d s
  · rw [← h6, body_10]
    exact read10 _ X6 _ s l

theorem idx : ∀ t : Fin cfg0.N, win0_0.index t = ![0] ∧ win0_1.index t = ![(grid0.coords t 0).val, 0, (grid0.coords t 1).val]
    ∧ win0_2.index t = ![(grid0.coords t 0).val, 0, (grid0.coords t 1).val] ∧ win0_3.index t = ![(grid0.coords t 0).val, 0, (grid0.coords t 1).val]
    ∧ win0_4.index t = ![(grid0.coords t 0).val, (grid0.coords t 1).val, 0, 0] ∧ win0_5.index t = ![(grid0.coords t 0).val, (grid0.coords t 1).val, 0, 0]
    ∧ win0_6.index t = ![(grid0.coords t 0).val, 0, (grid0.coords t 1).val] := (by decide +kernel : ∀ t : Fin grid0.N, _)

theorem pt_lt (t : Fin cfg0.N) : (grid0.coords t 0).val < 12 ∧ (grid0.coords t 1).val < 8 := ⟨(grid0.coords t 0).2, (grid0.coords t 1).2⟩

theorem iblk0 (c : Dev nD) (t : Fin cfg0.N) (j : Fin 40) : iblk m c 0 t (ix1 j) = m ((c : Thread nD τ).loc main_arg3) (ix1 j) := by
  have e := idx t
  blk_simp [iblk, V_main_arg3]
  congr 1
  blk_ext [idx t]

theorem iblk1 (c : Dev nD) (t : Fin cfg0.N) (r : Fin 2048) (l : Fin 640) :
    iblk m c 1 t (ix3 0 r l) = m ((c : Thread nD τ).loc main_arg0) (ix3 ⟨_, (pt_lt t).1⟩ r ⟨(grid0.coords t 1).val * 640 + l.1, by have := (pt_lt t).2; omega⟩) := by
  blk_simp [iblk, V_main_arg0]
  congr 1
  blk_ext [idx t]

theorem iblk2 (c : Dev nD) (t : Fin cfg0.N) (r : Fin 2048) (l : Fin 128) :
    iblk m c 2 t (ix3 0 r l) = m ((c : Thread nD τ).loc main_arg1) (ix3 ⟨_, (pt_lt t).1⟩ r ⟨(grid0.coords t 1).val * 128 + l.1, by have := (pt_lt t).2; omega⟩) := by
  blk_simp [iblk, V_main_arg1]
  congr 1
  blk_ext [idx t]

theorem iblk3 (c : Dev nD) (t : Fin cfg0.N) (r : Fin 2048) (l : Fin 128) :
    iblk m c 3 t (ix3 0 r l) = m ((c : Thread nD τ).loc main_arg2) (ix3 ⟨_, (pt_lt t).1⟩ r ⟨(grid0.coords t 1).val * 128 + l.1, by have := (pt_lt t).2; omega⟩) := by
  blk_simp [iblk, V_main_arg2]
  congr 1
  blk_ext [idx t]

theorem V1_at (c : Dev nD) (b : Fin 12) (h : Fin 8) (s : Fin 2048) :
    V m c main_v1 (ix4 b h 0 s) = m ((c : Thread nD τ).loc main_arg4) (ix3 b s h) := by
  entry_read
  pointwise

theorem V3_at (c : Dev nD) (b : Fin 12) (h : Fin 8) (s : Fin 2048) :
    V m c main_v3 (ix4 b h 0 s) = m ((c : Thread nD τ).loc main_arg5) (ix3 b s h) := by
  entry_read
  pointwise

theorem iblk4 (c : Dev nD) (t : Fin cfg0.N) (s : Fin 2048) :
    iblk m c 4 t (ix4 0 0 0 s) = m ((c : Thread nD τ).loc main_arg4) (ix3 ⟨_, (pt_lt t).1⟩ s ⟨_, (pt_lt t).2⟩) := by
  rw [← V1_at m c]
  blk_simp [iblk]
  congr 1
  blk_ext [idx t]

theorem iblk5 (c : Dev nD) (t : Fin cfg0.N) (s : Fin 2048) :
    iblk m c 5 t (ix4 0 0 0 s) = m ((c : Thread nD τ).loc main_arg5) (ix3 ⟨_, (pt_lt t).1⟩ s ⟨_, (pt_lt t).2⟩) := by
  rw [← V3_at m c]
  blk_simp [iblk]
  congr 1
  blk_ext [idx t]

/-- The result over the argument arrays as launched. -/
abbrev res (c : Dev nD) : S12x2048x5120.Idx → EReal :=
  resultArr (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

theorem row_congr {t t' : ℕ} {q q' : Fin 128 → EReal} {k k' : Fin 2048 → Fin 128 → EReal} {v v' : Fin 2048 → EReal} {a a' : EReal} {ks ks' vs vs' : Fin 2048 → EReal}
    (ht : t = t') (hq : q = q') (hk : k = k') (hv : v = v') (ha : a = a') (hks : ks = ks') (hvs : vs = vs') :
    Spec.row t q k v a ks vs = Spec.row t' q' k' v' a' ks' vs' := by
  subst ht hq hk hv ha hks hvs; rfl

/-- A block of the result is what the body leaves. -/
theorem out_at (c : Dev nD) (t : Fin cfg0.N) (y : S1x2048x640.Idx) (z : S12x2048x5120.Idx) (h0 : (z 0 : ℕ) = (grid0.coords t 0).val)
    (h1 : (z 1 : ℕ) = (y 1).1) (h2 : (z 2 : ℕ) = (grid0.coords t 1).val * 640 + (y 2).1) : outI m c t y = res m c z := by
  have hy : (y 2).1 < 640 := (y 2).2
  have hp := pt_lt t
  have e0 : z 0 = (⟨_, hp.1⟩ : Fin 12) := Fin.ext h0
  have e1 : z 1 = y 1 := Fin.ext h1
  have e2 : (z 2 : ℕ) / 640 = (grid0.coords t 1).val := by omega
  have e3 : (z 2 : ℕ) % 640 / 128 = (y 2).1 / 128 := by omega
  have e4 : (z 2 : ℕ) % 128 = (y 2).1 % 128 := by omega
  unfold outI OUT res resultArr
  rw [e0, e1]
  unfold rowK result
  have hq : ∀ e : Fin 128, iblk m c 1 t (ix3 0 (y 1) ⟨128 * ((y 2).1 / 128) + e.1, by omega⟩)
      = m ((c : Thread nD τ).loc main_arg0) (ix3 ⟨_, hp.1⟩ (y 1) ⟨(z 2).1 / 640 * 640 + (z 2).1 % 640 / 128 * 128 + e.1, by have := (z 2).2; change (z 2).1 < 5120 at this; omega⟩) := by
    intro e
    refine (iblk1 m c t _ _).trans ?_
    congr 3
    simp only [e2, e3]; omega
  have hk : ∀ (s : Fin 2048) (e : Fin 128), iblk m c 2 t (ix3 0 s e)
      = m ((c : Thread nD τ).loc main_arg1) (ix3 ⟨_, hp.1⟩ s ⟨(z 2).1 / 640 * 128 + e.1, by have := (z 2).2; change (z 2).1 < 5120 at this; omega⟩) := by
    intro s e
    refine (iblk2 m c t _ _).trans ?_
    congr 3
    simp only [e2]
  have hv : ∀ s : Fin 2048, iblk m c 3 t (ix3 0 s ⟨(y 2).1 % 128, by omega⟩)
      = m ((c : Thread nD τ).loc main_arg2) (ix3 ⟨_, hp.1⟩ s ⟨(z 2).1 / 640 * 128 + (z 2).1 % 128, by have := (z 2).2; change (z 2).1 < 5120 at this; omega⟩) := by
    intro s
    refine (iblk3 m c t _ _).trans ?_
    congr 3
    simp only [e2, e4]
  have hs : iblk m c 0 t (ix1 ⟨5 * (grid0.coords t 1).val + (y 2).1 / 128, by omega⟩)
      = m ((c : Thread nD τ).loc main_arg3) (ix1 ⟨(z 2).1 / 640 * 5 + (z 2).1 % 640 / 128, by have := (z 2).2; change (z 2).1 < 5120 at this; omega⟩) := by
    rw [iblk0]
    congr 2
    apply Fin.ext
    simp only [e2, e3]; omega
  have hks : ∀ s : Fin 2048, iblk m c 4 t (ix4 0 0 0 s) = m ((c : Thread nD τ).loc main_arg4) (ix3 ⟨_, hp.1⟩ s ⟨(z 2).1 / 640, by have := (z 2).2; change (z 2).1 < 5120 at this; omega⟩) := by
    intro s
    rw [iblk4]
    congr 2
    simp only [e2]
  have hvs : ∀ s : Fin 2048, iblk m c 5 t (ix4 0 0 0 s) = m ((c : Thread nD τ).loc main_arg5) (ix3 ⟨_, hp.1⟩ s ⟨(z 2).1 / 640, by have := (z 2).2; change (z 2).1 < 5120 at this; omega⟩) := by
    intro s
    rw [iblk5]
    congr 2
    simp only [e2]
  refine row_congr rfl (funext hq) (funext fun s => funext (hk s)) (funext hv) hs (funext hks) (funext hvs)

theorem final (c : Dev nD) : (dats m (outI m) 0 c).arrAt 6 cfg0.N = res m c := by
  refine (dats m (outI m) 0 c).arrAt_eq_of_covers 6 _ (by decide +kernel) fun t hf y => ?_
  blk_simp
  rw [after0_6]
  refine out_at m c t y _ ?_ ?_ ?_ <;> blk_simp [idx t] <;> simp

/-- The run, its result named and its arguments unchanged. -/
theorem run : θ_run defs (onTc (τ := τ) (main (F := Ideal))) ⟨m, fun _ => 0, ρ⟩ (fun r => ∀ c : Dev nD,
      r.2.mem ((c.tc : Thread nD τ).loc main_v4) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨
      ((h.1 c).1 6).trans (final m c),
      (Pipeline.FramePost.in_eq h.1 c 1 rfl).trans ((A_eq m (outI m) c 1).trans (V_main_arg0 m c)),
      (Pipeline.FramePost.in_eq h.1 c 2 rfl).trans ((A_eq m (outI m) c 2).trans (V_main_arg1 m c)),
      (Pipeline.FramePost.in_eq h.1 c 3 rfl).trans ((A_eq m (outI m) c 3).trans (V_main_arg2 m c)),
      (Pipeline.FramePost.in_eq h.1 c 0 rfl).trans ((A_eq m (outI m) c 0).trans (V_main_arg3 m c)),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c)⟩)
    (run_main m ρ (outI m) (left_eq m))

end Cert.Proof.KernelIdeal

end
-- ==== Proof.RefTail.lean ====
/-
  The host lines of `ReferenceIdeal` after its launch, read at an index of the result: `Spec.row`.
-/
module

public import proofs.«01_k».proof.Proof.Gen.ReferenceIdeal.Frame
public import proofs.«01_k».proof.Proof.Spec
public import Idealize.ShloMosaic.Lib.StableHlo.RunRead
public import Idealize.ShloMosaic.Lib.Pointwise
public import Idealize.ShloMosaic.Lib.Pipeline.ValueKit

@[expose] public section

set_option maxRecDepth 16384
set_option maxHeartbeats 1000000

noncomputable section

namespace Cert.Proof.Ref

open Cert.ReferenceIdeal Cert.ReferenceIdeal.Gen
open Idealize.ShloMosaic Idealize.ShloMosaic.TcCoe

/-- The masked scores. -/
def SC (x : FVec Ideal S12x2048x5120 .f32) (k : FVec Ideal S12x2048x1024 .f32) (qs : FVec Ideal S40 .f32) (ks : FVec Ideal S12x2048x8 .f32) :
    FVec Ideal S12x8x5x2048x2048 .f32 :=
  select
    (broadcastInDim S12x8x5x2048x2048 ![3, 4] bcast_S2048x2048_S12x8x5x2048x2048_3_4
      (cmpi .sle
        (broadcastInDim S2048x2048 ![0, 1] bcast_S1x2048_S2048x2048_0_1 (broadcastInDim S1x2048 ![1] bcast_S2048_S1x2048_1 (iotaInDim S2048 32 0)))
        (broadcastInDim S2048x2048 ![0, 1] bcast_S2048x1_S2048x2048_0_1 (broadcastInDim S2048x1 ![0] bcast_S2048_S2048x1_0 (iotaInDim S2048 32 0)))))
    (mulf
      (mulf
        (transpose S12x8x5x2048x2048 [0, 1, 4, 3, 2]
          (Host.dotGeneral dot_S12x2048x8x128_S12x2048x8x5x128_S12x8x2048x2048x5_3_4_1_13_02_02 none
            (shapeCast S12x2048x8x128 k shapeCasts_S12x2048x1024_S12x2048x8x128)
            (shapeCast S12x2048x8x5x128 x shapeCasts_S12x2048x5120_S12x2048x8x5x128) : FVec Ideal S12x8x2048x2048x5 .f32)
          transposes_S12x8x2048x2048x5_S12x8x5x2048x2048_0_1_4_3_2)
        (broadcastInDim S12x8x5x2048x2048 ![0, 1, 2, 3, 4] bcast_S1x8x5x1x1_S12x8x5x2048x2048_0_1_2_3_4
          (broadcastInDim S1x8x5x1x1 ![1, 2, 3, 4] bcast_S8x5x1x1_S1x8x5x1x1_1_2_3_4
            (broadcastInDim S8x5x1x1 ![0, 1] bcast_S8x5_S8x5x1x1_0_1
              (shapeCast S8x5
                (mulf qs (broadcastInDim S40 ![] bcast_S_S40
                  (Host.powf (constant S_ .f32 0x43000000#32 : FVec Ideal S_ .f32) (constant S_ .f32 0xBF000000#32))))
                shapeCasts_S40_S8x5)))))
      (broadcastInDim S12x8x5x2048x2048 ![0, 1, 2, 3, 4] bcast_S12x8x1x1x2048_S12x8x5x2048x2048_0_1_2_3_4
        (broadcastInDim S12x8x1x1x2048 ![0, 1, 4] bcast_S12x8x2048_S12x8x1x1x2048_0_1_4
          (transpose S12x8x2048 [0, 2, 1] ks transposes_S12x2048x8_S12x8x2048_0_2_1))))
    (broadcastInDim S12x8x5x2048x2048 ![] bcast_S_S12x8x5x2048x2048 (constant S_ .f32 0xFF800000#32))

/-- The exponentials, shifted by the row's greatest score. -/
def EX (sc : FVec Ideal S12x8x5x2048x2048 .f32) : FVec Ideal S12x8x5x2048x2048 .f32 :=
  Host.exp (subf sc
    (broadcastInDim S12x8x5x2048x2048 ![0, 1, 2, 3, 4] bcast_S12x8x5x2048x1_S12x8x5x2048x2048_0_1_2_3_4
      (broadcastInDim S12x8x5x2048x1 ![0, 1, 2, 3] bcast_S12x8x5x2048_S12x8x5x2048x1_0_1_2_3
        (Host.reduce FloatOps.maximumf sc (constant S_ .f32 0xFF800000#32) reducesTo_S12x8x5x2048x2048_S12x8x5x2048_d4 h_S_))))

/-- The quotient by the row's sum. -/
def OUT (ex : FVec Ideal S12x8x5x2048x2048 .f32) (v : FVec Ideal S12x2048x1024 .bf16) (vs : FVec Ideal S12x2048x8 .f32) :
    FVec Ideal S12x8x5x2048x128 .f32 :=
  Host.divf
    (Host.dotGeneral dot_S12x8x5x2048x2048_S12x2048x8x128_S12x8x5x2048x128_4_1_23_3_01_02 none
      (truncf .bf16
        (mulf ex
          (broadcastInDim S12x8x5x2048x2048 ![0, 1, 2, 3, 4] bcast_S12x8x1x1x2048_S12x8x5x2048x2048_0_1_2_3_4
            (broadcastInDim S12x8x1x1x2048 ![0, 1, 4] bcast_S12x8x2048_S12x8x1x1x2048_0_1_4
              (transpose S12x8x2048 [0, 2, 1] vs transposes_S12x2048x8_S12x8x2048_0_2_1)))) bitsLt_bf16_f32)
      (shapeCast S12x2048x8x128 v shapeCasts_S12x2048x1024_S12x2048x8x128))
    (broadcastInDim S12x8x5x2048x128 ![0, 1, 2, 3, 4] bcast_S12x8x5x2048x1_S12x8x5x2048x128_0_1_2_3_4
      (broadcastInDim S12x8x5x2048x1 ![0, 1, 2, 3] bcast_S12x8x5x2048_S12x8x5x2048x1_0_1_2_3
        (Host.reduceAdd ex (constant S_ .f32 0x00000000#32) reducesTo_S12x8x5x2048x2048_S12x8x5x2048_d4 h_S_)))

/-- The result array. -/
def REF (x : FVec Ideal S12x2048x5120 .f32) (k : FVec Ideal S12x2048x1024 .f32) (v : FVec Ideal S12x2048x1024 .bf16)
    (qs : FVec Ideal S40 .f32) (ks vs : FVec Ideal S12x2048x8 .f32) : FVec Ideal S12x2048x5120 .bf16 :=
  shapeCast S12x2048x5120
    (truncf .bf16
      (transpose S12x2048x8x5x128 [0, 3, 1, 2, 4] (OUT (EX (SC x k qs ks)) v vs) transposes_S12x8x5x2048x128_S12x2048x8x5x128_0_3_1_2_4)
      bitsLt_bf16_f32) shapeCasts_S12x2048x8x5x128_S12x2048x5120

theorem tail (W : Valuation τ sig (Elt Ideal)) :
    StableHlo.after ([hostOps1, hostOps1_1, hostOps1_2] : List (List (HloOp τ sig (Elt Ideal)))).flatten W (Proc.devRef .tc main_v43)
      = REF (W (Proc.devRef .tc main_v0_0)) (W (Proc.devRef .tc main_v0_1)) (W (Proc.devRef .tc main_v0_2))
          (W (Proc.devRef .tc main_arg3)) (W (Proc.devRef .tc main_arg4)) (W (Proc.devRef .tc main_arg5)) := by
  simp only [List.flatten_cons, List.flatten_nil, hostOps1, hostOps1_1, hostOps1_2, List.cons_append, List.nil_append, List.append_nil]
  after_reads_simp
  rfl

theorem SC_at (x : FVec Ideal S12x2048x5120 .f32) (k : FVec Ideal S12x2048x1024 .f32) (qs : FVec Ideal S40 .f32) (ks : FVec Ideal S12x2048x8 .f32)
    (b : Fin 12) (h : Fin 8) (g : Fin 5) (t s : Fin 2048) :
    SC x k qs ks (ix5 b h g t s)
      = if s.1 ≤ t.1 then (∑ e : Fin 128, k (ix3 b s ⟨h.1 * 128 + e.1, by omega⟩) * x (ix3 b t ⟨h.1 * 640 + g.1 * 128 + e.1, by omega⟩))
          * (qs (ix1 ⟨h.1 * 5 + g.1, by omega⟩) * (((Real.sqrt 128)⁻¹ : ℝ) : EReal)) * ks (ix3 b s h) else ⊥ := by
  pointwise [SC]
  rw [Spec.scale_eq, Spec.ofBits_neg_inf]
  word_cmp

theorem EX_at (sc : FVec Ideal S12x8x5x2048x2048 .f32)
    (b : Fin 12) (h : Fin 8) (g : Fin 5) (t s : Fin 2048) :
    EX sc (ix5 b h g t s) = Ideal.exp (sc (ix5 b h g t s) - Finset.univ.fold max ⊥ fun x => sc (ix5 b h g t x)) := by
  pointwise [EX]
  rw [Spec.ofBits_neg_inf]

theorem OUT_at (ex : FVec Ideal S12x8x5x2048x2048 .f32) (v : FVec Ideal S12x2048x1024 .bf16) (vs : FVec Ideal S12x2048x8 .f32)
    (b : Fin 12) (h : Fin 8) (g : Fin 5) (t : Fin 2048) (d : Fin 128) :
    OUT ex v vs (ix5 b h g t d)
      = Ideal.div (∑ s, ex (ix5 b h g t s) * vs (ix3 b s h) * v (ix3 b s ⟨h.1 * 128 + d.1, by omega⟩)) (∑ s, ex (ix5 b h g t s)) := by
  pointwise [OUT]

/-- The reference's result at an index: one row of attention. -/
theorem REF_at (x : FVec Ideal S12x2048x5120 .f32) (k : FVec Ideal S12x2048x1024 .f32) (v : FVec Ideal S12x2048x1024 .bf16)
    (qs : FVec Ideal S40 .f32) (ks vs : FVec Ideal S12x2048x8 .f32) (b : Fin 12) (t : Fin 2048) (h : Fin 8) (g : Fin 5) (d : Fin 128) :
    REF x k v qs ks vs (ix3 b t ⟨h.1 * 640 + g.1 * 128 + d.1, by omega⟩)
      = Spec.row t.1 (fun e => x (ix3 b t ⟨h.1 * 640 + g.1 * 128 + e.1, by omega⟩)) (fun s e => k (ix3 b s ⟨h.1 * 128 + e.1, by omega⟩))
          (fun s => v (ix3 b s ⟨h.1 * 128 + d.1, by omega⟩)) (qs (ix1 ⟨h.1 * 5 + g.1, by omega⟩))
          (fun s => ks (ix3 b s h)) (fun s => vs (ix3 b s h)) := by
  have e0 : REF x k v qs ks vs (ix3 b t ⟨h.1 * 640 + g.1 * 128 + d.1, by omega⟩) = OUT (EX (SC x k qs ks)) v vs (ix5 b h g t d) := by
    pointwise [REF]
  rw [e0, OUT_at]
  simp only [EX_at]
  exact Spec.row_natural t.1 (fun e => x (ix3 b t ⟨h.1 * 640 + g.1 * 128 + e.1, by omega⟩)) (fun s e => k (ix3 b s ⟨h.1 * 128 + e.1, by omega⟩))
    (fun s => v (ix3 b s ⟨h.1 * 128 + d.1, by omega⟩)) (qs (ix1 ⟨h.1 * 5 + g.1, by omega⟩))
    (fun s => ks (ix3 b s h)) (fun s => vs (ix3 b s h)) (fun s => SC x k qs ks (ix5 b h g t s)) (fun s => SC_at x k qs ks b h g t s)

end Cert.Proof.Ref
end
-- ==== Proof.RefValue.lean ====
/-
  The run of `ReferenceIdeal` and its result: the launch hands the three activations on as they are (a cast is the identity over
  the reals), and the host lines after it compute `resultArr` of the argument arrays (`RefTail`).
-/
module

public import proofs.«01_k».proof.Proof.RefTail
public import proofs.«01_k».proof.Proof.Result
public import Idealize.ShloMosaic.Lib.Pipeline.ValueKit
public import Idealize.ShloMosaic.Lib.Pointwise

@[expose] public section

set_option maxRecDepth 16384
set_option maxHeartbeats 400000

noncomputable section

namespace Cert.Proof.Ref

open Cert.ReferenceIdeal Cert.ReferenceIdeal.Gen
open Idealize.ShloMosaic Idealize.ShloMosaic.TcCoe Idealize.ShloMosaic.Tactic
open Idealize.SL Idealize.SL.Sem
open Idealize.ShloMosaic.Pipeline (Dat Cfg Window)

variable (m : (ℓ : Loc nD τ sig) → Buf (Elt Ideal) ℓ) (ρ : Dev nD → PrngReg)

theorem idx : ∀ t : Fin cfg0.N, win0_0.index t = ![0, 0, 0] ∧ win0_1.index t = ![0, 0, 0] ∧ win0_2.index t = ![0, 0, 0]
    ∧ win0_3.index t = ![0, 0, 0] ∧ win0_4.index t = ![0, 0, 0] ∧ win0_5.index t = ![0, 0, 0] := (by decide +kernel : ∀ t : Fin grid0.N, _)

theorem arr3 (c : Dev nD) : ((dats m 0 c).arrAt 3 cfg0.N : S12x2048x5120.Idx → EReal) = m ((c : Thread nD τ).loc main_arg0) := by
  refine (dats m 0 c).arrAt_eq_of_after_last 3 t0_0 (by decide +kernel) _ fun j => ?_
  blk_simp
  rw [after0_3]
  frame_out
  pointwise [k0_pay1]
  blk_point [iblk, V, idx t0_0]

theorem arr4 (c : Dev nD) : ((dats m 0 c).arrAt 4 cfg0.N : S12x2048x1024.Idx → EReal) = m ((c : Thread nD τ).loc main_arg1) := by
  refine (dats m 0 c).arrAt_eq_of_after_last 4 t0_0 (by decide +kernel) _ fun j => ?_
  blk_simp
  rw [after0_4]
  frame_out
  pointwise [k0_pay2]
  blk_point [iblk, V, idx t0_0]

theorem arr5 (c : Dev nD) : ((dats m 0 c).arrAt 5 cfg0.N : S12x2048x1024.Idx → EReal) = m ((c : Thread nD τ).loc main_arg2) := by
  refine (dats m 0 c).arrAt_eq_of_after_last 5 t0_0 (by decide +kernel) _ fun j => ?_
  blk_simp
  rw [after0_5]
  frame_out
  pointwise [k0_pay3]
  blk_point [iblk, V, idx t0_0]

theorem arr_inj : Function.Injective (Pipeline.arrRef spec0) := by decide

theorem resultArr_at (a0 : Vec Ideal S12x2048x5120 .fp8e4m3) (a1 a2 : Vec Ideal S12x2048x1024 .fp8e4m3) (a3 : Vec Ideal S40 .f32) (a4 a5 : Vec Ideal S12x2048x8 .f32)
    (x : FVec Ideal S12x2048x5120 .f32) (k : FVec Ideal S12x2048x1024 .f32) (v : FVec Ideal S12x2048x1024 .bf16)
    (hx : x = a0) (hk : k = a1) (hv : v = a2) : REF x k v a3 a4 a5 = resultArr a0 a1 a2 a3 a4 a5 := by
  subst hx hk hv
  funext y
  have hy : (y 2).1 < 5120 := (y 2).2
  obtain ⟨b, t, l, rfl⟩ : ∃ (b : Fin 12) (t : Fin 2048) (l : Fin 5120), y = (ix3 b t l : S12x2048x5120.Idx) :=
    ⟨y 0, y 1, y 2, by funext a; fin_cases a <;> rfl⟩
  have e : l = ⟨l.1 / 640 * 640 + l.1 % 640 / 128 * 128 + l.1 % 128, by omega⟩ := Fin.ext (by show l.1 = l.1 / 640 * 640 + l.1 % 640 / 128 * 128 + l.1 % 128; omega)
  have h := REF_at x k v a3 a4 a5 b t ⟨l.1 / 640, by omega⟩ ⟨l.1 % 640 / 128, by omega⟩ ⟨l.1 % 128, by omega⟩
  refine Eq.trans (congrArg (fun l => REF x k v a3 a4 a5 (ix3 b t l)) e) (h.trans ?_)
  rfl

/-- The reference's run, its result named. -/
theorem run : θ_run defs (onTc (τ := τ) (main (F := Ideal))) ⟨m, fun _ => 0, ρ⟩ (fun r => ∀ c : Dev nD,
      r.2.mem ((c.tc : Thread nD τ).loc main_v43)
        = resultArr (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))) := by
  refine (θ_run defs _ _).mono (fun r h c => ?_) (run_main m ρ)
  refine ((h c).2 main_v43 (Pipeline.mem_restRefs_of main_v43 (by decide) (by decide))).trans ?_
  unfold Pipeline.afterTail₀
  rw [tail]
  have e3 := (Pipeline.withArrays_arr spec0 arr_inj c (V0 m c) (fun w => (dats m 0 c).arrAt w cfg0.N) 3)
  have e4 := (Pipeline.withArrays_arr spec0 arr_inj c (V0 m c) (fun w => (dats m 0 c).arrAt w cfg0.N) 4)
  have e5 := (Pipeline.withArrays_arr spec0 arr_inj c (V0 m c) (fun w => (dats m 0 c).arrAt w cfg0.N) 5)
  have f3 := Pipeline.withArrays_of_ne spec0 c (V0 m c) (fun w => (dats m 0 c).arrAt w cfg0.N) main_arg3 (by exact (by decide : ∀ w, Pipeline.arrRef spec0 w ≠ main_arg3))
  have f4 := Pipeline.withArrays_of_ne spec0 c (V0 m c) (fun w => (dats m 0 c).arrAt w cfg0.N) main_arg4 (by exact (by decide : ∀ w, Pipeline.arrRef spec0 w ≠ main_arg4))
  have f5 := Pipeline.withArrays_of_ne spec0 c (V0 m c) (fun w => (dats m 0 c).arrAt w cfg0.N) main_arg5 (by exact (by decide : ∀ w, Pipeline.arrRef spec0 w ≠ main_arg5))
  refine Eq.trans ?_ (resultArr_at _ _ _ _ _ _ _ _ _ (e3.trans (arr3 m c)) (e4.trans (arr4 m c)) (e5.trans (arr5 m c)))
  exact congr (congr (congrArg _ f3) f4) f5

end Cert.Proof.Ref

end
-- ==== Proof.lean ====
module

public import proofs.«01_k».proof.Defs
public import proofs.«01_k».proof.Proof.KernelRun
public import proofs.«01_k».proof.Proof.KernelIdealRun
public import proofs.«01_k».proof.Proof.KernelIdealValue
public import proofs.«01_k».proof.Proof.RefValue
public import proofs.«01_k».proof.Proof.Gen.ReferenceIdeal.Frame
public import proofs.«01_k».proof.Proof.Gen.Kernel
public import proofs.«01_k».proof.Proof.Gen.KernelIdeal
public import proofs.«01_k».proof.Proof.Gen.ReferenceIdeal
public import Idealize.ShloMosaic.Adequacy
public import Idealize.ShloMosaic.Init

@[expose] public section

noncomputable section

namespace Cert.Proof

open Idealize.ShloMosaic Idealize.SL.Sem

theorem preserves : Cert.preserves_Kernel_KernelIdeal :=
  IdealRules.named_const.statement Cert.KernelIdeal.κ "score_fac" .f32 0x3E0293EE#32 (((Real.sqrt 128)⁻¹ * (Real.log 2)⁻¹ : ℝ) : EReal) rfl

/-- Over the extended reals both programs leave `resultArr` of the argument arrays. -/
theorem algebraic : Cert.algebraic_KernelIdeal_ReferenceIdeal := by
  intro m ρ m' ρ' _ hagree
  refine ⟨_, Cert.Proof.KernelIdeal.run m ρ, ?_⟩
  refine (θ_run Cert.ReferenceIdeal.defs _ _).mono (fun r h c => ⟨(h.1 c).trans ?_, h.2 c⟩)
    (θ_run_and (Cert.Proof.Ref.run m' ρ') (Cert.ReferenceIdeal.Gen.unchanged (F := Ideal) m' ρ'))
  obtain ⟨h0, h1, h2, h3, h4, h5⟩ := hagree c
  rw [h0, h1, h2, h3, h4, h5]

theorem claim : Cert.Claim := ⟨Cert.Kernel.Gen.facts, Cert.KernelIdeal.Gen.facts, Cert.ReferenceIdeal.Gen.facts,
  fun m ρ _ => Cert.Proof.Kernel.frame_run m ρ, fun m ρ _ => Cert.Proof.KernelIdeal.frame_run m ρ,
  fun m ρ _ => Cert.ReferenceIdeal.Gen.frame m ρ, preserves, algebraic⟩

end Cert.Proof

end
